-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_NormProj (m : (ℓ : Loc Cert.NormProj.nD Cert.NormProj.τ Cert.NormProj.sig) → Buf (Elt Bits) ℓ) : Prop :=
  True

def Pre_NormProjIdeal (m : (ℓ : Loc Cert.NormProjIdeal.nD Cert.NormProjIdeal.τ Cert.NormProjIdeal.sig) → Buf (Elt Ideal) ℓ) : Prop :=
  True

def Pre_NormProjRefIdeal (m : (ℓ : Loc Cert.NormProjRefIdeal.nD Cert.NormProjRefIdeal.τ Cert.NormProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_RopeSample (m : (ℓ : Loc Cert.RopeSample.nD Cert.RopeSample.τ Cert.RopeSample.sig) → Buf (Elt Bits) ℓ) : Prop :=
  True

def Pre_RopeSampleIdeal (m : (ℓ : Loc Cert.RopeSampleIdeal.nD Cert.RopeSampleIdeal.τ Cert.RopeSampleIdeal.sig) → Buf (Elt Ideal) ℓ) : Prop :=
  True

def Pre_RopeSampleRefIdeal (m : (ℓ : Loc Cert.RopeSampleRefIdeal.nD Cert.RopeSampleRefIdeal.τ Cert.RopeSampleRefIdeal.sig) → Buf (Elt Ideal) ℓ) : Prop :=
  True

def Pre_NormProjSample (m : (ℓ : Loc Cert.NormProjSample.nD Cert.NormProjSample.τ Cert.NormProjSample.sig) → Buf (Elt Bits) ℓ) : Prop :=
  True

def Pre_NormProjSampleIdeal (m : (ℓ : Loc Cert.NormProjSampleIdeal.nD Cert.NormProjSampleIdeal.τ Cert.NormProjSampleIdeal.sig) → Buf (Elt Ideal) ℓ) : Prop :=
  True

def Pre_NormProjSampleRefIdeal (m : (ℓ : Loc Cert.NormProjSampleRefIdeal.nD Cert.NormProjSampleRefIdeal.τ Cert.NormProjSampleRefIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleRefIdeal (m : (ℓ : Loc Cert.MergeSampleRefIdeal.nD Cert.MergeSampleRefIdeal.τ Cert.MergeSampleRefIdeal.sig) → Buf (Elt Ideal) ℓ) : Prop :=
  True

def Pre_FfnInner (m : (ℓ : Loc Cert.FfnInner.nD Cert.FfnInner.τ Cert.FfnInner.sig) → Buf (Elt Bits) ℓ) : Prop :=
  True

def Pre_FfnInnerIdeal (m : (ℓ : Loc Cert.FfnInnerIdeal.nD Cert.FfnInnerIdeal.τ Cert.FfnInnerIdeal.sig) → Buf (Elt Ideal) ℓ) : Prop :=
  True

def Pre_FfnInnerRefIdeal (m : (ℓ : Loc Cert.FfnInnerRefIdeal.nD Cert.FfnInnerRefIdeal.τ Cert.FfnInnerRefIdeal.sig) → Buf (Elt Ideal) ℓ) : Prop :=
  True

def Pre_FfnInnerSample (m : (ℓ : Loc Cert.FfnInnerSample.nD Cert.FfnInnerSample.τ Cert.FfnInnerSample.sig) → Buf (Elt Bits) ℓ) : Prop :=
  True

def Pre_FfnInnerSampleIdeal (m : (ℓ : Loc Cert.FfnInnerSampleIdeal.nD Cert.FfnInnerSampleIdeal.τ Cert.FfnInnerSampleIdeal.sig) → Buf (Elt Ideal) ℓ) : Prop :=
  True

def Pre_FfnInnerSampleRefIdeal (m : (ℓ : Loc Cert.FfnInnerSampleRefIdeal.nD Cert.FfnInnerSampleRefIdeal.τ Cert.FfnInnerSampleRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_NormProj [hNormProj : Cert.NormProj.Facts] : Prop :=
  ∀ (m : (ℓ : Loc Cert.NormProj.nD Cert.NormProj.τ Cert.NormProj.sig) → Buf (Elt Bits) ℓ) (g : Dev Cert.NormProj.nD → PrngReg), Pre_NormProj m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2))
      ∧ r.2.sem = fun _ => 0)

def quiescent_NormProjIdeal [hNormProjIdeal : Cert.NormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ r.2.sem = fun _ => 0)

def quiescent_NormProjRefIdeal [hNormProjRefIdeal : Cert.NormProjRefIdeal.Facts] : Prop :=
  ∀ (m : (ℓ : Loc Cert.NormProjRefIdeal.nD Cert.NormProjRefIdeal.τ Cert.NormProjRefIdeal.sig) → Buf (Elt Ideal) ℓ) (g : Dev Cert.NormProjRefIdeal.nD → PrngReg), Pre_NormProjRefIdeal m →
    θ_run (Cert.NormProjRefIdeal.defs (F := Ideal)) (onTc (τ := Cert.NormProjRefIdeal.τ) (Cert.NormProjRefIdeal.main (F := Ideal))) ⟨m, fun _ => 0, g⟩ (fun r => (∀ c : Dev Cert.NormProjRefIdeal.nD,
      r.2.mem ((c.tc : Thread Cert.NormProjRefIdeal.nD Cert.NormProjRefIdeal.τ).loc Cert.NormProjRefIdeal.main_arg0) = m ((c.tc : Thread Cert.NormProjRefIdeal.nD Cert.NormProjRefIdeal.τ).loc Cert.NormProjRefIdeal.main_arg0)
      ∧ r.2.mem ((c.tc : Thread Cert.NormProjRefIdeal.nD Cert.NormProjRefIdeal.τ).loc Cert.NormProjRefIdeal.main_arg1) = m ((c.tc : Thread Cert.NormProjRefIdeal.nD Cert.NormProjRefIdeal.τ).loc Cert.NormProjRefIdeal.main_arg1)
      ∧ r.2.mem ((c.tc : Thread Cert.NormProjRefIdeal.nD Cert.NormProjRefIdeal.τ).loc Cert.NormProjRefIdeal.main_arg2) = m ((c.tc : Thread Cert.NormProjRefIdeal.nD Cert.NormProjRefIdeal.τ).loc Cert.NormProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5))
      ∧ r.2.sem = fun _ => 0)

def quiescent_RopeSample [hRopeSample : Cert.RopeSample.Facts] : Prop :=
  ∀ (m : (ℓ : Loc Cert.RopeSample.nD Cert.RopeSample.τ Cert.RopeSample.sig) → Buf (Elt Bits) ℓ) (g : Dev Cert.RopeSample.nD → PrngReg), Pre_RopeSample m →
    θ_run (Cert.RopeSample.defs (F := Bits)) (onTc (τ := Cert.RopeSample.τ) (Cert.RopeSample.main (F := Bits))) ⟨m, fun _ => 0, g⟩ (fun r => (∀ c : Dev Cert.RopeSample.nD,
      r.2.mem ((c.tc : Thread Cert.RopeSample.nD Cert.RopeSample.τ).loc Cert.RopeSample.main_arg0) = m ((c.tc : Thread Cert.RopeSample.nD Cert.RopeSample.τ).loc Cert.RopeSample.main_arg0))
      ∧ r.2.sem = fun _ => 0)

def quiescent_RopeSampleIdeal [hRopeSampleIdeal : Cert.RopeSampleIdeal.Facts] : Prop :=
  ∀ (m : (ℓ : Loc Cert.RopeSampleIdeal.nD Cert.RopeSampleIdeal.τ Cert.RopeSampleIdeal.sig) → Buf (Elt Ideal) ℓ) (g : Dev Cert.RopeSampleIdeal.nD → PrngReg), Pre_RopeSampleIdeal m →
    θ_run (Cert.RopeSampleIdeal.defs (F := Ideal)) (onTc (τ := Cert.RopeSampleIdeal.τ) (Cert.RopeSampleIdeal.main (F := Ideal))) ⟨m, fun _ => 0, g⟩ (fun r => (∀ c : Dev Cert.RopeSampleIdeal.nD,
      r.2.mem ((c.tc : Thread Cert.RopeSampleIdeal.nD Cert.RopeSampleIdeal.τ).loc Cert.RopeSampleIdeal.main_arg0) = m ((c.tc : Thread Cert.RopeSampleIdeal.nD Cert.RopeSampleIdeal.τ).loc Cert.RopeSampleIdeal.main_arg0))
      ∧ r.2.sem = fun _ => 0)

def quiescent_RopeSampleRefIdeal [hRopeSampleRefIdeal : Cert.RopeSampleRefIdeal.Facts] : Prop :=
  ∀ (m : (ℓ : Loc Cert.RopeSampleRefIdeal.nD Cert.RopeSampleRefIdeal.τ Cert.RopeSampleRefIdeal.sig) → Buf (Elt Ideal) ℓ) (g : Dev Cert.RopeSampleRefIdeal.nD → PrngReg), Pre_RopeSampleRefIdeal m →
    θ_run (Cert.RopeSampleRefIdeal.defs (F := Ideal)) (onTc (τ := Cert.RopeSampleRefIdeal.τ) (Cert.RopeSampleRefIdeal.main (F := Ideal))) ⟨m, fun _ => 0, g⟩ (fun r => (∀ c : Dev Cert.RopeSampleRefIdeal.nD,
      r.2.mem ((c.tc : Thread Cert.RopeSampleRefIdeal.nD Cert.RopeSampleRefIdeal.τ).loc Cert.RopeSampleRefIdeal.main_arg0) = m ((c.tc : Thread Cert.RopeSampleRefIdeal.nD Cert.RopeSampleRefIdeal.τ).loc Cert.RopeSampleRefIdeal.main_arg0))
      ∧ r.2.sem = fun _ => 0)

def quiescent_NormProjSample [hNormProjSample : Cert.NormProjSample.Facts] : Prop :=
  ∀ (m : (ℓ : Loc Cert.NormProjSample.nD Cert.NormProjSample.τ Cert.NormProjSample.sig) → Buf (Elt Bits) ℓ) (g : Dev Cert.NormProjSample.nD → PrngReg), Pre_NormProjSample m →
    θ_run (Cert.NormProjSample.defs (F := Bits)) (onTc (τ := Cert.NormProjSample.τ) (Cert.NormProjSample.main (F := Bits))) ⟨m, fun _ => 0, g⟩ (fun r => (∀ c : Dev Cert.NormProjSample.nD,
      r.2.mem ((c.tc : Thread Cert.NormProjSample.nD Cert.NormProjSample.τ).loc Cert.NormProjSample.main_arg0) = m ((c.tc : Thread Cert.NormProjSample.nD Cert.NormProjSample.τ).loc Cert.NormProjSample.main_arg0)
      ∧ r.2.mem ((c.tc : Thread Cert.NormProjSample.nD Cert.NormProjSample.τ).loc Cert.NormProjSample.main_arg1) = m ((c.tc : Thread Cert.NormProjSample.nD Cert.NormProjSample.τ).loc Cert.NormProjSample.main_arg1)
      ∧ r.2.mem ((c.tc : Thread Cert.NormProjSample.nD Cert.NormProjSample.τ).loc Cert.NormProjSample.main_arg2) = m ((c.tc : Thread Cert.NormProjSample.nD Cert.NormProjSample.τ).loc Cert.NormProjSample.main_arg2))
      ∧ r.2.sem = fun _ => 0)

def quiescent_NormProjSampleIdeal [hNormProjSampleIdeal : Cert.NormProjSampleIdeal.Facts] : Prop :=
  ∀ (m : (ℓ : Loc Cert.NormProjSampleIdeal.nD Cert.NormProjSampleIdeal.τ Cert.NormProjSampleIdeal.sig) → Buf (Elt Ideal) ℓ) (g : Dev Cert.NormProjSampleIdeal.nD → PrngReg), Pre_NormProjSampleIdeal m →
    θ_run (Cert.NormProjSampleIdeal.defs (F := Ideal)) (onTc (τ := Cert.NormProjSampleIdeal.τ) (Cert.NormProjSampleIdeal.main (F := Ideal))) ⟨m, fun _ => 0, g⟩ (fun r => (∀ c : Dev Cert.NormProjSampleIdeal.nD,
      r.2.mem ((c.tc : Thread Cert.NormProjSampleIdeal.nD Cert.NormProjSampleIdeal.τ).loc Cert.NormProjSampleIdeal.main_arg0) = m ((c.tc : Thread Cert.NormProjSampleIdeal.nD Cert.NormProjSampleIdeal.τ).loc Cert.NormProjSampleIdeal.main_arg0)
      ∧ r.2.mem ((c.tc : Thread Cert.NormProjSampleIdeal.nD Cert.NormProjSampleIdeal.τ).loc Cert.NormProjSampleIdeal.main_arg1) = m ((c.tc : Thread Cert.NormProjSampleIdeal.nD Cert.NormProjSampleIdeal.τ).loc Cert.NormProjSampleIdeal.main_arg1)
      ∧ r.2.mem ((c.tc : Thread Cert.NormProjSampleIdeal.nD Cert.NormProjSampleIdeal.τ).loc Cert.NormProjSampleIdeal.main_arg2) = m ((c.tc : Thread Cert.NormProjSampleIdeal.nD Cert.NormProjSampleIdeal.τ).loc Cert.NormProjSampleIdeal.main_arg2))
      ∧ r.2.sem = fun _ => 0)

def quiescent_NormProjSampleRefIdeal [hNormProjSampleRefIdeal : Cert.NormProjSampleRefIdeal.Facts] : Prop :=
  ∀ (m : (ℓ : Loc Cert.NormProjSampleRefIdeal.nD Cert.NormProjSampleRefIdeal.τ Cert.NormProjSampleRefIdeal.sig) → Buf (Elt Ideal) ℓ) (g : Dev Cert.NormProjSampleRefIdeal.nD → PrngReg), Pre_NormProjSampleRefIdeal m →
    θ_run (Cert.NormProjSampleRefIdeal.defs (F := Ideal)) (onTc (τ := Cert.NormProjSampleRefIdeal.τ) (Cert.NormProjSampleRefIdeal.main (F := Ideal))) ⟨m, fun _ => 0, g⟩ (fun r => (∀ c : Dev Cert.NormProjSampleRefIdeal.nD,
      r.2.mem ((c.tc : Thread Cert.NormProjSampleRefIdeal.nD Cert.NormProjSampleRefIdeal.τ).loc Cert.NormProjSampleRefIdeal.main_arg0) = m ((c.tc : Thread Cert.NormProjSampleRefIdeal.nD Cert.NormProjSampleRefIdeal.τ).loc Cert.NormProjSampleRefIdeal.main_arg0)
      ∧ r.2.mem ((c.tc : Thread Cert.NormProjSampleRefIdeal.nD Cert.NormProjSampleRefIdeal.τ).loc Cert.NormProjSampleRefIdeal.main_arg1) = m ((c.tc : Thread Cert.NormProjSampleRefIdeal.nD Cert.NormProjSampleRefIdeal.τ).loc Cert.NormProjSampleRefIdeal.main_arg1)
      ∧ r.2.mem ((c.tc : Thread Cert.NormProjSampleRefIdeal.nD Cert.NormProjSampleRefIdeal.τ).loc Cert.NormProjSampleRefIdeal.main_arg2) = m ((c.tc : Thread Cert.NormProjSampleRefIdeal.nD Cert.NormProjSampleRefIdeal.τ).loc Cert.NormProjSampleRefIdeal.main_arg2))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6))
      ∧ r.2.sem = fun _ => 0)

def quiescent_MergeSampleRefIdeal [hMergeSampleRefIdeal : Cert.MergeSampleRefIdeal.Facts] : Prop :=
  ∀ (m : (ℓ : Loc Cert.MergeSampleRefIdeal.nD Cert.MergeSampleRefIdeal.τ Cert.MergeSampleRefIdeal.sig) → Buf (Elt Ideal) ℓ) (g : Dev Cert.MergeSampleRefIdeal.nD → PrngReg), Pre_MergeSampleRefIdeal m →
    θ_run (Cert.MergeSampleRefIdeal.defs (F := Ideal)) (onTc (τ := Cert.MergeSampleRefIdeal.τ) (Cert.MergeSampleRefIdeal.main (F := Ideal))) ⟨m, fun _ => 0, g⟩ (fun r => (∀ c : Dev Cert.MergeSampleRefIdeal.nD,
      r.2.mem ((c.tc : Thread Cert.MergeSampleRefIdeal.nD Cert.MergeSampleRefIdeal.τ).loc Cert.MergeSampleRefIdeal.main_arg0) = m ((c.tc : Thread Cert.MergeSampleRefIdeal.nD Cert.MergeSampleRefIdeal.τ).loc Cert.MergeSampleRefIdeal.main_arg0)
      ∧ r.2.mem ((c.tc : Thread Cert.MergeSampleRefIdeal.nD Cert.MergeSampleRefIdeal.τ).loc Cert.MergeSampleRefIdeal.main_arg1) = m ((c.tc : Thread Cert.MergeSampleRefIdeal.nD Cert.MergeSampleRefIdeal.τ).loc Cert.MergeSampleRefIdeal.main_arg1)
      ∧ r.2.mem ((c.tc : Thread Cert.MergeSampleRefIdeal.nD Cert.MergeSampleRefIdeal.τ).loc Cert.MergeSampleRefIdeal.main_arg2) = m ((c.tc : Thread Cert.MergeSampleRefIdeal.nD Cert.MergeSampleRefIdeal.τ).loc Cert.MergeSampleRefIdeal.main_arg2)
      ∧ r.2.mem ((c.tc : Thread Cert.MergeSampleRefIdeal.nD Cert.MergeSampleRefIdeal.τ).loc Cert.MergeSampleRefIdeal.main_arg3) = m ((c.tc : Thread Cert.MergeSampleRefIdeal.nD Cert.MergeSampleRefIdeal.τ).loc Cert.MergeSampleRefIdeal.main_arg3)
      ∧ r.2.mem ((c.tc : Thread Cert.MergeSampleRefIdeal.nD Cert.MergeSampleRefIdeal.τ).loc Cert.MergeSampleRefIdeal.main_arg4) = m ((c.tc : Thread Cert.MergeSampleRefIdeal.nD Cert.MergeSampleRefIdeal.τ).loc Cert.MergeSampleRefIdeal.main_arg4)
      ∧ r.2.mem ((c.tc : Thread Cert.MergeSampleRefIdeal.nD Cert.MergeSampleRefIdeal.τ).loc Cert.MergeSampleRefIdeal.main_arg5) = m ((c.tc : Thread Cert.MergeSampleRefIdeal.nD Cert.MergeSampleRefIdeal.τ).loc Cert.MergeSampleRefIdeal.main_arg5)
      ∧ r.2.mem ((c.tc : Thread Cert.MergeSampleRefIdeal.nD Cert.MergeSampleRefIdeal.τ).loc Cert.MergeSampleRefIdeal.main_arg6) = m ((c.tc : Thread Cert.MergeSampleRefIdeal.nD Cert.MergeSampleRefIdeal.τ).loc Cert.MergeSampleRefIdeal.main_arg6))
      ∧ r.2.sem = fun _ => 0)

def quiescent_FfnInner [hFfnInner : Cert.FfnInner.Facts] : Prop :=
  ∀ (m : (ℓ : Loc Cert.FfnInner.nD Cert.FfnInner.τ Cert.FfnInner.sig) → Buf (Elt Bits) ℓ) (g : Dev Cert.FfnInner.nD → PrngReg), Pre_FfnInner m →
    θ_run (Cert.FfnInner.defs (F := Bits)) (onTc (τ := Cert.FfnInner.τ) (Cert.FfnInner.main (F := Bits))) ⟨m, fun _ => 0, g⟩ (fun r => (∀ c : Dev Cert.FfnInner.nD,
      r.2.mem ((c.tc : Thread Cert.FfnInner.nD Cert.FfnInner.τ).loc Cert.FfnInner.main_arg0) = m ((c.tc : Thread Cert.FfnInner.nD Cert.FfnInner.τ).loc Cert.FfnInner.main_arg0)
      ∧ r.2.mem ((c.tc : Thread Cert.FfnInner.nD Cert.FfnInner.τ).loc Cert.FfnInner.main_arg1) = m ((c.tc : Thread Cert.FfnInner.nD Cert.FfnInner.τ).loc Cert.FfnInner.main_arg1)
      ∧ r.2.mem ((c.tc : Thread Cert.FfnInner.nD Cert.FfnInner.τ).loc Cert.FfnInner.main_arg2) = m ((c.tc : Thread Cert.FfnInner.nD Cert.FfnInner.τ).loc Cert.FfnInner.main_arg2)
      ∧ r.2.mem ((c.tc : Thread Cert.FfnInner.nD Cert.FfnInner.τ).loc Cert.FfnInner.main_arg3) = m ((c.tc : Thread Cert.FfnInner.nD Cert.FfnInner.τ).loc Cert.FfnInner.main_arg3)
      ∧ r.2.mem ((c.tc : Thread Cert.FfnInner.nD Cert.FfnInner.τ).loc Cert.FfnInner.main_arg4) = m ((c.tc : Thread Cert.FfnInner.nD Cert.FfnInner.τ).loc Cert.FfnInner.main_arg4)
      ∧ r.2.mem ((c.tc : Thread Cert.FfnInner.nD Cert.FfnInner.τ).loc Cert.FfnInner.main_arg5) = m ((c.tc : Thread Cert.FfnInner.nD Cert.FfnInner.τ).loc Cert.FfnInner.main_arg5))
      ∧ r.2.sem = fun _ => 0)

def quiescent_FfnInnerIdeal [hFfnInnerIdeal : Cert.FfnInnerIdeal.Facts] : Prop :=
  ∀ (m : (ℓ : Loc Cert.FfnInnerIdeal.nD Cert.FfnInnerIdeal.τ Cert.FfnInnerIdeal.sig) → Buf (Elt Ideal) ℓ) (g : Dev Cert.FfnInnerIdeal.nD → PrngReg), Pre_FfnInnerIdeal m →
    θ_run (Cert.FfnInnerIdeal.defs (F := Ideal)) (onTc (τ := Cert.FfnInnerIdeal.τ) (Cert.FfnInnerIdeal.main (F := Ideal))) ⟨m, fun _ => 0, g⟩ (fun r => (∀ c : Dev Cert.FfnInnerIdeal.nD,
      r.2.mem ((c.tc : Thread Cert.FfnInnerIdeal.nD Cert.FfnInnerIdeal.τ).loc Cert.FfnInnerIdeal.main_arg0) = m ((c.tc : Thread Cert.FfnInnerIdeal.nD Cert.FfnInnerIdeal.τ).loc Cert.FfnInnerIdeal.main_arg0)
      ∧ r.2.mem ((c.tc : Thread Cert.FfnInnerIdeal.nD Cert.FfnInnerIdeal.τ).loc Cert.FfnInnerIdeal.main_arg1) = m ((c.tc : Thread Cert.FfnInnerIdeal.nD Cert.FfnInnerIdeal.τ).loc Cert.FfnInnerIdeal.main_arg1)
      ∧ r.2.mem ((c.tc : Thread Cert.FfnInnerIdeal.nD Cert.FfnInnerIdeal.τ).loc Cert.FfnInnerIdeal.main_arg2) = m ((c.tc : Thread Cert.FfnInnerIdeal.nD Cert.FfnInnerIdeal.τ).loc Cert.FfnInnerIdeal.main_arg2)
      ∧ r.2.mem ((c.tc : Thread Cert.FfnInnerIdeal.nD Cert.FfnInnerIdeal.τ).loc Cert.FfnInnerIdeal.main_arg3) = m ((c.tc : Thread Cert.FfnInnerIdeal.nD Cert.FfnInnerIdeal.τ).loc Cert.FfnInnerIdeal.main_arg3)
      ∧ r.2.mem ((c.tc : Thread Cert.FfnInnerIdeal.nD Cert.FfnInnerIdeal.τ).loc Cert.FfnInnerIdeal.main_arg4) = m ((c.tc : Thread Cert.FfnInnerIdeal.nD Cert.FfnInnerIdeal.τ).loc Cert.FfnInnerIdeal.main_arg4)
      ∧ r.2.mem ((c.tc : Thread Cert.FfnInnerIdeal.nD Cert.FfnInnerIdeal.τ).loc Cert.FfnInnerIdeal.main_arg5) = m ((c.tc : Thread Cert.FfnInnerIdeal.nD Cert.FfnInnerIdeal.τ).loc Cert.FfnInnerIdeal.main_arg5))
      ∧ r.2.sem = fun _ => 0)

def quiescent_FfnInnerRefIdeal [hFfnInnerRefIdeal : Cert.FfnInnerRefIdeal.Facts] : Prop :=
  ∀ (m : (ℓ : Loc Cert.FfnInnerRefIdeal.nD Cert.FfnInnerRefIdeal.τ Cert.FfnInnerRefIdeal.sig) → Buf (Elt Ideal) ℓ) (g : Dev Cert.FfnInnerRefIdeal.nD → PrngReg), Pre_FfnInnerRefIdeal m →
    θ_run (Cert.FfnInnerRefIdeal.defs (F := Ideal)) (onTc (τ := Cert.FfnInnerRefIdeal.τ) (Cert.FfnInnerRefIdeal.main (F := Ideal))) ⟨m, fun _ => 0, g⟩ (fun r => (∀ c : Dev Cert.FfnInnerRefIdeal.nD,
      r.2.mem ((c.tc : Thread Cert.FfnInnerRefIdeal.nD Cert.FfnInnerRefIdeal.τ).loc Cert.FfnInnerRefIdeal.main_arg0) = m ((c.tc : Thread Cert.FfnInnerRefIdeal.nD Cert.FfnInnerRefIdeal.τ).loc Cert.FfnInnerRefIdeal.main_arg0)
      ∧ r.2.mem ((c.tc : Thread Cert.FfnInnerRefIdeal.nD Cert.FfnInnerRefIdeal.τ).loc Cert.FfnInnerRefIdeal.main_arg1) = m ((c.tc : Thread Cert.FfnInnerRefIdeal.nD Cert.FfnInnerRefIdeal.τ).loc Cert.FfnInnerRefIdeal.main_arg1)
      ∧ r.2.mem ((c.tc : Thread Cert.FfnInnerRefIdeal.nD Cert.FfnInnerRefIdeal.τ).loc Cert.FfnInnerRefIdeal.main_arg2) = m ((c.tc : Thread Cert.FfnInnerRefIdeal.nD Cert.FfnInnerRefIdeal.τ).loc Cert.FfnInnerRefIdeal.main_arg2)
      ∧ r.2.mem ((c.tc : Thread Cert.FfnInnerRefIdeal.nD Cert.FfnInnerRefIdeal.τ).loc Cert.FfnInnerRefIdeal.main_arg3) = m ((c.tc : Thread Cert.FfnInnerRefIdeal.nD Cert.FfnInnerRefIdeal.τ).loc Cert.FfnInnerRefIdeal.main_arg3)
      ∧ r.2.mem ((c.tc : Thread Cert.FfnInnerRefIdeal.nD Cert.FfnInnerRefIdeal.τ).loc Cert.FfnInnerRefIdeal.main_arg4) = m ((c.tc : Thread Cert.FfnInnerRefIdeal.nD Cert.FfnInnerRefIdeal.τ).loc Cert.FfnInnerRefIdeal.main_arg4)
      ∧ r.2.mem ((c.tc : Thread Cert.FfnInnerRefIdeal.nD Cert.FfnInnerRefIdeal.τ).loc Cert.FfnInnerRefIdeal.main_arg5) = m ((c.tc : Thread Cert.FfnInnerRefIdeal.nD Cert.FfnInnerRefIdeal.τ).loc Cert.FfnInnerRefIdeal.main_arg5))
      ∧ r.2.sem = fun _ => 0)

def quiescent_FfnInnerSample [hFfnInnerSample : Cert.FfnInnerSample.Facts] : Prop :=
  ∀ (m : (ℓ : Loc Cert.FfnInnerSample.nD Cert.FfnInnerSample.τ Cert.FfnInnerSample.sig) → Buf (Elt Bits) ℓ) (g : Dev Cert.FfnInnerSample.nD → PrngReg), Pre_FfnInnerSample m →
    θ_run (Cert.FfnInnerSample.defs (F := Bits)) (onTc (τ := Cert.FfnInnerSample.τ) (Cert.FfnInnerSample.main (F := Bits))) ⟨m, fun _ => 0, g⟩ (fun r => (∀ c : Dev Cert.FfnInnerSample.nD,
      r.2.mem ((c.tc : Thread Cert.FfnInnerSample.nD Cert.FfnInnerSample.τ).loc Cert.FfnInnerSample.main_arg0) = m ((c.tc : Thread Cert.FfnInnerSample.nD Cert.FfnInnerSample.τ).loc Cert.FfnInnerSample.main_arg0)
      ∧ r.2.mem ((c.tc : Thread Cert.FfnInnerSample.nD Cert.FfnInnerSample.τ).loc Cert.FfnInnerSample.main_arg1) = m ((c.tc : Thread Cert.FfnInnerSample.nD Cert.FfnInnerSample.τ).loc Cert.FfnInnerSample.main_arg1)
      ∧ r.2.mem ((c.tc : Thread Cert.FfnInnerSample.nD Cert.FfnInnerSample.τ).loc Cert.FfnInnerSample.main_arg2) = m ((c.tc : Thread Cert.FfnInnerSample.nD Cert.FfnInnerSample.τ).loc Cert.FfnInnerSample.main_arg2)
      ∧ r.2.mem ((c.tc : Thread Cert.FfnInnerSample.nD Cert.FfnInnerSample.τ).loc Cert.FfnInnerSample.main_arg3) = m ((c.tc : Thread Cert.FfnInnerSample.nD Cert.FfnInnerSample.τ).loc Cert.FfnInnerSample.main_arg3)
      ∧ r.2.mem ((c.tc : Thread Cert.FfnInnerSample.nD Cert.FfnInnerSample.τ).loc Cert.FfnInnerSample.main_arg4) = m ((c.tc : Thread Cert.FfnInnerSample.nD Cert.FfnInnerSample.τ).loc Cert.FfnInnerSample.main_arg4)
      ∧ r.2.mem ((c.tc : Thread Cert.FfnInnerSample.nD Cert.FfnInnerSample.τ).loc Cert.FfnInnerSample.main_arg5) = m ((c.tc : Thread Cert.FfnInnerSample.nD Cert.FfnInnerSample.τ).loc Cert.FfnInnerSample.main_arg5))
      ∧ r.2.sem = fun _ => 0)

def quiescent_FfnInnerSampleIdeal [hFfnInnerSampleIdeal : Cert.FfnInnerSampleIdeal.Facts] : Prop :=
  ∀ (m : (ℓ : Loc Cert.FfnInnerSampleIdeal.nD Cert.FfnInnerSampleIdeal.τ Cert.FfnInnerSampleIdeal.sig) → Buf (Elt Ideal) ℓ) (g : Dev Cert.FfnInnerSampleIdeal.nD → PrngReg), Pre_FfnInnerSampleIdeal m →
    θ_run (Cert.FfnInnerSampleIdeal.defs (F := Ideal)) (onTc (τ := Cert.FfnInnerSampleIdeal.τ) (Cert.FfnInnerSampleIdeal.main (F := Ideal))) ⟨m, fun _ => 0, g⟩ (fun r => (∀ c : Dev Cert.FfnInnerSampleIdeal.nD,
      r.2.mem ((c.tc : Thread Cert.FfnInnerSampleIdeal.nD Cert.FfnInnerSampleIdeal.τ).loc Cert.FfnInnerSampleIdeal.main_arg0) = m ((c.tc : Thread Cert.FfnInnerSampleIdeal.nD Cert.FfnInnerSampleIdeal.τ).loc Cert.FfnInnerSampleIdeal.main_arg0)
      ∧ r.2.mem ((c.tc : Thread Cert.FfnInnerSampleIdeal.nD Cert.FfnInnerSampleIdeal.τ).loc Cert.FfnInnerSampleIdeal.main_arg1) = m ((c.tc : Thread Cert.FfnInnerSampleIdeal.nD Cert.FfnInnerSampleIdeal.τ).loc Cert.FfnInnerSampleIdeal.main_arg1)
      ∧ r.2.mem ((c.tc : Thread Cert.FfnInnerSampleIdeal.nD Cert.FfnInnerSampleIdeal.τ).loc Cert.FfnInnerSampleIdeal.main_arg2) = m ((c.tc : Thread Cert.FfnInnerSampleIdeal.nD Cert.FfnInnerSampleIdeal.τ).loc Cert.FfnInnerSampleIdeal.main_arg2)
      ∧ r.2.mem ((c.tc : Thread Cert.FfnInnerSampleIdeal.nD Cert.FfnInnerSampleIdeal.τ).loc Cert.FfnInnerSampleIdeal.main_arg3) = m ((c.tc : Thread Cert.FfnInnerSampleIdeal.nD Cert.FfnInnerSampleIdeal.τ).loc Cert.FfnInnerSampleIdeal.main_arg3)
      ∧ r.2.mem ((c.tc : Thread Cert.FfnInnerSampleIdeal.nD Cert.FfnInnerSampleIdeal.τ).loc Cert.FfnInnerSampleIdeal.main_arg4) = m ((c.tc : Thread Cert.FfnInnerSampleIdeal.nD Cert.FfnInnerSampleIdeal.τ).loc Cert.FfnInnerSampleIdeal.main_arg4)
      ∧ r.2.mem ((c.tc : Thread Cert.FfnInnerSampleIdeal.nD Cert.FfnInnerSampleIdeal.τ).loc Cert.FfnInnerSampleIdeal.main_arg5) = m ((c.tc : Thread Cert.FfnInnerSampleIdeal.nD Cert.FfnInnerSampleIdeal.τ).loc Cert.FfnInnerSampleIdeal.main_arg5))
      ∧ r.2.sem = fun _ => 0)

def quiescent_FfnInnerSampleRefIdeal [hFfnInnerSampleRefIdeal : Cert.FfnInnerSampleRefIdeal.Facts] : Prop :=
  ∀ (m : (ℓ : Loc Cert.FfnInnerSampleRefIdeal.nD Cert.FfnInnerSampleRefIdeal.τ Cert.FfnInnerSampleRefIdeal.sig) → Buf (Elt Ideal) ℓ) (g : Dev Cert.FfnInnerSampleRefIdeal.nD → PrngReg), Pre_FfnInnerSampleRefIdeal m →
    θ_run (Cert.FfnInnerSampleRefIdeal.defs (F := Ideal)) (onTc (τ := Cert.FfnInnerSampleRefIdeal.τ) (Cert.FfnInnerSampleRefIdeal.main (F := Ideal))) ⟨m, fun _ => 0, g⟩ (fun r => (∀ c : Dev Cert.FfnInnerSampleRefIdeal.nD,
      r.2.mem ((c.tc : Thread Cert.FfnInnerSampleRefIdeal.nD Cert.FfnInnerSampleRefIdeal.τ).loc Cert.FfnInnerSampleRefIdeal.main_arg0) = m ((c.tc : Thread Cert.FfnInnerSampleRefIdeal.nD Cert.FfnInnerSampleRefIdeal.τ).loc Cert.FfnInnerSampleRefIdeal.main_arg0)
      ∧ r.2.mem ((c.tc : Thread Cert.FfnInnerSampleRefIdeal.nD Cert.FfnInnerSampleRefIdeal.τ).loc Cert.FfnInnerSampleRefIdeal.main_arg1) = m ((c.tc : Thread Cert.FfnInnerSampleRefIdeal.nD Cert.FfnInnerSampleRefIdeal.τ).loc Cert.FfnInnerSampleRefIdeal.main_arg1)
      ∧ r.2.mem ((c.tc : Thread Cert.FfnInnerSampleRefIdeal.nD Cert.FfnInnerSampleRefIdeal.τ).loc Cert.FfnInnerSampleRefIdeal.main_arg2) = m ((c.tc : Thread Cert.FfnInnerSampleRefIdeal.nD Cert.FfnInnerSampleRefIdeal.τ).loc Cert.FfnInnerSampleRefIdeal.main_arg2)
      ∧ r.2.mem ((c.tc : Thread Cert.FfnInnerSampleRefIdeal.nD Cert.FfnInnerSampleRefIdeal.τ).loc Cert.FfnInnerSampleRefIdeal.main_arg3) = m ((c.tc : Thread Cert.FfnInnerSampleRefIdeal.nD Cert.FfnInnerSampleRefIdeal.τ).loc Cert.FfnInnerSampleRefIdeal.main_arg3)
      ∧ r.2.mem ((c.tc : Thread Cert.FfnInnerSampleRefIdeal.nD Cert.FfnInnerSampleRefIdeal.τ).loc Cert.FfnInnerSampleRefIdeal.main_arg4) = m ((c.tc : Thread Cert.FfnInnerSampleRefIdeal.nD Cert.FfnInnerSampleRefIdeal.τ).loc Cert.FfnInnerSampleRefIdeal.main_arg4)
      ∧ r.2.mem ((c.tc : Thread Cert.FfnInnerSampleRefIdeal.nD Cert.FfnInnerSampleRefIdeal.τ).loc Cert.FfnInnerSampleRefIdeal.main_arg5) = m ((c.tc : Thread Cert.FfnInnerSampleRefIdeal.nD Cert.FfnInnerSampleRefIdeal.τ).loc Cert.FfnInnerSampleRefIdeal.main_arg5))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_NormProj_NormProjIdeal : Prop :=
  True

def algebraic_NormProjIdeal_NormProjRefIdeal [hNormProjIdeal : Cert.NormProjIdeal.Facts] [hNormProjRefIdeal : Cert.NormProjRefIdeal.Facts] : Prop :=
  ∀ (m : (ℓ : Loc Cert.NormProjIdeal.nD Cert.NormProjIdeal.τ Cert.NormProjIdeal.sig) → Buf (Elt Ideal) ℓ) (g : Dev Cert.NormProjIdeal.nD → PrngReg)
    (m' : (ℓ : Loc Cert.NormProjRefIdeal.nD Cert.NormProjRefIdeal.τ Cert.NormProjRefIdeal.sig) → Buf (Elt Ideal) ℓ) (g' : Dev Cert.NormProjRefIdeal.nD → PrngReg), Pre_NormProjIdeal m →
    (∀ c : Dev Cert.NormProjIdeal.nD,
      m' ((c.tc : Thread Cert.NormProjRefIdeal.nD Cert.NormProjRefIdeal.τ).loc Cert.NormProjRefIdeal.main_arg0) = m ((c.tc : Thread Cert.NormProjIdeal.nD Cert.NormProjIdeal.τ).loc Cert.NormProjIdeal.main_arg0)
      ∧ m' ((c.tc : Thread Cert.NormProjRefIdeal.nD Cert.NormProjRefIdeal.τ).loc Cert.NormProjRefIdeal.main_arg1) = m ((c.tc : Thread Cert.NormProjIdeal.nD Cert.NormProjIdeal.τ).loc Cert.NormProjIdeal.main_arg1)
      ∧ m' ((c.tc : Thread Cert.NormProjRefIdeal.nD Cert.NormProjRefIdeal.τ).loc Cert.NormProjRefIdeal.main_arg2) = m ((c.tc : Thread Cert.NormProjIdeal.nD Cert.NormProjIdeal.τ).loc Cert.NormProjIdeal.main_arg2)) →
    ∃ (v0 : (c : Dev Cert.NormProjIdeal.nD) → Buf (Elt Ideal) ((c.tc : Thread Cert.NormProjIdeal.nD Cert.NormProjIdeal.τ).loc Cert.NormProjIdeal.main_v13)),
      θ_run (Cert.NormProjIdeal.defs (F := Ideal)) (onTc (τ := Cert.NormProjIdeal.τ) (Cert.NormProjIdeal.main (F := Ideal))) ⟨m, fun _ => 0, g⟩ (fun r => ∀ c : Dev Cert.NormProjIdeal.nD,
          r.2.mem ((c.tc : Thread Cert.NormProjIdeal.nD Cert.NormProjIdeal.τ).loc Cert.NormProjIdeal.main_v13) = v0 c
          ∧ r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
          ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
          ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ θ_run (Cert.NormProjRefIdeal.defs (F := Ideal)) (onTc (τ := Cert.NormProjRefIdeal.τ) (Cert.NormProjRefIdeal.main (F := Ideal))) ⟨m', fun _ => 0, g'⟩ (fun r => ∀ c : Dev Cert.NormProjRefIdeal.nD,
          r.2.mem ((c.tc : Thread Cert.NormProjRefIdeal.nD Cert.NormProjRefIdeal.τ).loc Cert.NormProjRefIdeal.main_v24) = v0 c
          ∧ r.2.mem ((c.tc : Thread Cert.NormProjRefIdeal.nD Cert.NormProjRefIdeal.τ).loc Cert.NormProjRefIdeal.main_arg0) = m' ((c.tc : Thread Cert.NormProjRefIdeal.nD Cert.NormProjRefIdeal.τ).loc Cert.NormProjRefIdeal.main_arg0)
          ∧ r.2.mem ((c.tc : Thread Cert.NormProjRefIdeal.nD Cert.NormProjRefIdeal.τ).loc Cert.NormProjRefIdeal.main_arg1) = m' ((c.tc : Thread Cert.NormProjRefIdeal.nD Cert.NormProjRefIdeal.τ).loc Cert.NormProjRefIdeal.main_arg1)
          ∧ r.2.mem ((c.tc : Thread Cert.NormProjRefIdeal.nD Cert.NormProjRefIdeal.τ).loc Cert.NormProjRefIdeal.main_arg2) = m' ((c.tc : Thread Cert.NormProjRefIdeal.nD Cert.NormProjRefIdeal.τ).loc Cert.NormProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v22) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v29_1)) (v1 : (c : Dev Cert.RopeIdeal.nD) → Buf (Elt Ideal) ((c.tc : Thread Cert.RopeIdeal.nD Cert.RopeIdeal.τ).loc Cert.RopeIdeal.main_v29_2)) (v2 : (c : Dev Cert.RopeIdeal.nD) → Buf (Elt Ideal) ((c.tc : Thread Cert.RopeIdeal.nD Cert.RopeIdeal.τ).loc Cert.RopeIdeal.main_v29_4)) (v3 : (c : Dev Cert.RopeIdeal.nD) → Buf (Elt Ideal) ((c.tc : Thread Cert.RopeIdeal.nD Cert.RopeIdeal.τ).loc Cert.RopeIdeal.main_v29_5)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v29_1) = v0 c
          ∧ r.2.mem ((c.tc : Thread Cert.RopeIdeal.nD Cert.RopeIdeal.τ).loc Cert.RopeIdeal.main_v29_2) = v1 c
          ∧ r.2.mem ((c.tc : Thread Cert.RopeIdeal.nD Cert.RopeIdeal.τ).loc Cert.RopeIdeal.main_v29_4) = v2 c
          ∧ r.2.mem ((c.tc : Thread Cert.RopeIdeal.nD Cert.RopeIdeal.τ).loc Cert.RopeIdeal.main_v29_5) = v3 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v110) = v0 c
          ∧ r.2.mem ((c.tc : Thread Cert.RopeRefIdeal.nD Cert.RopeRefIdeal.τ).loc Cert.RopeRefIdeal.main_v111) = v1 c
          ∧ r.2.mem ((c.tc : Thread Cert.RopeRefIdeal.nD Cert.RopeRefIdeal.τ).loc Cert.RopeRefIdeal.main_v3) = v2 c
          ∧ r.2.mem ((c.tc : Thread Cert.RopeRefIdeal.nD Cert.RopeRefIdeal.τ).loc Cert.RopeRefIdeal.main_v112) = v3 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v5)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v5) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v31) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5))

def preserves_RopeSample_RopeSampleIdeal : Prop :=
  True

def algebraic_RopeSampleIdeal_RopeSampleRefIdeal [hRopeSampleIdeal : Cert.RopeSampleIdeal.Facts] [hRopeSampleRefIdeal : Cert.RopeSampleRefIdeal.Facts] : Prop :=
  ∀ (m : (ℓ : Loc Cert.RopeSampleIdeal.nD Cert.RopeSampleIdeal.τ Cert.RopeSampleIdeal.sig) → Buf (Elt Ideal) ℓ) (g : Dev Cert.RopeSampleIdeal.nD → PrngReg)
    (m' : (ℓ : Loc Cert.RopeSampleRefIdeal.nD Cert.RopeSampleRefIdeal.τ Cert.RopeSampleRefIdeal.sig) → Buf (Elt Ideal) ℓ) (g' : Dev Cert.RopeSampleRefIdeal.nD → PrngReg), Pre_RopeSampleIdeal m →
    (∀ c : Dev Cert.RopeSampleIdeal.nD,
      m' ((c.tc : Thread Cert.RopeSampleRefIdeal.nD Cert.RopeSampleRefIdeal.τ).loc Cert.RopeSampleRefIdeal.main_arg0) = m ((c.tc : Thread Cert.RopeSampleIdeal.nD Cert.RopeSampleIdeal.τ).loc Cert.RopeSampleIdeal.main_arg0)) →
    ∃ (v0 : (c : Dev Cert.RopeSampleIdeal.nD) → Buf (Elt Ideal) ((c.tc : Thread Cert.RopeSampleIdeal.nD Cert.RopeSampleIdeal.τ).loc Cert.RopeSampleIdeal.main_v34_1)) (v1 : (c : Dev Cert.RopeSampleIdeal.nD) → Buf (Elt Ideal) ((c.tc : Thread Cert.RopeSampleIdeal.nD Cert.RopeSampleIdeal.τ).loc Cert.RopeSampleIdeal.main_v34_2)) (v2 : (c : Dev Cert.RopeSampleIdeal.nD) → Buf (Elt Ideal) ((c.tc : Thread Cert.RopeSampleIdeal.nD Cert.RopeSampleIdeal.τ).loc Cert.RopeSampleIdeal.main_v34_4)) (v3 : (c : Dev Cert.RopeSampleIdeal.nD) → Buf (Elt Ideal) ((c.tc : Thread Cert.RopeSampleIdeal.nD Cert.RopeSampleIdeal.τ).loc Cert.RopeSampleIdeal.main_v34_5)),
      θ_run (Cert.RopeSampleIdeal.defs (F := Ideal)) (onTc (τ := Cert.RopeSampleIdeal.τ) (Cert.RopeSampleIdeal.main (F := Ideal))) ⟨m, fun _ => 0, g⟩ (fun r => ∀ c : Dev Cert.RopeSampleIdeal.nD,
          r.2.mem ((c.tc : Thread Cert.RopeSampleIdeal.nD Cert.RopeSampleIdeal.τ).loc Cert.RopeSampleIdeal.main_v34_1) = v0 c
          ∧ r.2.mem ((c.tc : Thread Cert.RopeSampleIdeal.nD Cert.RopeSampleIdeal.τ).loc Cert.RopeSampleIdeal.main_v34_2) = v1 c
          ∧ r.2.mem ((c.tc : Thread Cert.RopeSampleIdeal.nD Cert.RopeSampleIdeal.τ).loc Cert.RopeSampleIdeal.main_v34_4) = v2 c
          ∧ r.2.mem ((c.tc : Thread Cert.RopeSampleIdeal.nD Cert.RopeSampleIdeal.τ).loc Cert.RopeSampleIdeal.main_v34_5) = v3 c
          ∧ r.2.mem ((c.tc : Thread Cert.RopeSampleIdeal.nD Cert.RopeSampleIdeal.τ).loc Cert.RopeSampleIdeal.main_arg0) = m ((c.tc : Thread Cert.RopeSampleIdeal.nD Cert.RopeSampleIdeal.τ).loc Cert.RopeSampleIdeal.main_arg0))
      ∧ θ_run (Cert.RopeSampleRefIdeal.defs (F := Ideal)) (onTc (τ := Cert.RopeSampleRefIdeal.τ) (Cert.RopeSampleRefIdeal.main (F := Ideal))) ⟨m', fun _ => 0, g'⟩ (fun r => ∀ c : Dev Cert.RopeSampleRefIdeal.nD,
          r.2.mem ((c.tc : Thread Cert.RopeSampleRefIdeal.nD Cert.RopeSampleRefIdeal.τ).loc Cert.RopeSampleRefIdeal.main_v112) = v0 c
          ∧ r.2.mem ((c.tc : Thread Cert.RopeSampleRefIdeal.nD Cert.RopeSampleRefIdeal.τ).loc Cert.RopeSampleRefIdeal.main_v113) = v1 c
          ∧ r.2.mem ((c.tc : Thread Cert.RopeSampleRefIdeal.nD Cert.RopeSampleRefIdeal.τ).loc Cert.RopeSampleRefIdeal.main_v5) = v2 c
          ∧ r.2.mem ((c.tc : Thread Cert.RopeSampleRefIdeal.nD Cert.RopeSampleRefIdeal.τ).loc Cert.RopeSampleRefIdeal.main_v114) = v3 c
          ∧ r.2.mem ((c.tc : Thread Cert.RopeSampleRefIdeal.nD Cert.RopeSampleRefIdeal.τ).loc Cert.RopeSampleRefIdeal.main_arg0) = m' ((c.tc : Thread Cert.RopeSampleRefIdeal.nD Cert.RopeSampleRefIdeal.τ).loc Cert.RopeSampleRefIdeal.main_arg0))

def preserves_NormProjSample_NormProjSampleIdeal : Prop :=
  True

def algebraic_NormProjSampleIdeal_NormProjSampleRefIdeal [hNormProjSampleIdeal : Cert.NormProjSampleIdeal.Facts] [hNormProjSampleRefIdeal : Cert.NormProjSampleRefIdeal.Facts] : Prop :=
  ∀ (m : (ℓ : Loc Cert.NormProjSampleIdeal.nD Cert.NormProjSampleIdeal.τ Cert.NormProjSampleIdeal.sig) → Buf (Elt Ideal) ℓ) (g : Dev Cert.NormProjSampleIdeal.nD → PrngReg)
    (m' : (ℓ : Loc Cert.NormProjSampleRefIdeal.nD Cert.NormProjSampleRefIdeal.τ Cert.NormProjSampleRefIdeal.sig) → Buf (Elt Ideal) ℓ) (g' : Dev Cert.NormProjSampleRefIdeal.nD → PrngReg), Pre_NormProjSampleIdeal m →
    (∀ c : Dev Cert.NormProjSampleIdeal.nD,
      m' ((c.tc : Thread Cert.NormProjSampleRefIdeal.nD Cert.NormProjSampleRefIdeal.τ).loc Cert.NormProjSampleRefIdeal.main_arg0) = m ((c.tc : Thread Cert.NormProjSampleIdeal.nD Cert.NormProjSampleIdeal.τ).loc Cert.NormProjSampleIdeal.main_arg0)
      ∧ m' ((c.tc : Thread Cert.NormProjSampleRefIdeal.nD Cert.NormProjSampleRefIdeal.τ).loc Cert.NormProjSampleRefIdeal.main_arg1) = m ((c.tc : Thread Cert.NormProjSampleIdeal.nD Cert.NormProjSampleIdeal.τ).loc Cert.NormProjSampleIdeal.main_arg1)
      ∧ m' ((c.tc : Thread Cert.NormProjSampleRefIdeal.nD Cert.NormProjSampleRefIdeal.τ).loc Cert.NormProjSampleRefIdeal.main_arg2) = m ((c.tc : Thread Cert.NormProjSampleIdeal.nD Cert.NormProjSampleIdeal.τ).loc Cert.NormProjSampleIdeal.main_arg2)) →
    ∃ (v0 : (c : Dev Cert.NormProjSampleIdeal.nD) → Buf (Elt Ideal) ((c.tc : Thread Cert.NormProjSampleIdeal.nD Cert.NormProjSampleIdeal.τ).loc Cert.NormProjSampleIdeal.main_v13)),
      θ_run (Cert.NormProjSampleIdeal.defs (F := Ideal)) (onTc (τ := Cert.NormProjSampleIdeal.τ) (Cert.NormProjSampleIdeal.main (F := Ideal))) ⟨m, fun _ => 0, g⟩ (fun r => ∀ c : Dev Cert.NormProjSampleIdeal.nD,
          r.2.mem ((c.tc : Thread Cert.NormProjSampleIdeal.nD Cert.NormProjSampleIdeal.τ).loc Cert.NormProjSampleIdeal.main_v13) = v0 c
          ∧ r.2.mem ((c.tc : Thread Cert.NormProjSampleIdeal.nD Cert.NormProjSampleIdeal.τ).loc Cert.NormProjSampleIdeal.main_arg0) = m ((c.tc : Thread Cert.NormProjSampleIdeal.nD Cert.NormProjSampleIdeal.τ).loc Cert.NormProjSampleIdeal.main_arg0)
          ∧ r.2.mem ((c.tc : Thread Cert.NormProjSampleIdeal.nD Cert.NormProjSampleIdeal.τ).loc Cert.NormProjSampleIdeal.main_arg1) = m ((c.tc : Thread Cert.NormProjSampleIdeal.nD Cert.NormProjSampleIdeal.τ).loc Cert.NormProjSampleIdeal.main_arg1)
          ∧ r.2.mem ((c.tc : Thread Cert.NormProjSampleIdeal.nD Cert.NormProjSampleIdeal.τ).loc Cert.NormProjSampleIdeal.main_arg2) = m ((c.tc : Thread Cert.NormProjSampleIdeal.nD Cert.NormProjSampleIdeal.τ).loc Cert.NormProjSampleIdeal.main_arg2))
      ∧ θ_run (Cert.NormProjSampleRefIdeal.defs (F := Ideal)) (onTc (τ := Cert.NormProjSampleRefIdeal.τ) (Cert.NormProjSampleRefIdeal.main (F := Ideal))) ⟨m', fun _ => 0, g'⟩ (fun r => ∀ c : Dev Cert.NormProjSampleRefIdeal.nD,
          r.2.mem ((c.tc : Thread Cert.NormProjSampleRefIdeal.nD Cert.NormProjSampleRefIdeal.τ).loc Cert.NormProjSampleRefIdeal.main_v24) = v0 c
          ∧ r.2.mem ((c.tc : Thread Cert.NormProjSampleRefIdeal.nD Cert.NormProjSampleRefIdeal.τ).loc Cert.NormProjSampleRefIdeal.main_arg0) = m' ((c.tc : Thread Cert.NormProjSampleRefIdeal.nD Cert.NormProjSampleRefIdeal.τ).loc Cert.NormProjSampleRefIdeal.main_arg0)
          ∧ r.2.mem ((c.tc : Thread Cert.NormProjSampleRefIdeal.nD Cert.NormProjSampleRefIdeal.τ).loc Cert.NormProjSampleRefIdeal.main_arg1) = m' ((c.tc : Thread Cert.NormProjSampleRefIdeal.nD Cert.NormProjSampleRefIdeal.τ).loc Cert.NormProjSampleRefIdeal.main_arg1)
          ∧ r.2.mem ((c.tc : Thread Cert.NormProjSampleRefIdeal.nD Cert.NormProjSampleRefIdeal.τ).loc Cert.NormProjSampleRefIdeal.main_arg2) = m' ((c.tc : Thread Cert.NormProjSampleRefIdeal.nD Cert.NormProjSampleRefIdeal.τ).loc Cert.NormProjSampleRefIdeal.main_arg2))

def preserves_MergeSample_MergeSampleIdeal : Prop :=
  True

def algebraic_MergeSampleIdeal_MergeSampleRefIdeal [hMergeSampleIdeal : Cert.MergeSampleIdeal.Facts] [hMergeSampleRefIdeal : Cert.MergeSampleRefIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleRefIdeal.nD Cert.MergeSampleRefIdeal.τ Cert.MergeSampleRefIdeal.sig) → Buf (Elt Ideal) ℓ) (g' : Dev Cert.MergeSampleRefIdeal.nD → PrngReg), Pre_MergeSampleIdeal m →
    (∀ c : Dev Cert.MergeSampleIdeal.nD,
      m' ((c.tc : Thread Cert.MergeSampleRefIdeal.nD Cert.MergeSampleRefIdeal.τ).loc Cert.MergeSampleRefIdeal.main_arg0) = m ((c.tc : Thread Cert.MergeSampleIdeal.nD Cert.MergeSampleIdeal.τ).loc Cert.MergeSampleIdeal.main_arg0)
      ∧ m' ((c.tc : Thread Cert.MergeSampleRefIdeal.nD Cert.MergeSampleRefIdeal.τ).loc Cert.MergeSampleRefIdeal.main_arg1) = m ((c.tc : Thread Cert.MergeSampleIdeal.nD Cert.MergeSampleIdeal.τ).loc Cert.MergeSampleIdeal.main_arg1)
      ∧ m' ((c.tc : Thread Cert.MergeSampleRefIdeal.nD Cert.MergeSampleRefIdeal.τ).loc Cert.MergeSampleRefIdeal.main_arg2) = m ((c.tc : Thread Cert.MergeSampleIdeal.nD Cert.MergeSampleIdeal.τ).loc Cert.MergeSampleIdeal.main_arg2)
      ∧ m' ((c.tc : Thread Cert.MergeSampleRefIdeal.nD Cert.MergeSampleRefIdeal.τ).loc Cert.MergeSampleRefIdeal.main_arg3) = m ((c.tc : Thread Cert.MergeSampleIdeal.nD Cert.MergeSampleIdeal.τ).loc Cert.MergeSampleIdeal.main_arg3)
      ∧ m' ((c.tc : Thread Cert.MergeSampleRefIdeal.nD Cert.MergeSampleRefIdeal.τ).loc Cert.MergeSampleRefIdeal.main_arg4) = m ((c.tc : Thread Cert.MergeSampleIdeal.nD Cert.MergeSampleIdeal.τ).loc Cert.MergeSampleIdeal.main_arg4)
      ∧ m' ((c.tc : Thread Cert.MergeSampleRefIdeal.nD Cert.MergeSampleRefIdeal.τ).loc Cert.MergeSampleRefIdeal.main_arg5) = m ((c.tc : Thread Cert.MergeSampleIdeal.nD Cert.MergeSampleIdeal.τ).loc Cert.MergeSampleIdeal.main_arg5)
      ∧ m' ((c.tc : Thread Cert.MergeSampleRefIdeal.nD Cert.MergeSampleRefIdeal.τ).loc Cert.MergeSampleRefIdeal.main_arg6) = m ((c.tc : Thread Cert.MergeSampleIdeal.nD Cert.MergeSampleIdeal.τ).loc Cert.MergeSampleIdeal.main_arg6)) →
    ∃ (v0 : (c : Dev Cert.MergeSampleIdeal.nD) → Buf (Elt Ideal) ((c.tc : Thread Cert.MergeSampleIdeal.nD Cert.MergeSampleIdeal.τ).loc Cert.MergeSampleIdeal.main_v3)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v3) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6))
      ∧ θ_run (Cert.MergeSampleRefIdeal.defs (F := Ideal)) (onTc (τ := Cert.MergeSampleRefIdeal.τ) (Cert.MergeSampleRefIdeal.main (F := Ideal))) ⟨m', fun _ => 0, g'⟩ (fun r => ∀ c : Dev Cert.MergeSampleRefIdeal.nD,
          r.2.mem ((c.tc : Thread Cert.MergeSampleRefIdeal.nD Cert.MergeSampleRefIdeal.τ).loc Cert.MergeSampleRefIdeal.main_v22) = v0 c
          ∧ r.2.mem ((c.tc : Thread Cert.MergeSampleRefIdeal.nD Cert.MergeSampleRefIdeal.τ).loc Cert.MergeSampleRefIdeal.main_arg0) = m' ((c.tc : Thread Cert.MergeSampleRefIdeal.nD Cert.MergeSampleRefIdeal.τ).loc Cert.MergeSampleRefIdeal.main_arg0)
          ∧ r.2.mem ((c.tc : Thread Cert.MergeSampleRefIdeal.nD Cert.MergeSampleRefIdeal.τ).loc Cert.MergeSampleRefIdeal.main_arg1) = m' ((c.tc : Thread Cert.MergeSampleRefIdeal.nD Cert.MergeSampleRefIdeal.τ).loc Cert.MergeSampleRefIdeal.main_arg1)
          ∧ r.2.mem ((c.tc : Thread Cert.MergeSampleRefIdeal.nD Cert.MergeSampleRefIdeal.τ).loc Cert.MergeSampleRefIdeal.main_arg2) = m' ((c.tc : Thread Cert.MergeSampleRefIdeal.nD Cert.MergeSampleRefIdeal.τ).loc Cert.MergeSampleRefIdeal.main_arg2)
          ∧ r.2.mem ((c.tc : Thread Cert.MergeSampleRefIdeal.nD Cert.MergeSampleRefIdeal.τ).loc Cert.MergeSampleRefIdeal.main_arg3) = m' ((c.tc : Thread Cert.MergeSampleRefIdeal.nD Cert.MergeSampleRefIdeal.τ).loc Cert.MergeSampleRefIdeal.main_arg3)
          ∧ r.2.mem ((c.tc : Thread Cert.MergeSampleRefIdeal.nD Cert.MergeSampleRefIdeal.τ).loc Cert.MergeSampleRefIdeal.main_arg4) = m' ((c.tc : Thread Cert.MergeSampleRefIdeal.nD Cert.MergeSampleRefIdeal.τ).loc Cert.MergeSampleRefIdeal.main_arg4)
          ∧ r.2.mem ((c.tc : Thread Cert.MergeSampleRefIdeal.nD Cert.MergeSampleRefIdeal.τ).loc Cert.MergeSampleRefIdeal.main_arg5) = m' ((c.tc : Thread Cert.MergeSampleRefIdeal.nD Cert.MergeSampleRefIdeal.τ).loc Cert.MergeSampleRefIdeal.main_arg5)
          ∧ r.2.mem ((c.tc : Thread Cert.MergeSampleRefIdeal.nD Cert.MergeSampleRefIdeal.τ).loc Cert.MergeSampleRefIdeal.main_arg6) = m' ((c.tc : Thread Cert.MergeSampleRefIdeal.nD Cert.MergeSampleRefIdeal.τ).loc Cert.MergeSampleRefIdeal.main_arg6))

def preserves_FfnInner_FfnInnerIdeal : Prop :=
  True

def algebraic_FfnInnerIdeal_FfnInnerRefIdeal [hFfnInnerIdeal : Cert.FfnInnerIdeal.Facts] [hFfnInnerRefIdeal : Cert.FfnInnerRefIdeal.Facts] : Prop :=
  ∀ (m : (ℓ : Loc Cert.FfnInnerIdeal.nD Cert.FfnInnerIdeal.τ Cert.FfnInnerIdeal.sig) → Buf (Elt Ideal) ℓ) (g : Dev Cert.FfnInnerIdeal.nD → PrngReg)
    (m' : (ℓ : Loc Cert.FfnInnerRefIdeal.nD Cert.FfnInnerRefIdeal.τ Cert.FfnInnerRefIdeal.sig) → Buf (Elt Ideal) ℓ) (g' : Dev Cert.FfnInnerRefIdeal.nD → PrngReg), Pre_FfnInnerIdeal m →
    (∀ c : Dev Cert.FfnInnerIdeal.nD,
      m' ((c.tc : Thread Cert.FfnInnerRefIdeal.nD Cert.FfnInnerRefIdeal.τ).loc Cert.FfnInnerRefIdeal.main_arg0) = m ((c.tc : Thread Cert.FfnInnerIdeal.nD Cert.FfnInnerIdeal.τ).loc Cert.FfnInnerIdeal.main_arg0)
      ∧ m' ((c.tc : Thread Cert.FfnInnerRefIdeal.nD Cert.FfnInnerRefIdeal.τ).loc Cert.FfnInnerRefIdeal.main_arg1) = m ((c.tc : Thread Cert.FfnInnerIdeal.nD Cert.FfnInnerIdeal.τ).loc Cert.FfnInnerIdeal.main_arg1)
      ∧ m' ((c.tc : Thread Cert.FfnInnerRefIdeal.nD Cert.FfnInnerRefIdeal.τ).loc Cert.FfnInnerRefIdeal.main_arg2) = m ((c.tc : Thread Cert.FfnInnerIdeal.nD Cert.FfnInnerIdeal.τ).loc Cert.FfnInnerIdeal.main_arg2)
      ∧ m' ((c.tc : Thread Cert.FfnInnerRefIdeal.nD Cert.FfnInnerRefIdeal.τ).loc Cert.FfnInnerRefIdeal.main_arg3) = m ((c.tc : Thread Cert.FfnInnerIdeal.nD Cert.FfnInnerIdeal.τ).loc Cert.FfnInnerIdeal.main_arg3)
      ∧ m' ((c.tc : Thread Cert.FfnInnerRefIdeal.nD Cert.FfnInnerRefIdeal.τ).loc Cert.FfnInnerRefIdeal.main_arg4) = m ((c.tc : Thread Cert.FfnInnerIdeal.nD Cert.FfnInnerIdeal.τ).loc Cert.FfnInnerIdeal.main_arg4)
      ∧ m' ((c.tc : Thread Cert.FfnInnerRefIdeal.nD Cert.FfnInnerRefIdeal.τ).loc Cert.FfnInnerRefIdeal.main_arg5) = m ((c.tc : Thread Cert.FfnInnerIdeal.nD Cert.FfnInnerIdeal.τ).loc Cert.FfnInnerIdeal.main_arg5)) →
    ∃ (v0 : (c : Dev Cert.FfnInnerIdeal.nD) → Buf (Elt Ideal) ((c.tc : Thread Cert.FfnInnerIdeal.nD Cert.FfnInnerIdeal.τ).loc Cert.FfnInnerIdeal.main_v5)),
      θ_run (Cert.FfnInnerIdeal.defs (F := Ideal)) (onTc (τ := Cert.FfnInnerIdeal.τ) (Cert.FfnInnerIdeal.main (F := Ideal))) ⟨m, fun _ => 0, g⟩ (fun r => ∀ c : Dev Cert.FfnInnerIdeal.nD,
          r.2.mem ((c.tc : Thread Cert.FfnInnerIdeal.nD Cert.FfnInnerIdeal.τ).loc Cert.FfnInnerIdeal.main_v5) = v0 c
          ∧ r.2.mem ((c.tc : Thread Cert.FfnInnerIdeal.nD Cert.FfnInnerIdeal.τ).loc Cert.FfnInnerIdeal.main_arg0) = m ((c.tc : Thread Cert.FfnInnerIdeal.nD Cert.FfnInnerIdeal.τ).loc Cert.FfnInnerIdeal.main_arg0)
          ∧ r.2.mem ((c.tc : Thread Cert.FfnInnerIdeal.nD Cert.FfnInnerIdeal.τ).loc Cert.FfnInnerIdeal.main_arg1) = m ((c.tc : Thread Cert.FfnInnerIdeal.nD Cert.FfnInnerIdeal.τ).loc Cert.FfnInnerIdeal.main_arg1)
          ∧ r.2.mem ((c.tc : Thread Cert.FfnInnerIdeal.nD Cert.FfnInnerIdeal.τ).loc Cert.FfnInnerIdeal.main_arg2) = m ((c.tc : Thread Cert.FfnInnerIdeal.nD Cert.FfnInnerIdeal.τ).loc Cert.FfnInnerIdeal.main_arg2)
          ∧ r.2.mem ((c.tc : Thread Cert.FfnInnerIdeal.nD Cert.FfnInnerIdeal.τ).loc Cert.FfnInnerIdeal.main_arg3) = m ((c.tc : Thread Cert.FfnInnerIdeal.nD Cert.FfnInnerIdeal.τ).loc Cert.FfnInnerIdeal.main_arg3)
          ∧ r.2.mem ((c.tc : Thread Cert.FfnInnerIdeal.nD Cert.FfnInnerIdeal.τ).loc Cert.FfnInnerIdeal.main_arg4) = m ((c.tc : Thread Cert.FfnInnerIdeal.nD Cert.FfnInnerIdeal.τ).loc Cert.FfnInnerIdeal.main_arg4)
          ∧ r.2.mem ((c.tc : Thread Cert.FfnInnerIdeal.nD Cert.FfnInnerIdeal.τ).loc Cert.FfnInnerIdeal.main_arg5) = m ((c.tc : Thread Cert.FfnInnerIdeal.nD Cert.FfnInnerIdeal.τ).loc Cert.FfnInnerIdeal.main_arg5))
      ∧ θ_run (Cert.FfnInnerRefIdeal.defs (F := Ideal)) (onTc (τ := Cert.FfnInnerRefIdeal.τ) (Cert.FfnInnerRefIdeal.main (F := Ideal))) ⟨m', fun _ => 0, g'⟩ (fun r => ∀ c : Dev Cert.FfnInnerRefIdeal.nD,
          r.2.mem ((c.tc : Thread Cert.FfnInnerRefIdeal.nD Cert.FfnInnerRefIdeal.τ).loc Cert.FfnInnerRefIdeal.main_v18) = v0 c
          ∧ r.2.mem ((c.tc : Thread Cert.FfnInnerRefIdeal.nD Cert.FfnInnerRefIdeal.τ).loc Cert.FfnInnerRefIdeal.main_arg0) = m' ((c.tc : Thread Cert.FfnInnerRefIdeal.nD Cert.FfnInnerRefIdeal.τ).loc Cert.FfnInnerRefIdeal.main_arg0)
          ∧ r.2.mem ((c.tc : Thread Cert.FfnInnerRefIdeal.nD Cert.FfnInnerRefIdeal.τ).loc Cert.FfnInnerRefIdeal.main_arg1) = m' ((c.tc : Thread Cert.FfnInnerRefIdeal.nD Cert.FfnInnerRefIdeal.τ).loc Cert.FfnInnerRefIdeal.main_arg1)
          ∧ r.2.mem ((c.tc : Thread Cert.FfnInnerRefIdeal.nD Cert.FfnInnerRefIdeal.τ).loc Cert.FfnInnerRefIdeal.main_arg2) = m' ((c.tc : Thread Cert.FfnInnerRefIdeal.nD Cert.FfnInnerRefIdeal.τ).loc Cert.FfnInnerRefIdeal.main_arg2)
          ∧ r.2.mem ((c.tc : Thread Cert.FfnInnerRefIdeal.nD Cert.FfnInnerRefIdeal.τ).loc Cert.FfnInnerRefIdeal.main_arg3) = m' ((c.tc : Thread Cert.FfnInnerRefIdeal.nD Cert.FfnInnerRefIdeal.τ).loc Cert.FfnInnerRefIdeal.main_arg3)
          ∧ r.2.mem ((c.tc : Thread Cert.FfnInnerRefIdeal.nD Cert.FfnInnerRefIdeal.τ).loc Cert.FfnInnerRefIdeal.main_arg4) = m' ((c.tc : Thread Cert.FfnInnerRefIdeal.nD Cert.FfnInnerRefIdeal.τ).loc Cert.FfnInnerRefIdeal.main_arg4)
          ∧ r.2.mem ((c.tc : Thread Cert.FfnInnerRefIdeal.nD Cert.FfnInnerRefIdeal.τ).loc Cert.FfnInnerRefIdeal.main_arg5) = m' ((c.tc : Thread Cert.FfnInnerRefIdeal.nD Cert.FfnInnerRefIdeal.τ).loc Cert.FfnInnerRefIdeal.main_arg5))

def preserves_FfnInnerSample_FfnInnerSampleIdeal : Prop :=
  True

def algebraic_FfnInnerSampleIdeal_FfnInnerSampleRefIdeal [hFfnInnerSampleIdeal : Cert.FfnInnerSampleIdeal.Facts] [hFfnInnerSampleRefIdeal : Cert.FfnInnerSampleRefIdeal.Facts] : Prop :=
  ∀ (m : (ℓ : Loc Cert.FfnInnerSampleIdeal.nD Cert.FfnInnerSampleIdeal.τ Cert.FfnInnerSampleIdeal.sig) → Buf (Elt Ideal) ℓ) (g : Dev Cert.FfnInnerSampleIdeal.nD → PrngReg)
    (m' : (ℓ : Loc Cert.FfnInnerSampleRefIdeal.nD Cert.FfnInnerSampleRefIdeal.τ Cert.FfnInnerSampleRefIdeal.sig) → Buf (Elt Ideal) ℓ) (g' : Dev Cert.FfnInnerSampleRefIdeal.nD → PrngReg), Pre_FfnInnerSampleIdeal m →
    (∀ c : Dev Cert.FfnInnerSampleIdeal.nD,
      m' ((c.tc : Thread Cert.FfnInnerSampleRefIdeal.nD Cert.FfnInnerSampleRefIdeal.τ).loc Cert.FfnInnerSampleRefIdeal.main_arg0) = m ((c.tc : Thread Cert.FfnInnerSampleIdeal.nD Cert.FfnInnerSampleIdeal.τ).loc Cert.FfnInnerSampleIdeal.main_arg0)
      ∧ m' ((c.tc : Thread Cert.FfnInnerSampleRefIdeal.nD Cert.FfnInnerSampleRefIdeal.τ).loc Cert.FfnInnerSampleRefIdeal.main_arg1) = m ((c.tc : Thread Cert.FfnInnerSampleIdeal.nD Cert.FfnInnerSampleIdeal.τ).loc Cert.FfnInnerSampleIdeal.main_arg1)
      ∧ m' ((c.tc : Thread Cert.FfnInnerSampleRefIdeal.nD Cert.FfnInnerSampleRefIdeal.τ).loc Cert.FfnInnerSampleRefIdeal.main_arg2) = m ((c.tc : Thread Cert.FfnInnerSampleIdeal.nD Cert.FfnInnerSampleIdeal.τ).loc Cert.FfnInnerSampleIdeal.main_arg2)
      ∧ m' ((c.tc : Thread Cert.FfnInnerSampleRefIdeal.nD Cert.FfnInnerSampleRefIdeal.τ).loc Cert.FfnInnerSampleRefIdeal.main_arg3) = m ((c.tc : Thread Cert.FfnInnerSampleIdeal.nD Cert.FfnInnerSampleIdeal.τ).loc Cert.FfnInnerSampleIdeal.main_arg3)
      ∧ m' ((c.tc : Thread Cert.FfnInnerSampleRefIdeal.nD Cert.FfnInnerSampleRefIdeal.τ).loc Cert.FfnInnerSampleRefIdeal.main_arg4) = m ((c.tc : Thread Cert.FfnInnerSampleIdeal.nD Cert.FfnInnerSampleIdeal.τ).loc Cert.FfnInnerSampleIdeal.main_arg4)
      ∧ m' ((c.tc : Thread Cert.FfnInnerSampleRefIdeal.nD Cert.FfnInnerSampleRefIdeal.τ).loc Cert.FfnInnerSampleRefIdeal.main_arg5) = m ((c.tc : Thread Cert.FfnInnerSampleIdeal.nD Cert.FfnInnerSampleIdeal.τ).loc Cert.FfnInnerSampleIdeal.main_arg5)) →
    ∃ (v0 : (c : Dev Cert.FfnInnerSampleIdeal.nD) → Buf (Elt Ideal) ((c.tc : Thread Cert.FfnInnerSampleIdeal.nD Cert.FfnInnerSampleIdeal.τ).loc Cert.FfnInnerSampleIdeal.main_v5)),
      θ_run (Cert.FfnInnerSampleIdeal.defs (F := Ideal)) (onTc (τ := Cert.FfnInnerSampleIdeal.τ) (Cert.FfnInnerSampleIdeal.main (F := Ideal))) ⟨m, fun _ => 0, g⟩ (fun r => ∀ c : Dev Cert.FfnInnerSampleIdeal.nD,
          r.2.mem ((c.tc : Thread Cert.FfnInnerSampleIdeal.nD Cert.FfnInnerSampleIdeal.τ).loc Cert.FfnInnerSampleIdeal.main_v5) = v0 c
          ∧ r.2.mem ((c.tc : Thread Cert.FfnInnerSampleIdeal.nD Cert.FfnInnerSampleIdeal.τ).loc Cert.FfnInnerSampleIdeal.main_arg0) = m ((c.tc : Thread Cert.FfnInnerSampleIdeal.nD Cert.FfnInnerSampleIdeal.τ).loc Cert.FfnInnerSampleIdeal.main_arg0)
          ∧ r.2.mem ((c.tc : Thread Cert.FfnInnerSampleIdeal.nD Cert.FfnInnerSampleIdeal.τ).loc Cert.FfnInnerSampleIdeal.main_arg1) = m ((c.tc : Thread Cert.FfnInnerSampleIdeal.nD Cert.FfnInnerSampleIdeal.τ).loc Cert.FfnInnerSampleIdeal.main_arg1)
          ∧ r.2.mem ((c.tc : Thread Cert.FfnInnerSampleIdeal.nD Cert.FfnInnerSampleIdeal.τ).loc Cert.FfnInnerSampleIdeal.main_arg2) = m ((c.tc : Thread Cert.FfnInnerSampleIdeal.nD Cert.FfnInnerSampleIdeal.τ).loc Cert.FfnInnerSampleIdeal.main_arg2)
          ∧ r.2.mem ((c.tc : Thread Cert.FfnInnerSampleIdeal.nD Cert.FfnInnerSampleIdeal.τ).loc Cert.FfnInnerSampleIdeal.main_arg3) = m ((c.tc : Thread Cert.FfnInnerSampleIdeal.nD Cert.FfnInnerSampleIdeal.τ).loc Cert.FfnInnerSampleIdeal.main_arg3)
          ∧ r.2.mem ((c.tc : Thread Cert.FfnInnerSampleIdeal.nD Cert.FfnInnerSampleIdeal.τ).loc Cert.FfnInnerSampleIdeal.main_arg4) = m ((c.tc : Thread Cert.FfnInnerSampleIdeal.nD Cert.FfnInnerSampleIdeal.τ).loc Cert.FfnInnerSampleIdeal.main_arg4)
          ∧ r.2.mem ((c.tc : Thread Cert.FfnInnerSampleIdeal.nD Cert.FfnInnerSampleIdeal.τ).loc Cert.FfnInnerSampleIdeal.main_arg5) = m ((c.tc : Thread Cert.FfnInnerSampleIdeal.nD Cert.FfnInnerSampleIdeal.τ).loc Cert.FfnInnerSampleIdeal.main_arg5))
      ∧ θ_run (Cert.FfnInnerSampleRefIdeal.defs (F := Ideal)) (onTc (τ := Cert.FfnInnerSampleRefIdeal.τ) (Cert.FfnInnerSampleRefIdeal.main (F := Ideal))) ⟨m', fun _ => 0, g'⟩ (fun r => ∀ c : Dev Cert.FfnInnerSampleRefIdeal.nD,
          r.2.mem ((c.tc : Thread Cert.FfnInnerSampleRefIdeal.nD Cert.FfnInnerSampleRefIdeal.τ).loc Cert.FfnInnerSampleRefIdeal.main_v18) = v0 c
          ∧ r.2.mem ((c.tc : Thread Cert.FfnInnerSampleRefIdeal.nD Cert.FfnInnerSampleRefIdeal.τ).loc Cert.FfnInnerSampleRefIdeal.main_arg0) = m' ((c.tc : Thread Cert.FfnInnerSampleRefIdeal.nD Cert.FfnInnerSampleRefIdeal.τ).loc Cert.FfnInnerSampleRefIdeal.main_arg0)
          ∧ r.2.mem ((c.tc : Thread Cert.FfnInnerSampleRefIdeal.nD Cert.FfnInnerSampleRefIdeal.τ).loc Cert.FfnInnerSampleRefIdeal.main_arg1) = m' ((c.tc : Thread Cert.FfnInnerSampleRefIdeal.nD Cert.FfnInnerSampleRefIdeal.τ).loc Cert.FfnInnerSampleRefIdeal.main_arg1)
          ∧ r.2.mem ((c.tc : Thread Cert.FfnInnerSampleRefIdeal.nD Cert.FfnInnerSampleRefIdeal.τ).loc Cert.FfnInnerSampleRefIdeal.main_arg2) = m' ((c.tc : Thread Cert.FfnInnerSampleRefIdeal.nD Cert.FfnInnerSampleRefIdeal.τ).loc Cert.FfnInnerSampleRefIdeal.main_arg2)
          ∧ r.2.mem ((c.tc : Thread Cert.FfnInnerSampleRefIdeal.nD Cert.FfnInnerSampleRefIdeal.τ).loc Cert.FfnInnerSampleRefIdeal.main_arg3) = m' ((c.tc : Thread Cert.FfnInnerSampleRefIdeal.nD Cert.FfnInnerSampleRefIdeal.τ).loc Cert.FfnInnerSampleRefIdeal.main_arg3)
          ∧ r.2.mem ((c.tc : Thread Cert.FfnInnerSampleRefIdeal.nD Cert.FfnInnerSampleRefIdeal.τ).loc Cert.FfnInnerSampleRefIdeal.main_arg4) = m' ((c.tc : Thread Cert.FfnInnerSampleRefIdeal.nD Cert.FfnInnerSampleRefIdeal.τ).loc Cert.FfnInnerSampleRefIdeal.main_arg4)
          ∧ r.2.mem ((c.tc : Thread Cert.FfnInnerSampleRefIdeal.nD Cert.FfnInnerSampleRefIdeal.τ).loc Cert.FfnInnerSampleRefIdeal.main_arg5) = m' ((c.tc : Thread Cert.FfnInnerSampleRefIdeal.nD Cert.FfnInnerSampleRefIdeal.τ).loc Cert.FfnInnerSampleRefIdeal.main_arg5))

def Claim : Prop :=
  ∃ (hFfn : Cert.Ffn.Facts) (hFfnIdeal : Cert.FfnIdeal.Facts) (hFfnRefIdeal : Cert.FfnRefIdeal.Facts) (hNormProj : Cert.NormProj.Facts) (hNormProjIdeal : Cert.NormProjIdeal.Facts) (hNormProjRefIdeal : Cert.NormProjRefIdeal.Facts) (hMerge : Cert.Merge.Facts) (hMergeIdeal : Cert.MergeIdeal.Facts) (hMergeRefIdeal : Cert.MergeRefIdeal.Facts) (hRope : Cert.Rope.Facts) (hRopeIdeal : Cert.RopeIdeal.Facts) (hRopeRefIdeal : Cert.RopeRefIdeal.Facts) (hFfnSample : Cert.FfnSample.Facts) (hFfnSampleIdeal : Cert.FfnSampleIdeal.Facts) (hFfnSampleRefIdeal : Cert.FfnSampleRefIdeal.Facts) (hRopeSample : Cert.RopeSample.Facts) (hRopeSampleIdeal : Cert.RopeSampleIdeal.Facts) (hRopeSampleRefIdeal : Cert.RopeSampleRefIdeal.Facts) (hNormProjSample : Cert.NormProjSample.Facts) (hNormProjSampleIdeal : Cert.NormProjSampleIdeal.Facts) (hNormProjSampleRefIdeal : Cert.NormProjSampleRefIdeal.Facts) (hMergeSample : Cert.MergeSample.Facts) (hMergeSampleIdeal : Cert.MergeSampleIdeal.Facts) (hMergeSampleRefIdeal : Cert.MergeSampleRefIdeal.Facts) (hFfnInner : Cert.FfnInner.Facts) (hFfnInnerIdeal : Cert.FfnInnerIdeal.Facts) (hFfnInnerRefIdeal : Cert.FfnInnerRefIdeal.Facts) (hFfnInnerSample : Cert.FfnInnerSample.Facts) (hFfnInnerSampleIdeal : Cert.FfnInnerSampleIdeal.Facts) (hFfnInnerSampleRefIdeal : Cert.FfnInnerSampleRefIdeal.Facts),
    quiescent_Ffn (hFfn := hFfn)
    ∧ quiescent_FfnIdeal (hFfnIdeal := hFfnIdeal)
    ∧ quiescent_FfnRefIdeal (hFfnRefIdeal := hFfnRefIdeal)
    ∧ quiescent_NormProj (hNormProj := hNormProj)
    ∧ quiescent_NormProjIdeal (hNormProjIdeal := hNormProjIdeal)
    ∧ quiescent_NormProjRefIdeal (hNormProjRefIdeal := hNormProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Rope (hRope := hRope)
    ∧ quiescent_RopeIdeal (hRopeIdeal := hRopeIdeal)
    ∧ quiescent_RopeRefIdeal (hRopeRefIdeal := hRopeRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_RopeSample (hRopeSample := hRopeSample)
    ∧ quiescent_RopeSampleIdeal (hRopeSampleIdeal := hRopeSampleIdeal)
    ∧ quiescent_RopeSampleRefIdeal (hRopeSampleRefIdeal := hRopeSampleRefIdeal)
    ∧ quiescent_NormProjSample (hNormProjSample := hNormProjSample)
    ∧ quiescent_NormProjSampleIdeal (hNormProjSampleIdeal := hNormProjSampleIdeal)
    ∧ quiescent_NormProjSampleRefIdeal (hNormProjSampleRefIdeal := hNormProjSampleRefIdeal)
    ∧ quiescent_MergeSample (hMergeSample := hMergeSample)
    ∧ quiescent_MergeSampleIdeal (hMergeSampleIdeal := hMergeSampleIdeal)
    ∧ quiescent_MergeSampleRefIdeal (hMergeSampleRefIdeal := hMergeSampleRefIdeal)
    ∧ quiescent_FfnInner (hFfnInner := hFfnInner)
    ∧ quiescent_FfnInnerIdeal (hFfnInnerIdeal := hFfnInnerIdeal)
    ∧ quiescent_FfnInnerRefIdeal (hFfnInnerRefIdeal := hFfnInnerRefIdeal)
    ∧ quiescent_FfnInnerSample (hFfnInnerSample := hFfnInnerSample)
    ∧ quiescent_FfnInnerSampleIdeal (hFfnInnerSampleIdeal := hFfnInnerSampleIdeal)
    ∧ quiescent_FfnInnerSampleRefIdeal (hFfnInnerSampleRefIdeal := hFfnInnerSampleRefIdeal)
    ∧ preserves_Ffn_FfnIdeal
    ∧ algebraic_FfnIdeal_FfnRefIdeal (hFfnIdeal := hFfnIdeal) (hFfnRefIdeal := hFfnRefIdeal)
    ∧ preserves_NormProj_NormProjIdeal
    ∧ algebraic_NormProjIdeal_NormProjRefIdeal (hNormProjIdeal := hNormProjIdeal) (hNormProjRefIdeal := hNormProjRefIdeal)
    ∧ preserves_Merge_MergeIdeal
    ∧ algebraic_MergeIdeal_MergeRefIdeal (hMergeIdeal := hMergeIdeal) (hMergeRefIdeal := hMergeRefIdeal)
    ∧ preserves_Rope_RopeIdeal
    ∧ algebraic_RopeIdeal_RopeRefIdeal (hRopeIdeal := hRopeIdeal) (hRopeRefIdeal := hRopeRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_RopeSample_RopeSampleIdeal
    ∧ algebraic_RopeSampleIdeal_RopeSampleRefIdeal (hRopeSampleIdeal := hRopeSampleIdeal) (hRopeSampleRefIdeal := hRopeSampleRefIdeal)
    ∧ preserves_NormProjSample_NormProjSampleIdeal
    ∧ algebraic_NormProjSampleIdeal_NormProjSampleRefIdeal (hNormProjSampleIdeal := hNormProjSampleIdeal) (hNormProjSampleRefIdeal := hNormProjSampleRefIdeal)
    ∧ preserves_MergeSample_MergeSampleIdeal
    ∧ algebraic_MergeSampleIdeal_MergeSampleRefIdeal (hMergeSampleIdeal := hMergeSampleIdeal) (hMergeSampleRefIdeal := hMergeSampleRefIdeal)
    ∧ preserves_FfnInner_FfnInnerIdeal
    ∧ algebraic_FfnInnerIdeal_FfnInnerRefIdeal (hFfnInnerIdeal := hFfnInnerIdeal) (hFfnInnerRefIdeal := hFfnInnerRefIdeal)
    ∧ preserves_FfnInnerSample_FfnInnerSampleIdeal
    ∧ algebraic_FfnInnerSampleIdeal_FfnInnerSampleRefIdeal (hFfnInnerSampleIdeal := hFfnInnerSampleIdeal) (hFfnInnerSampleRefIdeal := hFfnInnerSampleRefIdeal)
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== NormProj.lean ====
abbrev S16384x1024 : Shape := ⟨2, ![16384, 1024]⟩
abbrev S1024 : Shape := ⟨1, ![1024]⟩
abbrev S1024x3912 : Shape := ⟨2, ![1024, 3912]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1024 : Shape := ⟨2, ![1024, 1024]⟩
abbrev S_ : Shape := ⟨0, ![]⟩
abbrev S1024x56 : Shape := ⟨2, ![1024, 56]⟩
abbrev S1024x3968 : Shape := ⟨2, ![1024, 3968]⟩
abbrev S1x1024 : Shape := ⟨2, ![1, 1024]⟩
abbrev S16384x3968 : Shape := ⟨2, ![16384, 3968]⟩
abbrev S256x1024 : Shape := ⟨2, ![256, 1024]⟩
abbrev S256x3968 : Shape := ⟨2, ![256, 3968]⟩
abbrev S256 : Shape := ⟨1, ![256]⟩
abbrev S256x1 : Shape := ⟨2, ![256, 1]⟩
abbrev S256x512 : Shape := ⟨2, ![256, 512]⟩
abbrev S1024x384 : Shape := ⟨2, ![1024, 384]⟩
abbrev S256x384 : Shape := ⟨2, ![256, 384]⟩

abbrev nBuf : Space → Nat
  | .hbm => 18
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3912, .f32⟩
  | .hbm, ⟨3, _⟩ => ⟨S1024x512, .f32⟩
  | .hbm, ⟨4, _⟩ => ⟨S1024x512, .f32⟩
  | .hbm, ⟨5, _⟩ => ⟨S1024x128, .f32⟩
  | .hbm, ⟨6, _⟩ => ⟨S1024x128, .f32⟩
  | .hbm, ⟨7, _⟩ => ⟨S1024x512, .f32⟩
  | .hbm, ⟨8, _⟩ => ⟨S1024x64, .f32⟩
  | .hbm, ⟨9, _⟩ => ⟨S1024x8, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x56, .f32⟩
  | .hbm, ⟨14, _⟩ => ⟨S1024x3968, .f32⟩
  | .hbm, ⟨15, _⟩ => ⟨S1024x3968, .bf16⟩
  | .hbm, ⟨16, _⟩ => ⟨S1x1024, .f32⟩
  | .hbm, ⟨17, _⟩ => ⟨S16384x3968, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3968, .bf16⟩
  | .local _ .vmem, ⟨4, _⟩ => ⟨S256x3968, .f32⟩
  | .local _ .vmem, ⟨5, _⟩ => ⟨S256x3968, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3968 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormProjIdeal.lean ====
abbrev S16384x1024 : Shape := ⟨2, ![16384, 1024]⟩
abbrev S1024 : Shape := ⟨1, ![1024]⟩
abbrev S1024x3912 : Shape := ⟨2, ![1024, 3912]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1024 : Shape := ⟨2, ![1024, 1024]⟩
abbrev S_ : Shape := ⟨0, ![]⟩
abbrev S1024x56 : Shape := ⟨2, ![1024, 56]⟩
abbrev S1024x3968 : Shape := ⟨2, ![1024, 3968]⟩
abbrev S1x1024 : Shape := ⟨2, ![1, 1024]⟩
abbrev S16384x3968 : Shape := ⟨2, ![16384, 3968]⟩
abbrev S256x1024 : Shape := ⟨2, ![256, 1024]⟩
abbrev S256x3968 : Shape := ⟨2, ![256, 3968]⟩
abbrev S256 : Shape := ⟨1, ![256]⟩
abbrev S256x1 : Shape := ⟨2, ![256, 1]⟩
abbrev S256x512 : Shape := ⟨2, ![256, 512]⟩
abbrev S1024x384 : Shape := ⟨2, ![1024, 384]⟩
abbrev S256x384 : Shape := ⟨2, ![256, 384]⟩

abbrev nBuf : Space → Nat
  | .hbm => 18
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3912, .f32⟩
  | .hbm, ⟨3, _⟩ => ⟨S1024x512, .f32⟩
  | .hbm, ⟨4, _⟩ => ⟨S1024x512, .f32⟩
  | .hbm, ⟨5, _⟩ => ⟨S1024x128, .f32⟩
  | .hbm, ⟨6, _⟩ => ⟨S1024x128, .f32⟩
  | .hbm, ⟨7, _⟩ => ⟨S1024x512, .f32⟩
  | .hbm, ⟨8, _⟩ => ⟨S1024x64, .f32⟩
  | .hbm, ⟨9, _⟩ => ⟨S1024x8, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x56, .f32⟩
  | .hbm, ⟨14, _⟩ => ⟨S1024x3968, .f32⟩
  | .hbm, ⟨15, _⟩ => ⟨S1024x3968, .bf16⟩
  | .hbm, ⟨16, _⟩ => ⟨S1x1024, .f32⟩
  | .hbm, ⟨17, _⟩ => ⟨S16384x3968, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3968, .bf16⟩
  | .local _ .vmem, ⟨4, _⟩ => ⟨S256x3968, .f32⟩
  | .local _ .vmem, ⟨5, _⟩ => ⟨S256x3968, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3968 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormProjRefIdeal.lean ====
abbrev S16384x1024 : Shape := ⟨2, ![16384, 1024]⟩
abbrev S1024 : Shape := ⟨1, ![1024]⟩
abbrev S1024x3912 : Shape := ⟨2, ![1024, 3912]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3912 : Shape := ⟨2, ![16384, 3912]⟩
abbrev S16384x512 : Shape := ⟨2, ![16384, 512]⟩
abbrev S16384x128 : Shape := ⟨2, ![16384, 128]⟩
abbrev S16384x64 : Shape := ⟨2, ![16384, 64]⟩
abbrev S16384x8 : Shape := ⟨2, ![16384, 8]⟩
abbrev S16384x56 : Shape := ⟨2, ![16384, 56]⟩
abbrev S16384x3968 : Shape := ⟨2, ![16384, 3968]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3912, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3912, .f32⟩
  | .hbm, ⟨20, _⟩ => ⟨S16384x512, .f32⟩
  | .hbm, ⟨21, _⟩ => ⟨S16384x512, .f32⟩
  | .hbm, ⟨22, _⟩ => ⟨S16384x128, .f32⟩
  | .hbm, ⟨23, _⟩ => ⟨S16384x128, .f32⟩
  | .hbm, ⟨24, _⟩ => ⟨S16384x512, .f32⟩
  | .hbm, ⟨25, _⟩ => ⟨S16384x64, .f32⟩
  | .hbm, ⟨26, _⟩ => ⟨S16384x8, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x56, .f32⟩
  | .hbm, ⟨31, _⟩ => ⟨S16384x3968, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x3968 : Shape := ⟨2, ![16384, 3968]⟩
abbrev S512x1024 : Shape := ⟨2, ![512, 1024]⟩
abbrev S1024x1024 : Shape := ⟨2, ![1024, 1024]⟩
abbrev S256x1024 : Shape := ⟨2, ![256, 1024]⟩
abbrev S256x512 : Shape := ⟨2, ![256, 512]⟩

abbrev nBuf : Space → Nat
  | .hbm => 11
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x3968, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeIdeal.lean ====
abbrev S16384x1024 : Shape := ⟨2, ![16384, 1024]⟩
abbrev S16384x512 : Shape := ⟨2, ![16384, 512]⟩
abbrev S16384x3968 : Shape := ⟨2, ![16384, 3968]⟩
abbrev S512x1024 : Shape := ⟨2, ![512, 1024]⟩
abbrev S1024x1024 : Shape := ⟨2, ![1024, 1024]⟩
abbrev S256x1024 : Shape := ⟨2, ![256, 1024]⟩
abbrev S256x512 : Shape := ⟨2, ![256, 512]⟩

abbrev nBuf : Space → Nat
  | .hbm => 11
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x3968, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S16384x1024 : Shape := ⟨2, ![16384, 1024]⟩
abbrev S16384x512 : Shape := ⟨2, ![16384, 512]⟩
abbrev S16384x3968 : Shape := ⟨2, ![16384, 3968]⟩
abbrev S512x1024 : Shape := ⟨2, ![512, 1024]⟩
abbrev S1024x1024 : Shape := ⟨2, ![1024, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x3968, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S16384x1024, .f32⟩
  | .hbm, ⟨8, _⟩ => ⟨S16384x1024, .f32⟩
  | .hbm, ⟨9, _⟩ => ⟨S16384x512, .f32⟩
  | .hbm, ⟨10, _⟩ => ⟨S16384x512, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Rope.lean ====
abbrev S16384x3968 : Shape := ⟨2, ![16384, 3968]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x64 : Shape := ⟨3, ![1, 4096, 64]⟩
abbrev S3x4096x64 : Shape := ⟨3, ![3, 4096, 64]⟩
abbrev S1x3x1x4096x1x64 : Shape := ⟨6, ![1, 3, 1, 4096, 1, 64]⟩
abbrev S1x3x1x4096x2x64 : Shape := ⟨6, ![1, 3, 1, 4096, 2, 64]⟩
abbrev S3x4096x128 : Shape := ⟨3, ![3, 4096, 128]⟩
abbrev S16384x1024 : Shape := ⟨2, ![16384, 1024]⟩
abbrev S16384x512 : Shape := ⟨2, ![16384, 512]⟩
abbrev S16384x128 : Shape := ⟨2, ![16384, 128]⟩
abbrev S16384x64 : Shape := ⟨2, ![16384, 64]⟩
abbrev S16384x256 : Shape := ⟨2, ![16384, 256]⟩
abbrev S32x128x512 : Shape := ⟨3, ![32, 128, 512]⟩
abbrev S8x16384 : Shape := ⟨2, ![8, 16384]⟩
abbrev S512x512 : Shape := ⟨2, ![512, 512]⟩
abbrev S512x128 : Shape := ⟨2, ![512, 128]⟩
abbrev S3x512x128 : Shape := ⟨3, ![3, 512, 128]⟩
abbrev S512x1024 : Shape := ⟨2, ![512, 1024]⟩
abbrev S512x64 : Shape := ⟨2, ![512, 64]⟩
abbrev S512x256 : Shape := ⟨2, ![512, 256]⟩
abbrev S1x128x512 : Shape := ⟨3, ![1, 128, 512]⟩
abbrev S8x512 : Shape := ⟨2, ![8, 512]⟩
abbrev S1x512x128 : Shape := ⟨3, ![1, 512, 128]⟩
abbrev S128x512 : Shape := ⟨2, ![128, 512]⟩

abbrev nBuf : Space → Nat
  | .hbm => 44
  | .vmem => 30
  | .smem => 0
  | _ => 0

abbrev bufTy : (tb : Table) → Fin (tcTables nBuf tb) → BufTy
  | .hbm, ⟨0, _⟩ => ⟨S16384x3968, .f32⟩
  | .hbm, ⟨1, _⟩ => ⟨S4096, .i32⟩
  | .hbm, ⟨2, _⟩ => ⟨S8, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S4096, .f32⟩
  | .hbm, ⟨11, _⟩ => ⟨S4096x1, .f32⟩
  | .hbm, ⟨12, _⟩ => ⟨S1x8, .f32⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S_, .f32⟩
  | .hbm, ⟨19, _⟩ => ⟨S4096x48, .f32⟩
  | .hbm, ⟨20, _⟩ => ⟨S_, .f32⟩
  | .hbm, ⟨21, _⟩ => ⟨S4096x48, .f32⟩
  | .hbm, ⟨22, _⟩ => ⟨S_, .f32⟩
  | .hbm, ⟨23, _⟩ => ⟨S4096x8, .f32⟩
  | .hbm, ⟨24, _⟩ => ⟨S4096x64, .f32⟩
  | .hbm, ⟨25, _⟩ => ⟨S4096x8, .f32⟩
  | .hbm, ⟨26, _⟩ => ⟨S4096x64, .f32⟩
  | .hbm, ⟨27, _⟩ => ⟨S4096x64, .f32⟩
  | .hbm, ⟨28, _⟩ => ⟨S1x4096x64, .f32⟩
  | .hbm, ⟨29, _⟩ => ⟨S1x4096x64, .f32⟩
  | .hbm, ⟨30, _⟩ => ⟨S1x4096x64, .f32⟩
  | .hbm, ⟨31, _⟩ => ⟨S3x4096x64, .f32⟩
  | .hbm, ⟨32, _⟩ => ⟨S1x3x1x4096x1x64, .f32⟩
  | .hbm, ⟨33, _⟩ => ⟨S1x3x1x4096x2x64, .f32⟩
  | .hbm, ⟨34, _⟩ => ⟨S3x4096x128, .f32⟩
  | .hbm, ⟨35, _⟩ => ⟨S16384x1024, .f32⟩
  | .hbm, ⟨36, _⟩ => ⟨S16384x512, .f32⟩
  | .hbm, ⟨37, _⟩ => ⟨S16384x128, .f32⟩
  | .hbm, ⟨38, _⟩ => ⟨S16384x128, .bf16⟩
  | .hbm, ⟨39, _⟩ => ⟨S16384x128, .f32⟩
  | .hbm, ⟨40, _⟩ => ⟨S16384x64, .f32⟩
  | .hbm, ⟨41, _⟩ => ⟨S16384x256, .bf16⟩
  | .hbm, ⟨42, _⟩ => ⟨S32x128x512, .bf16⟩
  | .hbm, ⟨43, _⟩ => ⟨S8x16384, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S3x512x128, .f32⟩
  | .local _ .vmem, ⟨11, _⟩ => ⟨S3x512x128, .f32⟩
  | .local _ .vmem, ⟨12, _⟩ => ⟨S512x1024, .f32⟩
  | .local _ .vmem, ⟨13, _⟩ => ⟨S512x1024, .f32⟩
  | .local _ .vmem, ⟨14, _⟩ => ⟨S512x512, .f32⟩
  | .local _ .vmem, ⟨15, _⟩ => ⟨S512x512, .f32⟩
  | .local _ .vmem, ⟨16, _⟩ => ⟨S512x128, .f32⟩
  | .local _ .vmem, ⟨17, _⟩ => ⟨S512x128, .f32⟩
  | .local _ .vmem, ⟨18, _⟩ => ⟨S512x128, .bf16⟩
  | .local _ .vmem, ⟨19, _⟩ => ⟨S512x128, .bf16⟩
  | .local _ .vmem, ⟨20, _⟩ => ⟨S512x128, .f32⟩
  | .local _ .vmem, ⟨21, _⟩ => ⟨S512x128, .f32⟩
  | .local _ .vmem, ⟨22, _⟩ => ⟨S512x64, .f32⟩
  | .local _ .vmem, ⟨23, _⟩ => ⟨S512x64, .f32⟩
  | .local _ .vmem, ⟨24, _⟩ => ⟨S512x256, .bf16⟩
  | .local _ .vmem, ⟨25, _⟩ => ⟨S512x256, .bf16⟩
  | .local _ .vmem, ⟨26, _⟩ => ⟨S1x128x512, .bf16⟩
  | .local _ .vmem, ⟨27, _⟩ => ⟨S1x128x512, .bf16⟩
  | .local _ .vmem, ⟨28, _⟩ => ⟨S8x512, .f32⟩
  | .local _ .vmem, ⟨29, _⟩ => ⟨S8x512, .f32⟩
  | _, _ => ⟨S16384x3968, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29_0 : Ref sig .tc := ⟨.hbm, 35, rfl⟩
abbrev main_v29_1 : Ref sig .tc := ⟨.hbm, 36, rfl⟩
abbrev main_v29_2 : Ref sig .tc := ⟨.hbm, 37, rfl⟩
abbrev main_v29_3 : Ref sig .tc := ⟨.hbm, 38, rfl⟩
abbrev main_v29_4 : Ref sig .tc := ⟨.hbm, 39, rfl⟩
abbrev main_v29_5 : Ref sig .tc := ⟨.hbm, 40, rfl⟩
abbrev main_v29_6 : Ref sig .tc := ⟨.hbm, 41, rfl⟩
abbrev main_v29_7 : Ref sig .tc := ⟨.hbm, 42, rfl⟩
abbrev main_v29_8 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_3 (i : grid0.Coords) : Fin 2 → Nat :=
  let arg0 : BitVec 32 := BitVec.ofNat 32 (i 0).val
  let c29_i32 : BitVec 32 := 29#32
  let c0_i32 : BitVec 32 := 0#32
  ![arg0.toNat, c29_i32.toNat]

def cc0_transform_4 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_5 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== RopeRefIdeal.lean ====
abbrev S16384x3968 : Shape := ⟨2, ![16384, 3968]⟩
abbrev S4096 : Shape := ⟨1, ![4096]⟩
abbrev S16384x512 : Shape := ⟨2, ![16384, 512]⟩
abbrev S16384x128 : Shape := ⟨2, ![16384, 128]⟩
abbrev S16384x64 : Shape := ⟨2, ![16384, 64]⟩
abbrev S4x4096x8x64 : Shape := ⟨4, ![4, 4096, 8, 64]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x8x8 : Shape := ⟨4, ![4, 4096, 8, 8]⟩
abbrev S1x4096x1x8 : Shape := ⟨4, ![1, 4096, 1, 8]⟩
abbrev S4x4096x8x48 : Shape := ⟨4, ![4, 4096, 8, 48]⟩
abbrev S4x4096x2x64 : Shape := ⟨4, ![4, 4096, 2, 64]⟩
abbrev S4x4096x2x8 : Shape := ⟨4, ![4, 4096, 2, 8]⟩
abbrev S4x4096x2x48 : Shape := ⟨4, ![4, 4096, 2, 48]⟩
abbrev S4x4096x1x64 : Shape := ⟨4, ![4, 4096, 1, 64]⟩
abbrev S4x4096x1x8 : Shape := ⟨4, ![4, 4096, 1, 8]⟩
abbrev S4x4096x1x48 : Shape := ⟨4, ![4, 4096, 1, 48]⟩

abbrev nBuf : Space → Nat
  | .hbm => 120
  | .vmem => 0
  | .smem => 0
  | _ => 0

abbrev bufTy : (tb : Table) → Fin (tcTables nBuf tb) → BufTy
  | .hbm, ⟨0, _⟩ => ⟨S16384x3968, .f32⟩
  | .hbm, ⟨1, _⟩ => ⟨S4096, .i32⟩
  | .hbm, ⟨2, _⟩ => ⟨S16384x512, .f32⟩
  | .hbm, ⟨3, _⟩ => ⟨S16384x128, .f32⟩
  | .hbm, ⟨4, _⟩ => ⟨S16384x128, .f32⟩
  | .hbm, ⟨5, _⟩ => ⟨S16384x64, .f32⟩
  | .hbm, ⟨6, _⟩ => ⟨S4x4096x8x64, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S4096, .f32⟩
  | .hbm, ⟨16, _⟩ => ⟨S4096x1, .f32⟩
  | .hbm, ⟨17, _⟩ => ⟨S1x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S4096x1x8, .f32⟩
  | .hbm, ⟨23, _⟩ => ⟨S4096x8, .f32⟩
  | .hbm, ⟨24, _⟩ => ⟨S4096x1x8, .f32⟩
  | .hbm, ⟨25, _⟩ => ⟨S4x4096x8x8, .f32⟩
  | .hbm, ⟨26, _⟩ => ⟨S4x4096x8x8, .f32⟩
  | .hbm, ⟨27, _⟩ => ⟨S1x4096x1x8, .f32⟩
  | .hbm, ⟨28, _⟩ => ⟨S4x4096x8x8, .f32⟩
  | .hbm, ⟨29, _⟩ => ⟨S4x4096x8x8, .f32⟩
  | .hbm, ⟨30, _⟩ => ⟨S1x4096x1x8, .f32⟩
  | .hbm, ⟨31, _⟩ => ⟨S4x4096x8x8, .f32⟩
  | .hbm, ⟨32, _⟩ => ⟨S4x4096x8x8, .f32⟩
  | .hbm, ⟨33, _⟩ => ⟨S4x4096x8x8, .f32⟩
  | .hbm, ⟨34, _⟩ => ⟨S1x4096x1x8, .f32⟩
  | .hbm, ⟨35, _⟩ => ⟨S4x4096x8x8, .f32⟩
  | .hbm, ⟨36, _⟩ => ⟨S4x4096x8x8, .f32⟩
  | .hbm, ⟨37, _⟩ => ⟨S1x4096x1x8, .f32⟩
  | .hbm, ⟨38, _⟩ => ⟨S4x4096x8x8, .f32⟩
  | .hbm, ⟨39, _⟩ => ⟨S4x4096x8x8, .f32⟩
  | .hbm, ⟨40, _⟩ => ⟨S4x4096x8x8, .f32⟩
  | .hbm, ⟨41, _⟩ => ⟨S4x4096x8x48, .f32⟩
  | .hbm, ⟨42, _⟩ => ⟨S4x4096x8x64, .f32⟩
  | .hbm, ⟨43, _⟩ => ⟨S4x4096x2x64, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S4096, .f32⟩
  | .hbm, ⟨53, _⟩ => ⟨S4096x1, .f32⟩
  | .hbm, ⟨54, _⟩ => ⟨S1x8, .f32⟩
  | .hbm, ⟨55, _⟩ => ⟨S4096x8, .f32⟩
  | .hbm, ⟨56, _⟩ => ⟨S4096x8, .f32⟩
  | .hbm, ⟨57, _⟩ => ⟨S4096x8, .f32⟩
  | .hbm, ⟨58, _⟩ => ⟨S4096x8, .f32⟩
  | .hbm, ⟨59, _⟩ => ⟨S4096x1x8, .f32⟩
  | .hbm, ⟨60, _⟩ => ⟨S4096x8, .f32⟩
  | .hbm, ⟨61, _⟩ => ⟨S4096x1x8, .f32⟩
  | .hbm, ⟨62, _⟩ => ⟨S4x4096x2x8, .f32⟩
  | .hbm, ⟨63, _⟩ => ⟨S4x4096x2x8, .f32⟩
  | .hbm, ⟨64, _⟩ => ⟨S1x4096x1x8, .f32⟩
  | .hbm, ⟨65, _⟩ => ⟨S4x4096x2x8, .f32⟩
  | .hbm, ⟨66, _⟩ => ⟨S4x4096x2x8, .f32⟩
  | .hbm, ⟨67, _⟩ => ⟨S1x4096x1x8, .f32⟩
  | .hbm, ⟨68, _⟩ => ⟨S4x4096x2x8, .f32⟩
  | .hbm, ⟨69, _⟩ => ⟨S4x4096x2x8, .f32⟩
  | .hbm, ⟨70, _⟩ => ⟨S4x4096x2x8, .f32⟩
  | .hbm, ⟨71, _⟩ => ⟨S1x4096x1x8, .f32⟩
  | .hbm, ⟨72, _⟩ => ⟨S4x4096x2x8, .f32⟩
  | .hbm, ⟨73, _⟩ => ⟨S4x4096x2x8, .f32⟩
  | .hbm, ⟨74, _⟩ => ⟨S1x4096x1x8, .f32⟩
  | .hbm, ⟨75, _⟩ => ⟨S4x4096x2x8, .f32⟩
  | .hbm, ⟨76, _⟩ => ⟨S4x4096x2x8, .f32⟩
  | .hbm, ⟨77, _⟩ => ⟨S4x4096x2x8, .f32⟩
  | .hbm, ⟨78, _⟩ => ⟨S4x4096x2x48, .f32⟩
  | .hbm, ⟨79, _⟩ => ⟨S4x4096x2x64, .f32⟩
  | .hbm, ⟨80, _⟩ => ⟨S4x4096x1x64, .f32⟩
  | .hbm, ⟨81, _⟩ => ⟨S8, .f32⟩
  | .hbm, ⟨82, _⟩ => ⟨S8, .f32⟩
  | .hbm, ⟨83, _⟩ => ⟨S_, .f32⟩
  | .hbm, ⟨84, _⟩ => ⟨S8, .f32⟩
  | .hbm, ⟨85, _⟩ => ⟨S8, .f32⟩
  | .hbm, ⟨86, _⟩ => ⟨S_, .f32⟩
  | .hbm, ⟨87, _⟩ => ⟨S8, .f32⟩
  | .hbm, ⟨88, _⟩ => ⟨S8, .f32⟩
  | .hbm, ⟨89, _⟩ => ⟨S4096, .f32⟩
  | .hbm, ⟨90, _⟩ => ⟨S4096x1, .f32⟩
  | .hbm, ⟨91, _⟩ => ⟨S1x8, .f32⟩
  | .hbm, ⟨92, _⟩ => ⟨S4096x8, .f32⟩
  | .hbm, ⟨93, _⟩ => ⟨S4096x8, .f32⟩
  | .hbm, ⟨94, _⟩ => ⟨S4096x8, .f32⟩
  | .hbm, ⟨95, _⟩ => ⟨S4096x8, .f32⟩
  | .hbm, ⟨96, _⟩ => ⟨S4096x1x8, .f32⟩
  | .hbm, ⟨97, _⟩ => ⟨S4096x8, .f32⟩
  | .hbm, ⟨98, _⟩ => ⟨S4096x1x8, .f32⟩
  | .hbm, ⟨99, _⟩ => ⟨S4x4096x1x8, .f32⟩
  | .hbm, ⟨100, _⟩ => ⟨S4x4096x1x8, .f32⟩
  | .hbm, ⟨101, _⟩ => ⟨S1x4096x1x8, .f32⟩
  | .hbm, ⟨102, _⟩ => ⟨S4x4096x1x8, .f32⟩
  | .hbm, ⟨103, _⟩ => ⟨S4x4096x1x8, .f32⟩
  | .hbm, ⟨104, _⟩ => ⟨S1x4096x1x8, .f32⟩
  | .hbm, ⟨105, _⟩ => ⟨S4x4096x1x8, .f32⟩
  | .hbm, ⟨106, _⟩ => ⟨S4x4096x1x8, .f32⟩
  | .hbm, ⟨107, _⟩ => ⟨S4x4096x1x8, .f32⟩
  | .hbm, ⟨108, _⟩ => ⟨S1x4096x1x8, .f32⟩
  | .hbm, ⟨109, _⟩ => ⟨S4x4096x1x8, .f32⟩
  | .hbm, ⟨110, _⟩ => ⟨S4x4096x1x8, .f32⟩
  | .hbm, ⟨111, _⟩ => ⟨S1x4096x1x8, .f32⟩
  | .hbm, ⟨112, _⟩ => ⟨S4x4096x1x8, .f32⟩
  | .hbm, ⟨113, _⟩ => ⟨S4x4096x1x8, .f32⟩
  | .hbm, ⟨114, _⟩ => ⟨S4x4096x1x8, .f32⟩
  | .hbm, ⟨115, _⟩ => ⟨S4x4096x1x48, .f32⟩
  | .hbm, ⟨116, _⟩ => ⟨S4x4096x1x64, .f32⟩
  | .hbm, ⟨117, _⟩ => ⟨S16384x512, .f32⟩
  | .hbm, ⟨118, _⟩ => ⟨S16384x128, .f32⟩
  | .hbm, ⟨119, _⟩ => ⟨S16384x64, .f32⟩
  | _, _ => ⟨S16384x3968, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_cst_1 : Ref sig .tc := ⟨.hbm, 46, rfl⟩
abbrev main_v43 : Ref sig .tc := ⟨.hbm, 47, rfl⟩
abbrev main_v44 : Ref sig .tc := ⟨.hbm, 48, rfl⟩
abbrev main_cst_2 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_cst_3 : Ref sig .tc := ⟨.hbm, 83, rfl⟩
abbrev main_v78 : Ref sig .tc := ⟨.hbm, 84, rfl⟩
abbrev main_v79 : Ref sig .tc := ⟨.hbm, 85, rfl⟩
abbrev main_cst_4 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩

abbrev nD : Nat := 1
abbrev τ : Topo := Topo.v7x

variable {F : FTy → Type} [FloatOps F]
-- ==== FfnSample.lean ====
abbrev S256x1024 : Shape := ⟨2, ![256, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x256 : Shape := ⟨2, ![1024, 256]⟩
abbrev S256 : Shape := ⟨1, ![256]⟩
abbrev S256x1 : Shape := ⟨2, ![256, 1]⟩
abbrev S256x256 : Shape := ⟨2, ![256, 256]⟩

abbrev nBuf : Space → Nat
  | .hbm => 12
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnSampleRefIdeal.lean ====
abbrev S256x1024 : Shape := ⟨2, ![256, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2816 : Shape := ⟨2, ![256, 2816]⟩

abbrev nBuf : Space → Nat
  | .hbm => 52
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x2816, .f32⟩
  | .hbm, ⟨23, _⟩ => ⟨S256x2816, .f32⟩
  | .hbm, ⟨24, _⟩ => ⟨S256x2816, .f32⟩
  | .hbm, ⟨25, _⟩ => ⟨S_, .f32⟩
  | .hbm, ⟨26, _⟩ => ⟨S256x2816, .f32⟩
  | .hbm, ⟨27, _⟩ => ⟨S256x2816, .f32⟩
  | .hbm, ⟨28, _⟩ => ⟨S_, .f32⟩
  | .hbm, ⟨29, _⟩ => ⟨S256x2816, .f32⟩
  | .hbm, ⟨30, _⟩ => ⟨S256x2816, .f32⟩
  | .hbm, ⟨31, _⟩ => ⟨S256x2816, .f32⟩
  | .hbm, ⟨32, _⟩ => ⟨S256x2816, .f32⟩
  | .hbm, ⟨33, _⟩ => ⟨S256x2816, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256, .f32⟩
  | .hbm, ⟨39, _⟩ => ⟨S256x1, .f32⟩
  | .hbm, ⟨40, _⟩ => ⟨S_, .f32⟩
  | .hbm, ⟨41, _⟩ => ⟨S256x1, .f32⟩
  | .hbm, ⟨42, _⟩ => ⟨S256x1, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S256x1, .f32⟩
  | .hbm, ⟨47, _⟩ => ⟨S256x1024, .f32⟩
  | .hbm, ⟨48, _⟩ => ⟨S256x1024, .f32⟩
  | .hbm, ⟨49, _⟩ => ⟨S1x1024, .f32⟩
  | .hbm, ⟨50, _⟩ => ⟨S256x1024, .f32⟩
  | .hbm, ⟨51, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== RopeSample.lean ====
abbrev S256x3968 : Shape := ⟨2, ![256, 3968]⟩
abbrev S8 : Shape := ⟨1, ![8]⟩
abbrev S_ : Shape := ⟨0, ![]⟩
abbrev S8x1 : Shape := ⟨2, ![8, 1]⟩
abbrev S1x8 : Shape := ⟨2, ![1, 8]⟩
abbrev S8x8 : Shape := ⟨2, ![8, 8]⟩
abbrev S8x48 : Shape := ⟨2, ![8, 48]⟩
abbrev S8x64 : Shape := ⟨2, ![8, 64]⟩
abbrev S1x8x64 : Shape := ⟨3, ![1, 8, 64]⟩
abbrev S3x8x64 : Shape := ⟨3, ![3, 8, 64]⟩
abbrev S1x3x1x8x1x64 : Shape := ⟨6, ![1, 3, 1, 8, 1, 64]⟩
abbrev S1x3x1x8x2x64 : Shape := ⟨6, ![1, 3, 1, 8, 2, 64]⟩
abbrev S3x8x128 : Shape := ⟨3, ![3, 8, 128]⟩
abbrev S1x3x1x8x1x128 : Shape := ⟨6, ![1, 3, 1, 8, 1, 128]⟩
abbrev S1x3x32x8x1x128 : Shape := ⟨6, ![1, 3, 32, 8, 1, 128]⟩
abbrev S3x256x128 : Shape := ⟨3, ![3, 256, 128]⟩
abbrev S256x1024 : Shape := ⟨2, ![256, 1024]⟩
abbrev S256x512 : Shape := ⟨2, ![256, 512]⟩
abbrev S256x128 : Shape := ⟨2, ![256, 128]⟩
abbrev S256x64 : Shape := ⟨2, ![256, 64]⟩
abbrev S256x256 : Shape := ⟨2, ![256, 256]⟩
abbrev S1x256x128 : Shape := ⟨3, ![1, 256, 128]⟩

abbrev nBuf : Space → Nat
  | .hbm => 48
  | .vmem => 13
  | .smem => 0
  | _ => 0

abbrev bufTy : (tb : Table) → Fin (tcTables nBuf tb) → BufTy
  | .hbm, ⟨0, _⟩ => ⟨S256x3968, .f32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S8x1, .f32⟩
  | .hbm, ⟨15, _⟩ => ⟨S1x8, .f32⟩
  | .hbm, ⟨16, _⟩ => ⟨S8x8, .f32⟩
  | .hbm, ⟨17, _⟩ => ⟨S8x8, .f32⟩
  | .hbm, ⟨18, _⟩ => ⟨S8x8, .f32⟩
  | .hbm, ⟨19, _⟩ => ⟨S8x8, .f32⟩
  | .hbm, ⟨20, _⟩ => ⟨S8x8, .f32⟩
  | .hbm, ⟨21, _⟩ => ⟨S_, .f32⟩
  | .hbm, ⟨22, _⟩ => ⟨S8x48, .f32⟩
  | .hbm, ⟨23, _⟩ => ⟨S_, .f32⟩
  | .hbm, ⟨24, _⟩ => ⟨S8x48, .f32⟩
  | .hbm, ⟨25, _⟩ => ⟨S_, .f32⟩
  | .hbm, ⟨26, _⟩ => ⟨S8x8, .f32⟩
  | .hbm, ⟨27, _⟩ => ⟨S8x64, .f32⟩
  | .hbm, ⟨28, _⟩ => ⟨S8x8, .f32⟩
  | .hbm, ⟨29, _⟩ => ⟨S8x64, .f32⟩
  | .hbm, ⟨30, _⟩ => ⟨S8x64, .f32⟩
  | .hbm, ⟨31, _⟩ => ⟨S1x8x64, .f32⟩
  | .hbm, ⟨32, _⟩ => ⟨S1x8x64, .f32⟩
  | .hbm, ⟨33, _⟩ => ⟨S1x8x64, .f32⟩
  | .hbm, ⟨34, _⟩ => ⟨S3x8x64, .f32⟩
  | .hbm, ⟨35, _⟩ => ⟨S1x3x1x8x1x64, .f32⟩
  | .hbm, ⟨36, _⟩ => ⟨S1x3x1x8x2x64, .f32⟩
  | .hbm, ⟨37, _⟩ => ⟨S3x8x128, .f32⟩
  | .hbm, ⟨38, _⟩ => ⟨S1x3x1x8x1x128, .f32⟩
  | .hbm, ⟨39, _⟩ => ⟨S1x3x32x8x1x128, .f32⟩
  | .hbm, ⟨40, _⟩ => ⟨S3x256x128, .f32⟩
  | .hbm, ⟨41, _⟩ => ⟨S256x1024, .f32⟩
  | .hbm, ⟨42, _⟩ => ⟨S256x512, .f32⟩
  | .hbm, ⟨43, _⟩ => ⟨S256x128, .f32⟩
  | .hbm, ⟨44, _⟩ => ⟨S256x128, .bf16⟩
  | .hbm, ⟨45, _⟩ => ⟨S256x128, .f32⟩
  | .hbm, ⟨46, _⟩ => ⟨S256x64, .f32⟩
  | .hbm, ⟨47, _⟩ => ⟨S256x256, .bf16⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S3x256x128, .f32⟩
  | .local _ .vmem, ⟨6, _⟩ => ⟨S256x1024, .f32⟩
  | .local _ .vmem, ⟨7, _⟩ => ⟨S256x512, .f32⟩
  | .local _ .vmem, ⟨8, _⟩ => ⟨S256x128, .f32⟩
  | .local _ .vmem, ⟨9, _⟩ => ⟨S256x128, .bf16⟩
  | .local _ .vmem, ⟨10, _⟩ => ⟨S256x128, .f32⟩
  | .local _ .vmem, ⟨11, _⟩ => ⟨S256x64, .f32⟩
  | .local _ .vmem, ⟨12, _⟩ => ⟨S256x256, .bf16⟩
  | _, _ => ⟨S256x3968, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34_0 : Ref sig .tc := ⟨.hbm, 41, rfl⟩
abbrev main_v34_1 : Ref sig .tc := ⟨.hbm, 42, rfl⟩
abbrev main_v34_2 : Ref sig .tc := ⟨.hbm, 43, rfl⟩
abbrev main_v34_3 : Ref sig .tc := ⟨.hbm, 44, rfl⟩
abbrev main_v34_4 : Ref sig .tc := ⟨.hbm, 45, rfl⟩
abbrev main_v34_5 : Ref sig .tc := ⟨.hbm, 46, rfl⟩
abbrev main_v34_6 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_3 (i : grid0.Coords) : Fin 2 → Nat :=
  let arg0 : BitVec 32 := BitVec.ofNat 32 (i 0).val
  let c29_i32 : BitVec 32 := 29#32
  let c0_i32 : BitVec 32 := 0#32
  ![arg0.toNat, c29_i32.toNat]

def cc0_transform_4 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== RopeSampleRefIdeal.lean ====
abbrev S256x3968 : Shape := ⟨2, ![256, 3968]⟩
abbrev S8 : Shape := ⟨1, ![8]⟩
abbrev S_ : Shape := ⟨0, ![]⟩
abbrev S256x512 : Shape := ⟨2, ![256, 512]⟩
abbrev S256x128 : Shape := ⟨2, ![256, 128]⟩
abbrev S256x64 : Shape := ⟨2, ![256, 64]⟩
abbrev S32x8x8x64 : Shape := ⟨4, ![32, 8, 8, 64]⟩
abbrev S8x1 : Shape := ⟨2, ![8, 1]⟩
abbrev S1x8 : Shape := ⟨2, ![1, 8]⟩
abbrev S8x8 : Shape := ⟨2, ![8, 8]⟩
abbrev S8x1x8 : Shape := ⟨3, ![8, 1, 8]⟩
abbrev S32x8x8x8 : Shape := ⟨4, ![32, 8, 8, 8]⟩
abbrev S1x8x1x8 : Shape := ⟨4, ![1, 8, 1, 8]⟩
abbrev S32x8x8x48 : Shape := ⟨4, ![32, 8, 8, 48]⟩
abbrev S32x8x2x64 : Shape := ⟨4, ![32, 8, 2, 64]⟩
abbrev S32x8x2x8 : Shape := ⟨4, ![32, 8, 2, 8]⟩
abbrev S32x8x2x48 : Shape := ⟨4, ![32, 8, 2, 48]⟩
abbrev S32x8x1x64 : Shape := ⟨4, ![32, 8, 1, 64]⟩
abbrev S32x8x1x8 : Shape := ⟨4, ![32, 8, 1, 8]⟩
abbrev S32x8x1x48 : Shape := ⟨4, ![32, 8, 1, 48]⟩

abbrev nBuf : Space → Nat
  | .hbm => 123
  | .vmem => 0
  | .smem => 0
  | _ => 0

abbrev bufTy : (tb : Table) → Fin (tcTables nBuf tb) → BufTy
  | .hbm, ⟨0, _⟩ => ⟨S256x3968, .f32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i32⟩
  | .hbm, ⟨5, _⟩ => ⟨S256x512, .f32⟩
  | .hbm, ⟨6, _⟩ => ⟨S256x128, .f32⟩
  | .hbm, ⟨7, _⟩ => ⟨S256x128, .f32⟩
  | .hbm, ⟨8, _⟩ => ⟨S256x64, .f32⟩
  | .hbm, ⟨9, _⟩ => ⟨S32x8x8x64, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8x1, .f32⟩
  | .hbm, ⟨20, _⟩ => ⟨S1x8, .f32⟩
  | .hbm, ⟨21, _⟩ => ⟨S8x8, .f32⟩
  | .hbm, ⟨22, _⟩ => ⟨S8x8, .f32⟩
  | .hbm, ⟨23, _⟩ => ⟨S8x8, .f32⟩
  | .hbm, ⟨24, _⟩ => ⟨S8x8, .f32⟩
  | .hbm, ⟨25, _⟩ => ⟨S8x1x8, .f32⟩
  | .hbm, ⟨26, _⟩ => ⟨S8x8, .f32⟩
  | .hbm, ⟨27, _⟩ => ⟨S8x1x8, .f32⟩
  | .hbm, ⟨28, _⟩ => ⟨S32x8x8x8, .f32⟩
  | .hbm, ⟨29, _⟩ => ⟨S32x8x8x8, .f32⟩
  | .hbm, ⟨30, _⟩ => ⟨S1x8x1x8, .f32⟩
  | .hbm, ⟨31, _⟩ => ⟨S32x8x8x8, .f32⟩
  | .hbm, ⟨32, _⟩ => ⟨S32x8x8x8, .f32⟩
  | .hbm, ⟨33, _⟩ => ⟨S1x8x1x8, .f32⟩
  | .hbm, ⟨34, _⟩ => ⟨S32x8x8x8, .f32⟩
  | .hbm, ⟨35, _⟩ => ⟨S32x8x8x8, .f32⟩
  | .hbm, ⟨36, _⟩ => ⟨S32x8x8x8, .f32⟩
  | .hbm, ⟨37, _⟩ => ⟨S1x8x1x8, .f32⟩
  | .hbm, ⟨38, _⟩ => ⟨S32x8x8x8, .f32⟩
  | .hbm, ⟨39, _⟩ => ⟨S32x8x8x8, .f32⟩
  | .hbm, ⟨40, _⟩ => ⟨S1x8x1x8, .f32⟩
  | .hbm, ⟨41, _⟩ => ⟨S32x8x8x8, .f32⟩
  | .hbm, ⟨42, _⟩ => ⟨S32x8x8x8, .f32⟩
  | .hbm, ⟨43, _⟩ => ⟨S32x8x8x8, .f32⟩
  | .hbm, ⟨44, _⟩ => ⟨S32x8x8x48, .f32⟩
  | .hbm, ⟨45, _⟩ => ⟨S32x8x8x64, .f32⟩
  | .hbm, ⟨46, _⟩ => ⟨S32x8x2x64, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S8, .f32⟩
  | .hbm, ⟨56, _⟩ => ⟨S8x1, .f32⟩
  | .hbm, ⟨57, _⟩ => ⟨S1x8, .f32⟩
  | .hbm, ⟨58, _⟩ => ⟨S8x8, .f32⟩
  | .hbm, ⟨59, _⟩ => ⟨S8x8, .f32⟩
  | .hbm, ⟨60, _⟩ => ⟨S8x8, .f32⟩
  | .hbm, ⟨61, _⟩ => ⟨S8x8, .f32⟩
  | .hbm, ⟨62, _⟩ => ⟨S8x1x8, .f32⟩
  | .hbm, ⟨63, _⟩ => ⟨S8x8, .f32⟩
  | .hbm, ⟨64, _⟩ => ⟨S8x1x8, .f32⟩
  | .hbm, ⟨65, _⟩ => ⟨S32x8x2x8, .f32⟩
  | .hbm, ⟨66, _⟩ => ⟨S32x8x2x8, .f32⟩
  | .hbm, ⟨67, _⟩ => ⟨S1x8x1x8, .f32⟩
  | .hbm, ⟨68, _⟩ => ⟨S32x8x2x8, .f32⟩
  | .hbm, ⟨69, _⟩ => ⟨S32x8x2x8, .f32⟩
  | .hbm, ⟨70, _⟩ => ⟨S1x8x1x8, .f32⟩
  | .hbm, ⟨71, _⟩ => ⟨S32x8x2x8, .f32⟩
  | .hbm, ⟨72, _⟩ => ⟨S32x8x2x8, .f32⟩
  | .hbm, ⟨73, _⟩ => ⟨S32x8x2x8, .f32⟩
  | .hbm, ⟨74, _⟩ => ⟨S1x8x1x8, .f32⟩
  | .hbm, ⟨75, _⟩ => ⟨S32x8x2x8, .f32⟩
  | .hbm, ⟨76, _⟩ => ⟨S32x8x2x8, .f32⟩
  | .hbm, ⟨77, _⟩ => ⟨S1x8x1x8, .f32⟩
  | .hbm, ⟨78, _⟩ => ⟨S32x8x2x8, .f32⟩
  | .hbm, ⟨79, _⟩ => ⟨S32x8x2x8, .f32⟩
  | .hbm, ⟨80, _⟩ => ⟨S32x8x2x8, .f32⟩
  | .hbm, ⟨81, _⟩ => ⟨S32x8x2x48, .f32⟩
  | .hbm, ⟨82, _⟩ => ⟨S32x8x2x64, .f32⟩
  | .hbm, ⟨83, _⟩ => ⟨S32x8x1x64, .f32⟩
  | .hbm, ⟨84, _⟩ => ⟨S8, .f32⟩
  | .hbm, ⟨85, _⟩ => ⟨S8, .f32⟩
  | .hbm, ⟨86, _⟩ => ⟨S_, .f32⟩
  | .hbm, ⟨87, _⟩ => ⟨S8, .f32⟩
  | .hbm, ⟨88, _⟩ => ⟨S8, .f32⟩
  | .hbm, ⟨89, _⟩ => ⟨S_, .f32⟩
  | .hbm, ⟨90, _⟩ => ⟨S8, .f32⟩
  | .hbm, ⟨91, _⟩ => ⟨S8, .f32⟩
  | .hbm, ⟨92, _⟩ => ⟨S8, .f32⟩
  | .hbm, ⟨93, _⟩ => ⟨S8x1, .f32⟩
  | .hbm, ⟨94, _⟩ => ⟨S1x8, .f32⟩
  | .hbm, ⟨95, _⟩ => ⟨S8x8, .f32⟩
  | .hbm, ⟨96, _⟩ => ⟨S8x8, .f32⟩
  | .hbm, ⟨97, _⟩ => ⟨S8x8, .f32⟩
  | .hbm, ⟨98, _⟩ => ⟨S8x8, .f32⟩
  | .hbm, ⟨99, _⟩ => ⟨S8x1x8, .f32⟩
  | .hbm, ⟨100, _⟩ => ⟨S8x8, .f32⟩
  | .hbm, ⟨101, _⟩ => ⟨S8x1x8, .f32⟩
  | .hbm, ⟨102, _⟩ => ⟨S32x8x1x8, .f32⟩
  | .hbm, ⟨103, _⟩ => ⟨S32x8x1x8, .f32⟩
  | .hbm, ⟨104, _⟩ => ⟨S1x8x1x8, .f32⟩
  | .hbm, ⟨105, _⟩ => ⟨S32x8x1x8, .f32⟩
  | .hbm, ⟨106, _⟩ => ⟨S32x8x1x8, .f32⟩
  | .hbm, ⟨107, _⟩ => ⟨S1x8x1x8, .f32⟩
  | .hbm, ⟨108, _⟩ => ⟨S32x8x1x8, .f32⟩
  | .hbm, ⟨109, _⟩ => ⟨S32x8x1x8, .f32⟩
  | .hbm, ⟨110, _⟩ => ⟨S32x8x1x8, .f32⟩
  | .hbm, ⟨111, _⟩ => ⟨S1x8x1x8, .f32⟩
  | .hbm, ⟨112, _⟩ => ⟨S32x8x1x8, .f32⟩
  | .hbm, ⟨113, _⟩ => ⟨S32x8x1x8, .f32⟩
  | .hbm, ⟨114, _⟩ => ⟨S1x8x1x8, .f32⟩
  | .hbm, ⟨115, _⟩ => ⟨S32x8x1x8, .f32⟩
  | .hbm, ⟨116, _⟩ => ⟨S32x8x1x8, .f32⟩
  | .hbm, ⟨117, _⟩ => ⟨S32x8x1x8, .f32⟩
  | .hbm, ⟨118, _⟩ => ⟨S32x8x1x48, .f32⟩
  | .hbm, ⟨119, _⟩ => ⟨S32x8x1x64, .f32⟩
  | .hbm, ⟨120, _⟩ => ⟨S256x512, .f32⟩
  | .hbm, ⟨121, _⟩ => ⟨S256x128, .f32⟩
  | .hbm, ⟨122, _⟩ => ⟨S256x64, .f32⟩
  | _, _ => ⟨S256x3968, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_cst_1 : Ref sig .tc := ⟨.hbm, 49, rfl⟩
abbrev main_v45 : Ref sig .tc := ⟨.hbm, 50, rfl⟩
abbrev main_v46 : Ref sig .tc := ⟨.hbm, 51, rfl⟩
abbrev main_cst_2 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_cst_3 : Ref sig .tc := ⟨.hbm, 86, rfl⟩
abbrev main_v80 : Ref sig .tc := ⟨.hbm, 87, rfl⟩
abbrev main_v81 : Ref sig .tc := ⟨.hbm, 88, rfl⟩
abbrev main_cst_4 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩

abbrev nD : Nat := 1
abbrev τ : Topo := Topo.v7x

variable {F : FTy → Type} [FloatOps F]
-- ==== NormProjSample.lean ====
abbrev S256x1024 : Shape := ⟨2, ![256, 1024]⟩
abbrev S1024 : Shape := ⟨1, ![1024]⟩
abbrev S1024x3912 : Shape := ⟨2, ![1024, 3912]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1024 : Shape := ⟨2, ![1024, 1024]⟩
abbrev S_ : Shape := ⟨0, ![]⟩
abbrev S1024x56 : Shape := ⟨2, ![1024, 56]⟩
abbrev S1024x3968 : Shape := ⟨2, ![1024, 3968]⟩
abbrev S1x1024 : Shape := ⟨2, ![1, 1024]⟩
abbrev S256x3968 : Shape := ⟨2, ![256, 3968]⟩
abbrev S256 : Shape := ⟨1, ![256]⟩
abbrev S256x1 : Shape := ⟨2, ![256, 1]⟩
abbrev S256x512 : Shape := ⟨2, ![256, 512]⟩
abbrev S1024x384 : Shape := ⟨2, ![1024, 384]⟩
abbrev S256x384 : Shape := ⟨2, ![256, 384]⟩

abbrev nBuf : Space → Nat
  | .hbm => 18
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x3912, .f32⟩
  | .hbm, ⟨3, _⟩ => ⟨S1024x512, .f32⟩
  | .hbm, ⟨4, _⟩ => ⟨S1024x512, .f32⟩
  | .hbm, ⟨5, _⟩ => ⟨S1024x128, .f32⟩
  | .hbm, ⟨6, _⟩ => ⟨S1024x128, .f32⟩
  | .hbm, ⟨7, _⟩ => ⟨S1024x512, .f32⟩
  | .hbm, ⟨8, _⟩ => ⟨S1024x64, .f32⟩
  | .hbm, ⟨9, _⟩ => ⟨S1024x8, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x56, .f32⟩
  | .hbm, ⟨14, _⟩ => ⟨S1024x3968, .f32⟩
  | .hbm, ⟨15, _⟩ => ⟨S1024x3968, .bf16⟩
  | .hbm, ⟨16, _⟩ => ⟨S1x1024, .f32⟩
  | .hbm, ⟨17, _⟩ => ⟨S256x3968, .f32⟩
  | .local _ .vmem, ⟨0, _⟩ => ⟨S256x1024, .f32⟩
  | .local _ .vmem, ⟨1, _⟩ => ⟨S1x1024, .f32⟩
  | .local _ .vmem, ⟨2, _⟩ => ⟨S1024x3968, .bf16⟩
  | .local _ .vmem, ⟨3, _⟩ => ⟨S256x3968, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x3968 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== NormProjSampleRefIdeal.lean ====
abbrev S256x1024 : Shape := ⟨2, ![256, 1024]⟩
abbrev S1024 : Shape := ⟨1, ![1024]⟩
abbrev S1024x3912 : Shape := ⟨2, ![1024, 3912]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x3912 : Shape := ⟨2, ![256, 3912]⟩
abbrev S256x512 : Shape := ⟨2, ![256, 512]⟩
abbrev S256x128 : Shape := ⟨2, ![256, 128]⟩
abbrev S256x64 : Shape := ⟨2, ![256, 64]⟩
abbrev S256x8 : Shape := ⟨2, ![256, 8]⟩
abbrev S256x56 : Shape := ⟨2, ![256, 56]⟩
abbrev S256x3968 : Shape := ⟨2, ![256, 3968]⟩

abbrev nBuf : Space → Nat
  | .hbm => 32
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x3912, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x3912, .f32⟩
  | .hbm, ⟨20, _⟩ => ⟨S256x512, .f32⟩
  | .hbm, ⟨21, _⟩ => ⟨S256x512, .f32⟩
  | .hbm, ⟨22, _⟩ => ⟨S256x128, .f32⟩
  | .hbm, ⟨23, _⟩ => ⟨S256x128, .f32⟩
  | .hbm, ⟨24, _⟩ => ⟨S256x512, .f32⟩
  | .hbm, ⟨25, _⟩ => ⟨S256x64, .f32⟩
  | .hbm, ⟨26, _⟩ => ⟨S256x8, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x56, .f32⟩
  | .hbm, ⟨31, _⟩ => ⟨S256x3968, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== MergeSample.lean ====
abbrev S256x1024 : Shape := ⟨2, ![256, 1024]⟩
abbrev S256x512 : Shape := ⟨2, ![256, 512]⟩
abbrev S256x3968 : Shape := ⟨2, ![256, 3968]⟩
abbrev S512x1024 : Shape := ⟨2, ![512, 1024]⟩
abbrev S1024x1024 : Shape := ⟨2, ![1024, 1024]⟩

abbrev nBuf : Space → Nat
  | .hbm => 11
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x512, .bf16⟩
  | .hbm, ⟨2, _⟩ => ⟨S256x512, .bf16⟩
  | .hbm, ⟨3, _⟩ => ⟨S256x3968, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S256x1024, .f32⟩
  | .local _ .vmem, ⟨0, _⟩ => ⟨S256x1024, .f32⟩
  | .local _ .vmem, ⟨1, _⟩ => ⟨S256x512, .bf16⟩
  | .local _ .vmem, ⟨2, _⟩ => ⟨S256x512, .bf16⟩
  | .local _ .vmem, ⟨3, _⟩ => ⟨S256x1024, .f32⟩
  | .local _ .vmem, ⟨4, _⟩ => ⟨S256x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== MergeSampleRefIdeal.lean ====
abbrev S256x1024 : Shape := ⟨2, ![256, 1024]⟩
abbrev S256x512 : Shape := ⟨2, ![256, 512]⟩
abbrev S256x3968 : Shape := ⟨2, ![256, 3968]⟩
abbrev S512x1024 : Shape := ⟨2, ![512, 1024]⟩
abbrev S1024x1024 : Shape := ⟨2, ![1024, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x512, .bf16⟩
  | .hbm, ⟨2, _⟩ => ⟨S256x512, .bf16⟩
  | .hbm, ⟨3, _⟩ => ⟨S256x3968, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S256x1024, .f32⟩
  | .hbm, ⟨8, _⟩ => ⟨S256x1024, .f32⟩
  | .hbm, ⟨9, _⟩ => ⟨S256x512, .f32⟩
  | .hbm, ⟨10, _⟩ => ⟨S256x512, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== FfnInner.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnInnerIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnInnerRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== FfnInnerSample.lean ====
abbrev S256x1024 : Shape := ⟨2, ![256, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x256 : Shape := ⟨2, ![1024, 256]⟩
abbrev S256 : Shape := ⟨1, ![256]⟩
abbrev S256x1 : Shape := ⟨2, ![256, 1]⟩
abbrev S256x256 : Shape := ⟨2, ![256, 256]⟩

abbrev nBuf : Space → Nat
  | .hbm => 12
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnInnerSampleRefIdeal.lean ====
abbrev S256x1024 : Shape := ⟨2, ![256, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2816 : Shape := ⟨2, ![256, 2816]⟩

abbrev nBuf : Space → Nat
  | .hbm => 36
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x2816, .f32⟩
  | .hbm, ⟨23, _⟩ => ⟨S256x2816, .f32⟩
  | .hbm, ⟨24, _⟩ => ⟨S256x2816, .f32⟩
  | .hbm, ⟨25, _⟩ => ⟨S_, .f32⟩
  | .hbm, ⟨26, _⟩ => ⟨S256x2816, .f32⟩
  | .hbm, ⟨27, _⟩ => ⟨S256x2816, .f32⟩
  | .hbm, ⟨28, _⟩ => ⟨S_, .f32⟩
  | .hbm, ⟨29, _⟩ => ⟨S256x2816, .f32⟩
  | .hbm, ⟨30, _⟩ => ⟨S256x2816, .f32⟩
  | .hbm, ⟨31, _⟩ => ⟨S256x2816, .f32⟩
  | .hbm, ⟨32, _⟩ => ⟨S256x2816, .f32⟩
  | .hbm, ⟨33, _⟩ => ⟨S256x2816, .f32⟩
  | .hbm, ⟨34, _⟩ => ⟨S256x1024, .f32⟩
  | .hbm, ⟨35, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Proof.Common.lean ====
/- What the value proofs of the calls share: the logistic function over the extended reals, the scale of a root-mean-square
   norm, and reading a window's block at an index. -/
module

public import Idealize.ShloMosaic.Lib.Pointwise
public import Idealize.ShloMosaic.Lib.VecWindow
public import Idealize.ShloMosaic.Lib.Pipeline.Value

@[expose] public section

noncomputable section

namespace Cert.Common

open Idealize.ShloMosaic

/-- The logistic function as both programs spell it: one divided by one plus the exponential of the negated argument. -/
def sigm (x : EReal) : EReal := Ideal.div (Ideal.ofBits .f32 0x3F800000#32) (Ideal.ofBits .f32 0x3F800000#32 + Ideal.exp (-x))

/-- The two zero offsets of a load or a store of a whole rank-two buffer. -/
theorem hz : (![0, 0] : Fin 2 → Nat) = fun _ => 0 := funext fun a => by fin_cases a <;> rfl

/-- One entry of a row scaled to unit mean square, times a gain. -/
def normed (x g : Fin 1024 → EReal) (l : Fin 1024) : EReal :=
  x l * Ideal.rsqrt (Ideal.div (∑ k, x k * x k) (Ideal.ofBits .f32 0x44800000#32) + Ideal.ofBits .f32 0x358637BD#32) * g l

/-- A load of a whole rank-two buffer reads the buffer. -/
theorem ld_zero {e : EltTy} {a b : Nat} (x : Vec Ideal ⟨2, ![a, b]⟩ e)
    (h : ∀ k, (![0, 0] : Fin 2 → Nat) k + (![a, b] : Fin 2 → Nat) k ≤ (⟨2, ![a, b]⟩ : Shape).size k) :
    View.ld x (Rect.unit (s := ⟨2, ![a, b]⟩) ![0, 0] ![a, b] h) = x :=
  View.ld_unit_zero (S := ⟨2, ![a, b]⟩) (off := ![0, 0]) hz h x

/-- A load of a whole rank-two buffer right after a store of it whole reads what was stored. -/
theorem cov_zero {sig : RefSig} {κ : Kind} {sp : Space} {e : EltTy} {a b : Nat} (v : View sig κ sp ⟨2, ![a, b]⟩ e)
    (h h' : ∀ k, (![0, 0] : Fin 2 → Nat) k + (![a, b] : Fin 2 → Nat) k ≤ (⟨2, ![a, b]⟩ : Shape).size k) (w : Vec Ideal ⟨2, ![a, b]⟩ e)
    (L : List (View.Piece (Elt Ideal) ⟨2, ![a, b]⟩ e)) :
    v.readCov (⟨Rect.unit (s := ⟨2, ![a, b]⟩) ![0, 0] ![a, b] h', w⟩ :: L)
      (Rect.unit (s := ⟨2, ![a, b]⟩) ![0, 0] ![a, b] h).toLoadRect = w :=
  View.readCov_full v (off := ![0, 0]) (off' := ![0, 0]) h h' w L

/-- One entry of the gated product: the gate times its sigmoid times the other projection. -/
def act (h a b : Fin 1024 → EReal) : EReal := (∑ k, h k * a k) * sigm (∑ k, h k * a k) * (∑ k, h k * b k)

/-- What the chunk `k` of 256 of the hidden dimension's positions adds up to. -/
def chunkOf (f : Fin 2816 → EReal) (k : ℕ) : EReal := ∑ q : Fin 256, f ⟨k % 11 * 256 + q.val, by omega⟩

/-- The sum over the hidden dimension is the sum of its eleven chunks. -/
theorem sum_chunks (f : Fin 2816 → EReal) : ∑ k, f k = ∑ k ∈ Finset.range 11, chunkOf f k := by
  rw [Finset.sum_range, ← (finProdFinEquiv (m := 11) (n := 256)).sum_comp, Fintype.sum_prod_type]
  refine Finset.sum_congr rfl fun k _ => Finset.sum_congr rfl fun q _ => congrArg f (Fin.ext ?_)
  show q.val + 256 * k.val = k.val % 11 * 256 + q.val
  omega

/-- A chunk is named by its number among the eleven. -/
theorem chunkOf_mod (f : Fin 2816 → EReal) (n : ℕ) : chunkOf f (n % 11) = chunkOf f n := by
  unfold chunkOf
  refine Finset.sum_congr rfl fun q _ => congrArg f (Fin.ext ?_)
  show n % 11 % 11 * 256 + q.val = n % 11 * 256 + q.val
  omega

end Cert.Common
-- ==== Proof.FfnValue.lean ====
/- The feed-forward block with its two norms: what the call leaves in its result is what the reference computes. Sixteen row
   blocks are taken one after another, each over eleven points: the first norms the rows and starts the sum at zero, every point
   adds what 256 positions of the hidden dimension give, and the last adds the residual and norms the sum. So the scratch that
   holds the sum is followed along a run of eleven points (`state`), and the eleven chunks are put together (`sum_chunks`). -/
module

public import proofs.«01_k».proof.Proof.Common
public import proofs.«01_k».proof.Proof.Gen.FfnIdeal.Value
public import proofs.«01_k».proof.Proof.Gen.FfnRefIdeal.Read

@[expose] public section

set_option maxRecDepth 16384

noncomputable section

namespace Cert.FfnIdeal.RefValue

open Cert.Common Cert.FfnIdeal Cert.FfnIdeal.Gen Cert.FfnIdeal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the first point of a run stores in the hidden scratch: the normed rows, at an index. -/
theorem pay1_apply (v31 : Vec Ideal S1024x1024 .f32) (v32 : Vec Ideal S1x1024 .f32) (r l : Fin 1024) :
    k0_pay1 v31 v32 (ix2 r l) = normed (fun k => v31 (ix2 r k)) (fun k => v32 (ix2 (0 : Fin 1) k)) l := by
  unfold normed
  pointwise [k0_pay1]

/-- The sum starts at zero. -/
theorem pay2_apply (r l : Fin 1024) : k0_pay2 (F := Ideal) (ix2 r l) = 0 := by
  pointwise [k0_pay2]

/-- What a point adds to the sum, at an index. -/
theorem pay3_apply (v3 : Vec Ideal S1024x1024 .bf16) (v4 v7 : Vec Ideal S1024x256 .bf16) (v20 : Vec Ideal S1024x1024 .f32)
    (v21 : Vec Ideal S256x1024 .bf16) (r l : Fin 1024) :
    k0_pay3 v3 v4 v7 v20 v21 (ix2 r l)
      = v20 (ix2 r l) + ∑ q : Fin 256, act (fun k => v3 (ix2 r k)) (fun k => v4 (ix2 k q)) (fun k => v7 (ix2 k q)) * v21 (ix2 q l) := by
  unfold act sigm
  pointwise [k0_pay3]
  simp only [zero_sub]

/-- What the last point stores in the result block: the residual and the sum, normed. -/
theorem pay4_apply (v31 v32 : Vec Ideal S1024x1024 .f32) (v34 : Vec Ideal S1x1024 .f32) (r l : Fin 1024) :
    k0_pay4 v31 v32 v34 (ix2 r l) = normed (fun k => v31 (ix2 r k) + v32 (ix2 r k)) (fun k => v34 (ix2 (0 : Fin 1) k)) l := by
  unfold normed
  pointwise [k0_pay4]

section Reference
open Cert.FfnRefIdeal.Read

/-- The reference, at an index. -/
theorem ref_apply (x0 : Vec Ideal S16384x1024 .f32) (x1 : Vec Ideal S1024 .f32) (x2 x3 : Vec Ideal S1024x2816 .f32)
    (x4 : Vec Ideal S2816x1024 .f32) (x5 : Vec Ideal S1024 .f32) (r : Fin 16384) (l : Fin 1024) :
    val_main_v31 (F := Ideal) x0 x1 x2 x3 x4 x5 (ix2 r l)
      = normed (fun k => x0 (ix2 r k) + ∑ f : Fin 2816, act (normed (fun q => x0 (ix2 r q)) (fun q => x1 (ix1 q)))
          (fun q => x2 (ix2 q f)) (fun q => x3 (ix2 q f)) * x4 (ix2 f k)) (fun k => x5 (ix1 k)) l := by
  unfold normed act sigm
  beta_reduce
  pointwise [val_main_v31, val_main_v30, val_main_v29, val_main_v28, val_main_v27, val_main_v26, val_main_v25, val_main_v24, val_main_cst_4, val_main_v23, val_main_v22, val_main_cst_3, val_main_v21, val_main_v20, val_main_cst_2, val_main_v19, val_main_v18, val_main_v17, val_main_v16, val_main_v15, val_main_v14, val_main_call0_v5, val_main_call0_v4, val_main_call0_cst_0, val_main_call0_v3, val_main_call0_v2, val_main_call0_cst, val_main_call0_v1, val_main_call0_v0, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

end Reference

section A
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 : Vec Ideal S1024x1024 .f32) (x1 : Vec Ideal S1x1024 .f32) (x2 : Vec Ideal S1024x256 .bf16) (x3 : Vec Ideal S1024x256 .bf16) (x4 : Vec Ideal S256x1024 .bf16) (x5 : Vec Ideal S1x1024 .f32) (xs0 : Vec Ideal S1024x1024 .bf16) (xs1 : Vec Ideal S1024x1024 .f32)

/-- The hidden scratch after the first point of a run. -/
theorem h_first (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 x5
      = k0_pay1 x0 x1 := by
  unfold sout0_A_0
  rw [View.read_writes_junk_eq_canon]
  unfold kernelRun0_A
  dsimp only
  sl_unfold_words
  rw [View.canon_cons_unit_zero hz]
  simp only [cov_zero, View.readAt_eq_ld, Memref.IsWhole.read_unread, ld_zero]

/-- The sum after the first point of a run. -/
theorem acc_first (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 x3 x4 x5
      = k0_pay3 (k0_pay1 x0 x1) x2 x3 (k0_pay2 (F := Ideal)) x4 := by
  unfold sout0_A_1
  rw [View.read_writes_junk_eq_canon]
  unfold kernelRun0_A
  dsimp only
  sl_unfold_words
  rw [View.canon_cons_unit_zero hz]
  simp only [cov_zero, View.readAt_eq_ld, Memref.IsWhole.read_unread, ld_zero]

/-- The sum after a later point of a run that is not its last. -/
theorem acc_next (hc0 : ¬cond0_0 i) (hc1 : ¬cond0_1 i) :
    sout0_B_1 c i arg2 harg2 arg3 harg3 arg4 harg4 arg5 harg5 arg6 harg6 arg7 harg7 arg8 harg8 arg9 harg9 arg10 harg10 hc0 hc1 x0 x1 x2 x3 x4 x5 xs0 xs1
      = k0_pay3 xs0 x2 x3 xs1 x4 := by
  unfold sout0_B_1
  rw [View.read_writes_junk_eq_canon]
  unfold kernelRun0_B
  dsimp only
  sl_unfold_words
  rw [View.canon_cons_unit_zero hz]
  simp only [cov_zero, View.readAt_eq_ld, Memref.IsWhole.read_unread, ld_zero]

/-- The result block after the last point of a run. -/
theorem out_last (hc0 : ¬cond0_0 i) (hc1 : cond0_1 i) :
    out0_C_6 c i arg2 harg2 arg3 harg3 arg4 harg4 arg5 harg5 arg6 harg6 arg7 harg7 arg8 harg8 arg9 harg9 arg10 harg10 hc0 hc1 x0 x1 x2 x3 x4 x5 xs0 xs1
      = k0_pay4 x0 (k0_pay3 xs0 x2 x3 xs1 x4) x5 := by
  unfold out0_C_6
  rw [View.read_writes_junk_eq_canon]
  unfold kernelRun0_C
  dsimp only
  sl_unfold_words
  rw [View.canon_cons_unit_zero hz]
  simp only [cov_zero, View.readAt_eq_ld, Memref.IsWhole.read_unread, ld_zero]
end A

/-! ## The blocks -/

/-- Which block of each array a point stages or writes. -/
theorem idx0 : ∀ t : Fin cfg0.N, win0_0.index t (0 : Fin 2) = t.val / 11 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 11 := (by decide +kernel : ∀ t : Fin grid0.N, _)
theorem idx3 : ∀ t : Fin cfg0.N, win0_3.index t (0 : Fin 2) = 0 ∧ win0_3.index t (1 : Fin 2) = t.val % 11 := (by decide +kernel : ∀ t : Fin grid0.N, _)
theorem idx4 : ∀ t : Fin cfg0.N, win0_4.index t (0 : Fin 2) = t.val % 11 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.val / 11 ∧ win0_6.index t (1 : Fin 2) = 0 := (by decide +kernel : ∀ t : Fin grid0.N, _)

/-- Row `r` of the row block at point `t` is this row of the array. -/
def row (t : Fin cfg0.N) (r : Fin 1024) : Fin 16384 := ⟨t.val / 11 * 1024 + r.val, by have : t.val < 176 := t.isLt; omega⟩
/-- Position `q` of the chunk at point `t` is this position of the hidden dimension. -/
def pos (t : Fin cfg0.N) (q : Fin 256) : Fin 2816 := ⟨t.val % 11 * 256 + q.val, by omega⟩

/-- Where an index of a block at point `t` lies in its array. -/
theorem emb0 (t : Fin cfg0.N) (r : Fin 1024) (l : Fin 1024) : ((cfg0.win 0).blk t).view.emb (ix2 r l) = ix2 (row t r) l := by
  obtain ⟨e0, e1⟩ := idx0 t
  funext a; apply Fin.ext
  match a with
  | ⟨0, _⟩ => show win0_0.index t (0 : Fin 2) * 1024 + 1 * r.val = t.val / 11 * 1024 + r.val; omega
  | ⟨1, _⟩ => show win0_0.index t (1 : Fin 2) * 1024 + 1 * l.val = l.val; omega
theorem emb1 (t : Fin cfg0.N) (r : Fin 1) (l : Fin 1024) : ((cfg0.win 1).blk t).view.emb (ix2 r l) = ix2 r l := by
  obtain ⟨e0, e1⟩ := idx1 t
  funext a; apply Fin.ext
  match a with
  | ⟨0, _⟩ => show win0_1.index t (0 : Fin 2) * 1 + 1 * r.val = r.val; omega
  | ⟨1, _⟩ => show win0_1.index t (1 : Fin 2) * 1024 + 1 * l.val = l.val; omega
theorem emb2 (t : Fin cfg0.N) (r : Fin 1024) (q : Fin 256) : ((cfg0.win 2).blk t).view.emb (ix2 r q) = ix2 r (pos t q) := by
  obtain ⟨e0, e1⟩ := idx2 t
  funext a; apply Fin.ext
  match a with
  | ⟨0, _⟩ => show win0_2.index t (0 : Fin 2) * 1024 + 1 * r.val = r.val; omega
  | ⟨1, _⟩ => show win0_2.index t (1 : Fin 2) * 256 + 1 * q.val = t.val % 11 * 256 + q.val; omega
theorem emb3 (t : Fin cfg0.N) (r : Fin 1024) (q : Fin 256) : ((cfg0.win 3).blk t).view.emb (ix2 r q) = ix2 r (pos t q) := by
  obtain ⟨e0, e1⟩ := idx3 t
  funext a; apply Fin.ext
  match a with
  | ⟨0, _⟩ => show win0_3.index t (0 : Fin 2) * 1024 + 1 * r.val = r.val; omega
  | ⟨1, _⟩ => show win0_3.index t (1 : Fin 2) * 256 + 1 * q.val = t.val % 11 * 256 + q.val; omega
theorem emb4 (t : Fin cfg0.N) (q : Fin 256) (l : Fin 1024) : ((cfg0.win 4).blk t).view.emb (ix2 q l) = ix2 (pos t q) l := by
  obtain ⟨e0, e1⟩ := idx4 t
  funext a; apply Fin.ext
  match a with
  | ⟨0, _⟩ => show win0_4.index t (0 : Fin 2) * 256 + 1 * q.val = t.val % 11 * 256 + q.val; omega
  | ⟨1, _⟩ => show win0_4.index t (1 : Fin 2) * 1024 + 1 * l.val = l.val; omega
theorem emb5 (t : Fin cfg0.N) (r : Fin 1) (l : Fin 1024) : ((cfg0.win 5).blk t).view.emb (ix2 r l) = ix2 r l := by
  obtain ⟨e0, e1⟩ := idx5 t
  funext a; apply Fin.ext
  match a with
  | ⟨0, _⟩ => show win0_5.index t (0 : Fin 2) * 1 + 1 * r.val = r.val; omega
  | ⟨1, _⟩ => show win0_5.index t (1 : Fin 2) * 1024 + 1 * l.val = l.val; omega
theorem emb6 (t : Fin cfg0.N) (r : Fin 1024) (l : Fin 1024) : ((cfg0.win 6).blk t).view.emb (ix2 r l) = ix2 (row t r) l := by
  obtain ⟨e0, e1⟩ := idx6 t
  funext a; apply Fin.ext
  match a with
  | ⟨0, _⟩ => show win0_6.index t (0 : Fin 2) * 1024 + 1 * r.val = t.val / 11 * 1024 + r.val; omega
  | ⟨1, _⟩ => show win0_6.index t (1 : Fin 2) * 1024 + 1 * l.val = l.val; omega

/-- The host's conversions leave the weights as they were, and its reshapes lay the gains out in one row. -/
theorem V_v0 (c : Dev nD) (i : S1024x2816.Idx) : V m c main_v0 i = m ((c : Thread nD τ).loc main_arg2) i := by
  simp only [V, hostOps0, StableHlo.after_cons, StableHlo.after_nil]
  rfl
theorem V_v1 (c : Dev nD) (i : S1024x2816.Idx) : V m c main_v1 i = m ((c : Thread nD τ).loc main_arg3) i := by
  simp only [V, hostOps0, StableHlo.after_cons, StableHlo.after_nil]
  rfl
theorem V_v2 (c : Dev nD) (i : S2816x1024.Idx) : V m c main_v2 i = m ((c : Thread nD τ).loc main_arg4) i := by
  simp only [V, hostOps0, StableHlo.after_cons, StableHlo.after_nil]
  rfl
theorem V_v3 (c : Dev nD) (l : Fin 1024) : V m c main_v3 (ix2 (0 : Fin 1) l) = m ((c : Thread nD τ).loc main_arg1) (ix1 l) := by
  have e : V m c main_v3 = shapeCast S1x1024 (m ((c : Thread nD τ).loc main_arg1) : Vec Ideal S1024 .f32) shapeCasts_S1024_S1x1024 := by
    simp only [V, hostOps0, StableHlo.after_cons, StableHlo.after_nil]
    rfl
  rw [e]
  pointwise
theorem V_v4 (c : Dev nD) (l : Fin 1024) : V m c main_v4 (ix2 (0 : Fin 1) l) = m ((c : Thread nD τ).loc main_arg5) (ix1 l) := by
  have e : V m c main_v4 = shapeCast S1x1024 (m ((c : Thread nD τ).loc main_arg5) : Vec Ideal S1024 .f32) shapeCasts_S1024_S1x1024 := by
    simp only [V, hostOps0, StableHlo.after_cons, StableHlo.after_nil]
    rfl
  rw [e]
  pointwise

/-- The blocks' entries, of the argument arrays. -/
theorem blk0 (c : Dev nD) (t : Fin cfg0.N) (r l : Fin 1024) : iblk m c 0 t (ix2 r l) = m ((c : Thread nD τ).loc main_arg0) (ix2 (row t r) l) :=
  (show _ = V m c main_arg0 (((cfg0.win 0).blk t).view.emb (ix2 r l)) from rfl).trans (by rw [emb0, V_main_arg0])
theorem blk1 (c : Dev nD) (t : Fin cfg0.N) (l : Fin 1024) : iblk m c 1 t (ix2 (0 : Fin 1) l) = m ((c : Thread nD τ).loc main_arg1) (ix1 l) :=
  (show _ = V m c main_v3 (((cfg0.win 1).blk t).view.emb (ix2 (0 : Fin 1) l)) from rfl).trans (by rw [emb1, V_v3])
theorem blk2 (c : Dev nD) (t : Fin cfg0.N) (k : Fin 1024) (q : Fin 256) : iblk m c 2 t (ix2 k q) = m ((c : Thread nD τ).loc main_arg2) (ix2 k (pos t q)) :=
  (show _ = V m c main_v0 (((cfg0.win 2).blk t).view.emb (ix2 k q)) from rfl).trans (by rw [emb2, V_v0])
theorem blk3 (c : Dev nD) (t : Fin cfg0.N) (k : Fin 1024) (q : Fin 256) : iblk m c 3 t (ix2 k q) = m ((c : Thread nD τ).loc main_arg3) (ix2 k (pos t q)) :=
  (show _ = V m c main_v1 (((cfg0.win 3).blk t).view.emb (ix2 k q)) from rfl).trans (by rw [emb3, V_v1])
theorem blk4 (c : Dev nD) (t : Fin cfg0.N) (q : Fin 256) (l : Fin 1024) : iblk m c 4 t (ix2 q l) = m ((c : Thread nD τ).loc main_arg4) (ix2 (pos t q) l) :=
  (show _ = V m c main_v2 (((cfg0.win 4).blk t).view.emb (ix2 q l)) from rfl).trans (by rw [emb4, V_v2])
theorem blk5 (c : Dev nD) (t : Fin cfg0.N) (l : Fin 1024) : iblk m c 5 t (ix2 (0 : Fin 1) l) = m ((c : Thread nD τ).loc main_arg5) (ix1 l) :=
  (show _ = V m c main_v4 (((cfg0.win 5).blk t).view.emb (ix2 (0 : Fin 1) l)) from rfl).trans (by rw [emb5, V_v4])

/-! ## The two scratches, point by point -/

/-- The normed row `R` of the argument. -/
def hid (c : Dev nD) (R : Fin 16384) : Fin 1024 → EReal :=
  normed (fun q => m ((c : Thread nD τ).loc main_arg0) (ix2 R q)) (fun q => m ((c : Thread nD τ).loc main_arg1) (ix1 q))

/-- What position `f` of the hidden dimension adds to entry `l` of row `R`. -/
def term (c : Dev nD) (R : Fin 16384) (l : Fin 1024) (f : Fin 2816) : EReal :=
  act (hid m c R) (fun q => m ((c : Thread nD τ).loc main_arg2) (ix2 q f)) (fun q => m ((c : Thread nD τ).loc main_arg3) (ix2 q f))
    * m ((c : Thread nD τ).loc main_arg4) (ix2 f l)

/-- The step of the accumulator at a point whose hidden scratch holds the normed rows. -/
theorem step_apply (c : Dev nD) (t : Fin cfg0.N) (h : Vec Ideal S1024x1024 .bf16) (a : Vec Ideal S1024x1024 .f32)
    (r l : Fin 1024) (hh : ∀ k, h (ix2 r k) = hid m c (row t r) k) :
    k0_pay3 h (iblk m c 2 t) (iblk m c 3 t) a (iblk m c 4 t) (ix2 r l) = a (ix2 r l) + chunkOf (term m c (row t r) l) t.val := by
  rw [pay3_apply]
  simp only [hh, blk2, blk3, blk4]
  rfl

/-- After the first point of a run. -/
theorem state_first (c : Dev nD) (t : Fin cfg0.N) (h0 : t.val % 11 = 0) (h1 : ¬t.val % 11 = 10) (r l : Fin 1024) :
    (outsAt0 m c t.val t.isLt).2.1 (ix2 r l) = hid m c (row t r) l
      ∧ (outsAt0 m c t.val t.isLt).2.2 (ix2 r l) = ∑ k ∈ Finset.range (t.val % 11 + 1), chunkOf (term m c (row t r) l) k := by
  have hh : ∀ k, k0_pay1 (iblk m c 0 t) (iblk m c 1 t) (ix2 r k) = hid m c (row t r) k := fun k => by
    rw [pay1_apply]
    simp only [blk0, blk1]
    rfl
  rw [outsAt0_A m c t h0 h1]
  dsimp only
  rw [h_first, acc_first, step_apply m c t _ _ r l hh, pay2_apply, zero_add, h0, Finset.sum_range_one, ← chunkOf_mod, h0]
  exact ⟨hh l, rfl⟩

/-- After a later point of a run that is not its last, from the point before. -/
theorem state_next (c : Dev nD) (t : Fin cfg0.N) (h0 : ¬t.val % 11 = 0) (h1 : ¬t.val % 11 = 10) (r l : Fin 1024)
    (hh : ∀ k, (outsAt0 m c (t.val - 1) (Nat.lt_of_le_of_lt (Nat.sub_le _ _) t.isLt)).2.1 (ix2 r k) = hid m c (row t r) k)
    (ha : (outsAt0 m c (t.val - 1) (Nat.lt_of_le_of_lt (Nat.sub_le _ _) t.isLt)).2.2 (ix2 r l)
      = ∑ k ∈ Finset.range (t.val % 11), chunkOf (term m c (row t r) l) k) :
    (outsAt0 m c t.val t.isLt).2.1 (ix2 r l) = hid m c (row t r) l
      ∧ (outsAt0 m c t.val t.isLt).2.2 (ix2 r l) = ∑ k ∈ Finset.range (t.val % 11 + 1), chunkOf (term m c (row t r) l) k := by
  rw [outsAt0_B m c t h0 h1]
  dsimp only
  rw [acc_next, step_apply m c t _ _ r l hh, ha, Finset.sum_range_succ, chunkOf_mod]
  exact ⟨hh l, rfl⟩

/-- The row a point's block starts at is that of the point before, within a run. -/
theorem row_pred (t t' : Fin cfg0.N) (h : t'.val / 11 = t.val / 11) (r : Fin 1024) : row t' r = row t r :=
  Fin.ext (by show t'.val / 11 * 1024 + r.val = t.val / 11 * 1024 + r.val; rw [h])

/-- After a point that is not the last of its run, the first scratch holds the normed rows and the second the chunks so far. -/
theorem state (c : Dev nD) : ∀ (n : ℕ) (hn : n < cfg0.N), ¬n % 11 = 10 → ∀ r l : Fin 1024,
    (outsAt0 m c n hn).2.1 (ix2 r l) = hid m c (row ⟨n, hn⟩ r) l
      ∧ (outsAt0 m c n hn).2.2 (ix2 r l) = ∑ k ∈ Finset.range (n % 11 + 1), chunkOf (term m c (row ⟨n, hn⟩ r) l) k := by
  intro n
  induction n with
  | zero => exact fun hn h1 r l => state_first m c ⟨0, hn⟩ rfl h1 r l
  | succ n ih =>
    intro hn h1 r l
    by_cases h0 : (n + 1) % 11 = 0
    · exact state_first m c ⟨n + 1, hn⟩ h0 h1 r l
    · have p := ih (Nat.lt_of_succ_lt hn) (by omega)
      have e := row_pred ⟨n + 1, hn⟩ ⟨n, Nat.lt_of_succ_lt hn⟩ (show n / 11 = (n + 1) / 11 by omega) r
      have en : n % 11 + 1 = (n + 1) % 11 := by omega
      refine state_next m c ⟨n + 1, hn⟩ h0 h1 r l (fun k => ((p r k).1).trans (by rw [e])) (((p r l).2).trans ?_)
      rw [e, en]

/-- The reference's result, of the kernel's own argument arrays. -/
def G (c : Dev nD) : Vec Ideal S16384x1024 .f32 :=
  Cert.FfnRefIdeal.Read.val_main_v31 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- An entry of the argument. -/
def xent (c : Dev nD) (R : Fin 16384) (k : Fin 1024) : EReal := m ((c : Thread nD τ).loc main_arg0) (ix2 R k)

/-- The reference's result of the kernel's arguments, at an index. -/
theorem G_apply (c : Dev nD) (R : Fin 16384) (l : Fin 1024) :
    G m c (ix2 R l) = normed (fun k => xent m c R k + ∑ f, term m c R k f)
      (fun k => m ((c : Thread nD τ).loc main_arg5) (ix1 k)) l := by
  rw [G, ref_apply]
  rfl

/-- What the last point of a run writes back is its block of the reference's result. -/
theorem flushed_eq (c : Dev nD) (t : Fin cfg0.N) (hf : (cfg0.win 6).flush t = true) :
    (dats m 0 c).flushed 6 t = ((cfg0.win 6).blk t).view.read (Elt Ideal) (G m c) := by
  have h1 : t.val % 11 = 10 := (flush0_6 t).mp hf
  have h0 : ¬t.val % 11 = 0 := by omega
  have hlt : t.val - 1 < cfg0.N := Nat.lt_of_le_of_lt (Nat.sub_le _ _) t.isLt
  rw [flushed6_C m c t h0 h1, out_last]
  funext j
  show k0_pay4 (F := Ideal) _ _ _ j = G m c (((cfg0.win 6).blk t).view.emb j)
  obtain ⟨r, l, rfl⟩ : ∃ (r l : Fin 1024), j = ix2 r l := ⟨j 0, j 1, eq_ix2 j⟩
  have p := state m c (t.val - 1) hlt (by omega) r
  have e := row_pred t ⟨t.val - 1, hlt⟩ (show (t.val - 1) / 11 = t.val / 11 by omega) r
  have en : (t.val - 1) % 11 + 1 = 10 := by omega
  rw [e, en] at p
  rw [pay4_apply, emb6, G_apply]
  simp only [step_apply m c t _ _ r _ (fun k => (p k).1), (p _).2, blk0, blk5, sum_chunks, Finset.sum_range_succ _ 10, xent]
  simp only [← chunkOf_mod _ t.val, h1]

/-- Every index of the result is in the block of the last point of the run its row names. -/
theorem covered (i : S16384x1024.Idx) : ∃ t : Fin cfg0.N, (cfg0.win 6).flush t = true ∧ i ∈ ((cfg0.win 6).blk t).view.set := by
  obtain ⟨R, l, rfl⟩ : ∃ (R : Fin 16384) (l : Fin 1024), i = ix2 R l := ⟨i 0, i 1, eq_ix2 i⟩
  have hR := R.isLt
  have hlt : R.val / 1024 * 11 + 10 < cfg0.N := show R.val / 1024 * 11 + 10 < 176 by omega
  refine ⟨⟨R.val / 1024 * 11 + 10, hlt⟩, (flush0_6 _).mpr (show (R.val / 1024 * 11 + 10) % 11 = 10 by omega), ?_⟩
  have h := ((cfg0.win 6).blk ⟨R.val / 1024 * 11 + 10, hlt⟩).view.emb_mem_set (ix2 (⟨R.val % 1024, by omega⟩ : Fin 1024) l)
  rw [emb6] at h
  have e : row ⟨R.val / 1024 * 11 + 10, hlt⟩ (⟨R.val % 1024, by omega⟩ : Fin 1024) = R :=
    Fin.ext (by show (R.val / 1024 * 11 + 10) / 11 * 1024 + R.val % 1024 = R.val; omega)
  rwa [e] at h

/-- The result array after the run is the reference's result. -/
theorem final (c : Dev nD) : (dats m 0 c).arrAt 6 cfg0.N = G m c :=
  (dats m 0 c).arrAt_eq_of_cover 6 (G m c) (fun t hf => flushed_eq m c t hf) covered

/-- The run leaves the reference's result in the result array, and the arguments as they were. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.FfnIdeal.RefValue

end
-- ==== Proof.NormProjValue.lean ====
/- The norm and the input projection: what the call leaves in its result is what the reference computes. Row `256 t + r` of
   the result is written at grid point `t`, in eight strips of columns. The kernel permutes the weight's columns before the
   product, the reference the product's columns after it; the last 56 columns are zeros on both sides. -/
module

public import proofs.«01_k».proof.Proof.Common
public import proofs.«01_k».proof.Proof.Gen.NormProjIdeal.Value
public import proofs.«01_k».proof.Proof.Gen.NormProjRefIdeal.Read

@[expose] public section

set_option maxRecDepth 16384

noncomputable section

namespace Cert.NormProjIdeal.RefValue

open Cert.Common Cert.NormProjIdeal Cert.NormProjIdeal.Gen Cert.NormProjIdeal.Value Idealize.ShloMosaic Idealize.ShloMosaic.TcCoe Idealize.SL.Sem
open Idealize.ShloMosaic.Pipeline (Dat)

theorem pay5_apply (v0 : Vec Ideal S256x1024 .f32) (v1 : Vec Ideal S1x1024 .f32) (r : Fin 256) (l : Fin 1024) :
    k0_pay5 v0 v1 (ix2 r l) = normed (fun k => v0 (ix2 r k)) (fun k => v1 (ix2 (0 : Fin 1) k)) l := by
  unfold normed
  pointwise [k0_pay5]

/-- The strips' products, at an index. -/
theorem pay1_apply (h : Vec Ideal S256x1024 .bf16) (w : Vec Ideal S1024x512 .bf16) (r : Fin 256) (l : Fin 512) :
    k0_pay1 h w (ix2 r l) = ∑ k, h (ix2 r k) * w (ix2 k l) := by
  pointwise [k0_pay1]
theorem pay2_apply (h : Vec Ideal S256x1024 .bf16) (w : Vec Ideal S1024x512 .bf16) (r : Fin 256) (l : Fin 512) :
    k0_pay2 h w (ix2 r l) = ∑ k, h (ix2 r k) * w (ix2 k l) := by
  pointwise [k0_pay2]
theorem pay3_apply (h : Vec Ideal S256x1024 .bf16) (w : Vec Ideal S1024x512 .bf16) (r : Fin 256) (l : Fin 512) :
    k0_pay3 h w (ix2 r l) = ∑ k, h (ix2 r k) * w (ix2 k l) := by
  pointwise [k0_pay3]
theorem pay4_apply (h : Vec Ideal S256x1024 .bf16) (w : Vec Ideal S1024x384 .bf16) (r : Fin 256) (l : Fin 384) :
    k0_pay4 h w (ix2 r l) = ∑ k, h (ix2 r k) * w (ix2 k l) := by
  pointwise [k0_pay4]
theorem pay6_eq (v0 : Vec Ideal S256x1024 .f32) (v1 : Vec Ideal S1x1024 .f32) (w : Vec Ideal S1024x512 .bf16) :
    k0_pay6 v0 v1 w = k0_pay1 (k0_pay5 v0 v1) w := rfl
theorem pay7_eq (v0 : Vec Ideal S256x1024 .f32) (v1 : Vec Ideal S1x1024 .f32) (w : Vec Ideal S1024x512 .bf16) :
    k0_pay7 v0 v1 w = k0_pay1 (k0_pay5 v0 v1) w := rfl
theorem pay8_eq (v0 : Vec Ideal S256x1024 .f32) (v1 : Vec Ideal S1x1024 .f32) (w : Vec Ideal S1024x512 .bf16) :
    k0_pay8 v0 v1 w = k0_pay1 (k0_pay5 v0 v1) w := rfl
theorem pay9_eq (v0 : Vec Ideal S256x1024 .f32) (v1 : Vec Ideal S1x1024 .f32) (w : Vec Ideal S1024x512 .bf16) :
    k0_pay9 v0 v1 w = k0_pay1 (k0_pay5 v0 v1) w := rfl

/-- The column of the weight that column `l` of the result comes from. -/
def src (l : ℕ) : ℕ := if l < 1024 then l else if l < 3072 then l + 840 else if l < 3584 then l - 1792 else if l < 3840 then l - 2560 else l - 2048

theorem src_lt (l : ℕ) (h : l < 3912) : src l < 3912 := by
  unfold src
  split_ifs <;> omega

/-- A row's entries in the order of the result's columns, zero past the last. -/
def permuted (w : Fin 3912 → EReal) (l : Fin 3968) : EReal := if h : l.val < 3912 then w ⟨src l.val, src_lt l.val h⟩ else 0

theorem permuted_pos (w : Fin 3912 → EReal) (l : Fin 3968) (h : l.val < 3912) : permuted w l = w ⟨src l.val, src_lt l.val h⟩ := dif_pos h

theorem permuted_neg (w : Fin 3912 → EReal) (l : Fin 3968) (h : ¬l.val < 3912) : permuted w l = 0 := dif_neg h

section Reference
open Cert.NormProjRefIdeal.Read

/-- The reference's product before the permutation, at an index. -/
theorem product_apply (x0 : Vec Ideal S16384x1024 .f32) (x1 : Vec Ideal S1024 .f32) (x2 : Vec Ideal S1024x3912 .f32) (r : Fin 16384) (l : Fin 3912) :
    val_main_v13 (F := Ideal) x0 x1 x2 (ix2 r l) = ∑ k, normed (fun q => x0 (ix2 r q)) (fun q => x1 (ix1 q)) k * x2 (ix2 k l) := by
  unfold normed
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

set_option maxHeartbeats 2000000 in
/-- The reference's permutation of the product's columns. -/
theorem ref_permuted (x0 : Vec Ideal S16384x1024 .f32) (x1 : Vec Ideal S1024 .f32) (x2 : Vec Ideal S1024x3912 .f32) (r : Fin 16384) (l : Fin 3968) :
    val_main_v24 (F := Ideal) x0 x1 x2 (ix2 r l) = permuted (fun j => val_main_v13 (F := Ideal) x0 x1 x2 (ix2 r j)) l := by
  pointwise [val_main_v24, val_main_v23, val_main_v22, val_main_v21, val_main_v20, val_main_v19, val_main_v18, val_main_v17, val_main_v16,
    val_main_v15, val_main_v14, val_main_cst_2]
  have hl := l.isLt
  by_cases h : l.val < 3912
  · rw [permuted_pos _ _ h]
    split_ifs <;> first
      | (exfalso; omega)
      | (refine congrArg _ (congrArg (ix2 r) (Fin.ext ?_)); dsimp only; unfold src; split_ifs <;> omega)
  · rw [permuted_neg _ _ h]
    split_ifs <;> first
      | (exfalso; omega)
      | rfl

/-- The reference's result, at an index. -/
theorem ref_apply (x0 : Vec Ideal S16384x1024 .f32) (x1 : Vec Ideal S1024 .f32) (x2 : Vec Ideal S1024x3912 .f32) (r : Fin 16384) (l : Fin 3968) :
    val_main_v24 (F := Ideal) x0 x1 x2 (ix2 r l)
      = ∑ k, normed (fun q => x0 (ix2 r q)) (fun q => x1 (ix1 q)) k * permuted (fun j => x2 (ix2 k j)) l := by
  rw [ref_permuted]
  by_cases h : l.val < 3912
  · simp only [permuted_pos _ _ h, product_apply]
  · simp only [permuted_neg _ _ h, mul_zero, Finset.sum_const_zero]

end Reference

section Body
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3968 .bf16) (harg3 : arg3.IsWhole) (arg4 : Memref sig .tc .vmem S256x3968 .f32) (harg4 : arg4.IsWhole)
    (x0 : Vec Ideal S256x1024 .f32) (x1 : Vec Ideal S1x1024 .f32) (x2 : Vec Ideal S1024x3968 .bf16)

/-- The block of the product of the normed rows and the weight. -/
def product (y : S256x3968.Idx) : EReal :=
  ∑ k : Fin 1024, k0_pay5 x0 x1 (ix2 (n1 := 1024) (y 0) k) * x2 (ix2 (n0 := 1024) k (y 1))

/-- A strip of 512 columns from `o` on. -/
theorem strip_512 (o : ℕ) (ho : o + 512 ≤ 3968) (h : ∀ a, (![0, o] : Fin 2 → ℕ) a + (![256, 512] : Fin 2 → ℕ) a ≤ S256x3968.size a)
    (h' : ∀ a, (![0, o] : Fin 2 → ℕ) a + (![1024, 512] : Fin 2 → ℕ) a ≤ S1024x3968.size a) (x : S256x512.Idx) :
    k0_pay1 (k0_pay5 x0 x1) (View.ld x2 (Rect.unit ![0, o] ![1024, 512] h')) x
      = product x0 x1 x2 ((Rect.unit (s := S256x3968) ![0, o] ![256, 512] h).emb x) := by
  obtain ⟨a, b, rfl⟩ : ∃ (a : Fin 256) (b : Fin 512), x = ix2 a b := ⟨x 0, x 1, eq_ix2 x⟩
  rw [pay1_apply]
  refine Finset.sum_congr rfl fun k _ => congrArg₂ (· * ·) (congrArg _ ?_) (congrArg x2 ?_)
  · funext d; apply Fin.ext
    match d with
    | ⟨0, _⟩ => show a.val = 0 + 1 * a.val; omega
    | ⟨1, _⟩ => rfl
  · funext d; apply Fin.ext
    match d with
    | ⟨0, _⟩ => show 0 + 1 * k.val = k.val; omega
    | ⟨1, _⟩ => rfl

/-- The last strip, of 384 columns. -/
theorem strip_384 (h : ∀ a, (![0, 3584] : Fin 2 → ℕ) a + (![256, 384] : Fin 2 → ℕ) a ≤ S256x3968.size a)
    (h' : ∀ a, (![0, 3584] : Fin 2 → ℕ) a + (![1024, 384] : Fin 2 → ℕ) a ≤ S1024x3968.size a) (x : S256x384.Idx) :
    k0_pay4 (k0_pay5 x0 x1) (View.ld x2 (Rect.unit ![0, 3584] ![1024, 384] h')) x
      = product x0 x1 x2 ((Rect.unit (s := S256x3968) ![0, 3584] ![256, 384] h).emb x) := by
  obtain ⟨a, b, rfl⟩ : ∃ (a : Fin 256) (b : Fin 384), x = ix2 a b := ⟨x 0, x 1, eq_ix2 x⟩
  rw [pay4_apply]
  refine Finset.sum_congr rfl fun k _ => congrArg₂ (· * ·) (congrArg _ ?_) (congrArg x2 ?_)
  · funext d; apply Fin.ext
    match d with
    | ⟨0, _⟩ => show a.val = 0 + 1 * a.val; omega
    | ⟨1, _⟩ => rfl
  · funext d; apply Fin.ext
    match d with
    | ⟨0, _⟩ => show 0 + 1 * k.val = k.val; omega
    | ⟨1, _⟩ => rfl

/-- What the eight strips leave in the result's staging buffer. -/
theorem out_eq : out0_A_3 c i arg1 harg1 arg2 harg2 arg3 harg3 arg4 harg4 x0 x1 x2 = product x0 x1 x2 := by
  unfold out0_A_3
  rw [View.read_writes_junk_eq_canon]
  funext y
  refine View.canon_apply_of_pieces (product x0 x1 x2) _ ?_ y (cover0_A_3 c i arg1 harg1 arg2 harg2 arg3 harg3 arg4 harg4 x0 x1 x2 y)
  unfold kernelRun0_A
  dsimp only
  sl_unfold_words
  simp only [View.readAt_eq_ld, Memref.IsWhole.read_unread, ld_zero, pay6_eq, pay7_eq, pay8_eq, pay9_eq]
  intro p hp x
  simp only [List.mem_cons, List.not_mem_nil, or_false] at hp
  rcases hp with rfl | rfl | rfl | rfl | rfl | rfl | rfl | rfl
  · exact strip_384 x0 x1 x2 inb_S256x3968_S256x384_0_3584 inb_S1024x3968_S1024x384_0_3584 x
  · exact strip_512 x0 x1 x2 3072 (by decide) inb_S256x3968_S256x512_0_3072 inb_S1024x3968_S1024x512_0_3072 x
  · exact strip_512 x0 x1 x2 2560 (by decide) inb_S256x3968_S256x512_0_2560 inb_S1024x3968_S1024x512_0_2560 x
  · exact strip_512 x0 x1 x2 2048 (by decide) inb_S256x3968_S256x512_0_2048 inb_S1024x3968_S1024x512_0_2048 x
  · exact strip_512 x0 x1 x2 1536 (by decide) inb_S256x3968_S256x512_0_1536 inb_S1024x3968_S1024x512_0_1536 x
  · exact strip_512 x0 x1 x2 1024 (by decide) inb_S256x3968_S256x512_0_1024 inb_S1024x3968_S1024x512_0_1024 x
  · exact strip_512 x0 x1 x2 512 (by decide) inb_S256x3968_S256x512_0_512 inb_S1024x3968_S1024x512_0_512 x
  · exact strip_512 x0 x1 x2 0 (by decide) inb_S256x3968_S256x512_0_0 inb_S1024x3968_S1024x512_0_0 x

end Body

/-! ## The blocks -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)

/-- Row `r` of the block at point `t` is this row of the array. -/
def row (t : Fin cfg0.N) (r : Fin 256) : Fin 16384 := ⟨t.val * 256 + r.val, by have : t.val < 64 := t.isLt; omega⟩

theorem emb0 (t : Fin cfg0.N) (r : Fin 256) (l : Fin 1024) : ((cfg0.win 0).blk t).view.emb (ix2 r l) = ix2 (row t r) l := by
  obtain ⟨e0, e1⟩ := idx0 t
  funext a; apply Fin.ext
  match a with
  | ⟨0, _⟩ => show win0_0.index t (0 : Fin 2) * 256 + 1 * r.val = t.val * 256 + r.val; omega
  | ⟨1, _⟩ => show win0_0.index t (1 : Fin 2) * 1024 + 1 * l.val = l.val; omega
theorem emb1 (t : Fin cfg0.N) (r : Fin 1) (l : Fin 1024) : ((cfg0.win 1).blk t).view.emb (ix2 r l) = ix2 r l := by
  obtain ⟨e0, e1⟩ := idx1 t
  funext a; apply Fin.ext
  match a with
  | ⟨0, _⟩ => show win0_1.index t (0 : Fin 2) * 1 + 1 * r.val = r.val; omega
  | ⟨1, _⟩ => show win0_1.index t (1 : Fin 2) * 1024 + 1 * l.val = l.val; omega
theorem emb2 (t : Fin cfg0.N) (r : Fin 1024) (l : Fin 3968) : ((cfg0.win 2).blk t).view.emb (ix2 r l) = ix2 r l := by
  obtain ⟨e0, e1⟩ := idx2 t
  funext a; apply Fin.ext
  match a with
  | ⟨0, _⟩ => show win0_2.index t (0 : Fin 2) * 1024 + 1 * r.val = r.val; omega
  | ⟨1, _⟩ => show win0_2.index t (1 : Fin 2) * 3968 + 1 * l.val = l.val; omega
theorem emb3 (t : Fin cfg0.N) (r : Fin 256) (l : Fin 3968) : ((cfg0.win 3).blk t).view.emb (ix2 r l) = ix2 (row t r) l := by
  obtain ⟨e0, e1⟩ := idx3 t
  funext a; apply Fin.ext
  match a with
  | ⟨0, _⟩ => show win0_3.index t (0 : Fin 2) * 256 + 1 * r.val = t.val * 256 + r.val; omega
  | ⟨1, _⟩ => show win0_3.index t (1 : Fin 2) * 3968 + 1 * l.val = l.val; omega

variable (m : (ℓ : Loc nD τ sig) → Buf (Elt Ideal) ℓ) (ρ : Dev nD → PrngReg)

/-- The host lays the gain out in one row. -/
theorem V_v12 (c : Dev nD) (l : Fin 1024) : V m c main_v12 (ix2 (0 : Fin 1) l) = m ((c : Thread nD τ).loc main_arg1) (ix1 l) := by
  have e : V m c main_v12 = shapeCast S1x1024 (m ((c : Thread nD τ).loc main_arg1) : Vec Ideal S1024 .f32) shapeCasts_S1024_S1x1024 := by
    simp only [V, hostOps0, StableHlo.after_cons, StableHlo.after_nil]
    rfl
  rw [e]
  pointwise

/-- The host's permutation of the weight's columns. -/
def weight (w : Vec Ideal S1024x3912 .f32) : Vec Ideal S1024x3968 .f32 :=
  concatenate S1024x3968 1
    [⟨S1024x512, extractStridedSlice S1024x512 ![0, 0] w slices_S1024x3912_S1024x512_0_0⟩,
     ⟨S1024x512, extractStridedSlice S1024x512 ![0, 512] w slices_S1024x3912_S1024x512_0_512⟩,
     ⟨S1024x1024, extractStridedSlice S1024x1024 ![0, 1864] w slices_S1024x3912_S1024x1024_0_1864⟩,
     ⟨S1024x1024, extractStridedSlice S1024x1024 ![0, 2888] w slices_S1024x3912_S1024x1024_0_2888⟩,
     ⟨S1024x512, extractStridedSlice S1024x512 ![0, 1280] w slices_S1024x3912_S1024x512_0_1280⟩,
     ⟨S1024x128, extractStridedSlice S1024x128 ![0, 1024] w slices_S1024x3912_S1024x128_0_1024⟩,
     ⟨S1024x128, extractStridedSlice S1024x128 ![0, 1152] w slices_S1024x3912_S1024x128_0_1152⟩,
     ⟨S1024x64, extractStridedSlice S1024x64 ![0, 1792] w slices_S1024x3912_S1024x64_0_1792⟩,
     ⟨S1024x8, extractStridedSlice S1024x8 ![0, 1856] w slices_S1024x3912_S1024x8_0_1856⟩,
     ⟨S1024x56, broadcastInDim S1024x56 ![] bcast_S_S1024x56 (constant (F := Ideal) S_ .f32 0x00000000#32)⟩]
    concatenates_S1024x512_S1024x512_S1024x1024_S1024x1024_S1024x512_S1024x128_S1024x128_S1024x64_S1024x8_S1024x56_S1024x3968_d1

set_option maxHeartbeats 2000000 in
/-- The permuted weight, at an index. -/
theorem weight_apply (w : Vec Ideal S1024x3912 .f32) (k : Fin 1024) (l : Fin 3968) : weight w (ix2 k l) = permuted (fun j => w (ix2 k j)) l := by
  pointwise [weight]
  have hl := l.isLt
  by_cases h : l.val < 3912
  · rw [permuted_pos _ _ h]
    split_ifs <;> first
      | (exfalso; omega)
      | (refine congrArg _ (congrArg (ix2 k) (Fin.ext ?_)); dsimp only; unfold src; split_ifs <;> omega)
  · rw [permuted_neg _ _ h]
    split_ifs <;> first
      | (exfalso; omega)
      | rfl

set_option maxHeartbeats 2000000 in
/-- The weight the call reads. -/
theorem V_v11 (c : Dev nD) (k : Fin 1024) (l : Fin 3968) :
    V m c main_v11 (ix2 k l) = permuted (fun j => m ((c : Thread nD τ).loc main_arg2) (ix2 k j)) l := by
  refine Eq.trans ?_ (weight_apply (m ((c : Thread nD τ).loc main_arg2)) k l)
  simp only [V, hostOps0, StableHlo.after_cons, StableHlo.after_nil]
  rfl

/-- The blocks' entries, of the argument arrays. -/
theorem blk0 (c : Dev nD) (t : Fin cfg0.N) (r : Fin 256) (l : Fin 1024) : iblk m c 0 t (ix2 r l) = m ((c : Thread nD τ).loc main_arg0) (ix2 (row t r) l) :=
  (show _ = V m c main_arg0 (((cfg0.win 0).blk t).view.emb (ix2 r l)) from rfl).trans (by rw [emb0, V_main_arg0])
theorem blk1 (c : Dev nD) (t : Fin cfg0.N) (l : Fin 1024) : iblk m c 1 t (ix2 (0 : Fin 1) l) = m ((c : Thread nD τ).loc main_arg1) (ix1 l) :=
  (show _ = V m c main_v12 (((cfg0.win 1).blk t).view.emb (ix2 (0 : Fin 1) l)) from rfl).trans (by rw [emb1, V_v12])
theorem blk2 (c : Dev nD) (t : Fin cfg0.N) (k : Fin 1024) (l : Fin 3968) :
    iblk m c 2 t (ix2 k l) = permuted (fun j => m ((c : Thread nD τ).loc main_arg2) (ix2 k j)) l :=
  (show _ = V m c main_v11 (((cfg0.win 2).blk t).view.emb (ix2 k l)) from rfl).trans (by rw [emb2, V_v11])

/-- The reference's result, of the kernel's own argument arrays. -/
def G (c : Dev nD) : Vec Ideal S16384x3968 .f32 :=
  Cert.NormProjRefIdeal.Read.val_main_v24 (F := Ideal) (m ((c : Thread nD τ).loc main_arg0)) (m ((c : Thread nD τ).loc main_arg1))
    (m ((c : Thread nD τ).loc main_arg2))

/-- What point `t` writes back is its block of the reference's result. -/
theorem flushed_eq (c : Dev nD) (t : Fin cfg0.N) :
    (dats m 0 c).flushed 3 t = ((cfg0.win 3).blk t).view.read (Elt Ideal) (G m c) := by
  rw [flushed3_A, out_eq]
  funext j
  obtain ⟨r, l, rfl⟩ : ∃ (r : Fin 256) (l : Fin 3968), j = ix2 r l := ⟨j 0, j 1, eq_ix2 j⟩
  show product (iblk m c 0 t) (iblk m c 1 t) (iblk m c 2 t) (ix2 r l) = G m c (((cfg0.win 3).blk t).view.emb (ix2 r l))
  rw [emb3, G, ref_apply]
  refine Finset.sum_congr rfl fun k _ => ?_
  show k0_pay5 (iblk m c 0 t) (iblk m c 1 t) (ix2 r k) * iblk m c 2 t (ix2 k l) = _
  rw [pay5_apply, blk2]
  simp only [blk0, blk1]

/-- Every index of the result is in the block of the point its row names. -/
theorem covered (i : S16384x3968.Idx) : ∃ t : Fin cfg0.N, (cfg0.win 3).flush t = true ∧ i ∈ ((cfg0.win 3).blk t).view.set := by
  obtain ⟨R, l, rfl⟩ : ∃ (R : Fin 16384) (l : Fin 3968), i = ix2 R l := ⟨i 0, i 1, eq_ix2 i⟩
  have hR := R.isLt
  have hlt : R.val / 256 < cfg0.N := show R.val / 256 < 64 by omega
  refine ⟨⟨R.val / 256, hlt⟩, flush0_3 _, ?_⟩
  have h := ((cfg0.win 3).blk ⟨R.val / 256, hlt⟩).view.emb_mem_set (ix2 (⟨R.val % 256, by omega⟩ : Fin 256) l)
  rw [emb3] at h
  have e : row ⟨R.val / 256, hlt⟩ (⟨R.val % 256, by omega⟩ : Fin 256) = R :=
    Fin.ext (by show R.val / 256 * 256 + R.val % 256 = R.val; omega)
  rwa [e] at h

/-- The result array after the run is the reference's result. -/
theorem final (c : Dev nD) : (dats m 0 c).arrAt 3 cfg0.N = G m c :=
  (dats m 0 c).arrAt_eq_of_cover 3 (G m c) (fun t _ => flushed_eq m c t) covered

/-- The run leaves the reference's result in the result array, and the arguments as they were. -/
theorem run : θ_run defs (onTc (τ := τ) (main (F := Ideal))) ⟨m, fun _ => 0, ρ⟩ fun r => ∀ c : Dev nD,
      r.2.mem ((c : Thread nD τ).loc main_v13) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.NormProjIdeal.RefValue

end
-- ==== Proof.MergeValue.lean ====
/- The gated merge: what the call leaves in its result is what the reference computes. Row `256 t + r` of the result is written at
   grid point `t`; there the staged blocks are rows of the arguments, and two blocks of the combined projection are its
   columns from 1024 on and from 2048 on. Both texts are one formula at an index (`merged`). -/
module

public import proofs.«01_k».proof.Proof.Common
public import proofs.«01_k».proof.Proof.Gen.MergeIdeal.Value
public import proofs.«01_k».proof.Proof.Gen.MergeRefIdeal.Read

@[expose] public section

set_option maxRecDepth 16384

noncomputable section

namespace Cert.MergeIdeal.RefValue

open Cert.Common Cert.MergeIdeal Cert.MergeIdeal.Gen Cert.MergeIdeal.Value Idealize.ShloMosaic Idealize.ShloMosaic.TcCoe Idealize.SL.Sem
open Idealize.ShloMosaic.Pipeline (Dat)

/-- One entry of the merged result: the residual and the projection of the two gated branches. -/
def merged (x : EReal) (ga gb : Fin 1024 → EReal) (ya yb : Fin 512 → EReal) (pa pb : Fin 512 → Fin 1024 → EReal)
    (wo : Fin 1024 → EReal) : EReal :=
  x + ∑ k, (sigm (ga k) * (∑ q, ya q * pa q k) + sigm (gb k) * (∑ q, yb q * pb q k)) * wo k

/-- What the body stores, at an index. -/
theorem pay_apply (v0 : Vec Ideal S256x512 .bf16) (v1 : Vec Ideal S512x1024 .bf16) (v4 : Vec Ideal S256x512 .bf16) (v5 : Vec Ideal S512x1024 .bf16)
    (v8 v17 v27 : Vec Ideal S256x1024 .f32) (v29 : Vec Ideal S1024x1024 .bf16) (r : Fin 256) (l : Fin 1024) :
    k0_pay1 v0 v1 v4 v5 v8 v17 v27 v29 (ix2 r l)
      = merged (v27 (ix2 r l)) (fun k => v8 (ix2 r k)) (fun k => v17 (ix2 r k)) (fun q => v0 (ix2 r q)) (fun q => v4 (ix2 r q))
          (fun q k => v1 (ix2 q k)) (fun q k => v5 (ix2 q k)) (fun k => v29 (ix2 k l)) := by
  unfold merged sigm
  pointwise [k0_pay1]
  simp only [zero_sub]

section Reference
open Cert.MergeRefIdeal.Read

/-- The reference's result, at an index. -/
theorem ref_apply (x0 : Vec Ideal S16384x1024 .f32) (x1 x2 : Vec Ideal S16384x512 .bf16) (x3 : Vec Ideal S16384x3968 .f32)
    (x4 x5 : Vec Ideal S512x1024 .f32) (x6 : Vec Ideal S1024x1024 .f32) (r : Fin 16384) (l : Fin 1024) :
    val_main_v22 (F := Ideal) x0 x1 x2 x3 x4 x5 x6 (ix2 r l)
      = merged (x0 (ix2 r l)) (fun k => x3 (ix2 r (⟨1024 + k.val, by omega⟩ : Fin 3968))) (fun k => x3 (ix2 r (⟨2048 + k.val, by omega⟩ : Fin 3968)))
          (fun q => x1 (ix2 r q)) (fun q => x2 (ix2 r q)) (fun q k => x4 (ix2 q k)) (fun q k => x5 (ix2 q k)) (fun k => x6 (ix2 k l)) := by
  unfold merged sigm
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_cst_2]

end Reference

/-- What the run leaves in the result's staging buffer: the stored value of the whole input buffers. -/
theorem out_eq (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S256x1024 .f32) (harg9 : arg9.IsWhole)
    (x0 : Vec Ideal S256x1024 .f32) (x1 : Vec Ideal S256x512 .bf16) (x2 : Vec Ideal S256x512 .bf16) (x3 : Vec Ideal S256x1024 .f32) (x4 : Vec Ideal S256x1024 .f32) (x5 : Vec Ideal S512x1024 .bf16) (x6 : Vec Ideal S512x1024 .bf16) (x7 : Vec Ideal S1024x1024 .bf16) :
    out0_A_8 c i arg1 harg1 arg2 harg2 arg3 harg3 arg4 harg4 arg5 harg5 arg6 harg6 arg7 harg7 arg8 harg8 arg9 harg9 x0 x1 x2 x3 x4 x5 x6 x7
      = k0_pay1 x1 x5 x2 x6 x3 x4 x0 x7 := by
  unfold out0_A_8
  rw [View.read_writes_junk_eq_canon]
  show View.canon ([⟨Rect.unit ![0, 0] S256x1024.size inb_S256x1024_S256x1024_0_0, k0_pay1
      (View.readAt (Elt Ideal) arg2.view (Rect.unit ![0, 0] S256x512.size inb_S256x512_S256x512_0_0).toLoadRect (harg2.unread x1))
      (View.readAt (Elt Ideal) arg6.view (Rect.unit ![0, 0] S512x1024.size inb_S512x1024_S512x1024_0_0).toLoadRect (harg6.unread x5))
      (View.readAt (Elt Ideal) arg3.view (Rect.unit ![0, 0] S256x512.size inb_S256x512_S256x512_0_0).toLoadRect (harg3.unread x2))
      (View.readAt (Elt Ideal) arg7.view (Rect.unit ![0, 0] S512x1024.size inb_S512x1024_S512x1024_0_0).toLoadRect (harg7.unread x6))
      (View.readAt (Elt Ideal) arg4.view (Rect.unit ![0, 0] S256x1024.size inb_S256x1024_S256x1024_0_0).toLoadRect (harg4.unread x3))
      (View.readAt (Elt Ideal) arg5.view (Rect.unit ![0, 0] S256x1024.size inb_S256x1024_S256x1024_0_0).toLoadRect (harg5.unread x4))
      (View.readAt (Elt Ideal) arg1.view (Rect.unit ![0, 0] S256x1024.size inb_S256x1024_S256x1024_0_0).toLoadRect (harg1.unread x0))
      (View.readAt (Elt Ideal) arg8.view (Rect.unit ![0, 0] S1024x1024.size inb_S1024x1024_S1024x1024_0_0).toLoadRect (harg8.unread x7))⟩] :
      List (View.Piece (Elt Ideal) S256x1024 .f32)) = _
  rw [View.canon_unit_zero hz]
  simp only [View.readAt_eq_ld, Memref.IsWhole.read_unread, ld_zero]

/-! ## The blocks -/

/-- The block index of each window at a point: the row blocks move with the point, the two gates' blocks are the second and
    third block of columns, the weights stay. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 1 := (by decide +kernel : ∀ t : Fin grid0.N, _)
theorem idx4 : ∀ t : Fin cfg0.N, win0_4.index t (0 : Fin 2) = t.val ∧ win0_4.index t (1 : Fin 2) = 2 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)

/-- Row `r` of the block at point `t` is this row of the array. -/
def row (t : Fin cfg0.N) (r : Fin 256) : Fin 16384 := ⟨t.val * 256 + r.val, by have : t.val < 64 := t.isLt; omega⟩

/-- The array index of a block's index, window by window. -/
theorem emb0 (t : Fin cfg0.N) (r : Fin 256) (l : Fin 1024) : ((cfg0.win 0).blk t).view.emb (ix2 r l) = ix2 (row t r) l := by
  obtain ⟨e0, e1⟩ := idx0 t
  funext a; apply Fin.ext
  match a with
  | ⟨0, _⟩ => show win0_0.index t (0 : Fin 2) * 256 + 1 * r.val = t.val * 256 + r.val; omega
  | ⟨1, _⟩ => show win0_0.index t (1 : Fin 2) * 1024 + 1 * l.val = l.val; omega
theorem emb1 (t : Fin cfg0.N) (r : Fin 256) (l : Fin 512) : ((cfg0.win 1).blk t).view.emb (ix2 r l) = ix2 (row t r) l := by
  obtain ⟨e0, e1⟩ := idx1 t
  funext a; apply Fin.ext
  match a with
  | ⟨0, _⟩ => show win0_1.index t (0 : Fin 2) * 256 + 1 * r.val = t.val * 256 + r.val; omega
  | ⟨1, _⟩ => show win0_1.index t (1 : Fin 2) * 512 + 1 * l.val = l.val; omega
theorem emb2 (t : Fin cfg0.N) (r : Fin 256) (l : Fin 512) : ((cfg0.win 2).blk t).view.emb (ix2 r l) = ix2 (row t r) l := by
  obtain ⟨e0, e1⟩ := idx2 t
  funext a; apply Fin.ext
  match a with
  | ⟨0, _⟩ => show win0_2.index t (0 : Fin 2) * 256 + 1 * r.val = t.val * 256 + r.val; omega
  | ⟨1, _⟩ => show win0_2.index t (1 : Fin 2) * 512 + 1 * l.val = l.val; omega
theorem emb5 (t : Fin cfg0.N) (r : Fin 512) (l : Fin 1024) : ((cfg0.win 5).blk t).view.emb (ix2 r l) = ix2 r l := by
  obtain ⟨e0, e1⟩ := idx5 t
  funext a; apply Fin.ext
  match a with
  | ⟨0, _⟩ => show win0_5.index t (0 : Fin 2) * 512 + 1 * r.val = r.val; omega
  | ⟨1, _⟩ => show win0_5.index t (1 : Fin 2) * 1024 + 1 * l.val = l.val; omega
theorem emb6 (t : Fin cfg0.N) (r : Fin 512) (l : Fin 1024) : ((cfg0.win 6).blk t).view.emb (ix2 r l) = ix2 r l := by
  obtain ⟨e0, e1⟩ := idx6 t
  funext a; apply Fin.ext
  match a with
  | ⟨0, _⟩ => show win0_6.index t (0 : Fin 2) * 512 + 1 * r.val = r.val; omega
  | ⟨1, _⟩ => show win0_6.index t (1 : Fin 2) * 1024 + 1 * l.val = l.val; omega
theorem emb7 (t : Fin cfg0.N) (r : Fin 1024) (l : Fin 1024) : ((cfg0.win 7).blk t).view.emb (ix2 r l) = ix2 r l := by
  obtain ⟨e0, e1⟩ := idx7 t
  funext a; apply Fin.ext
  match a with
  | ⟨0, _⟩ => show win0_7.index t (0 : Fin 2) * 1024 + 1 * r.val = r.val; omega
  | ⟨1, _⟩ => show win0_7.index t (1 : Fin 2) * 1024 + 1 * l.val = l.val; omega
theorem emb8 (t : Fin cfg0.N) (r : Fin 256) (l : Fin 1024) : ((cfg0.win 8).blk t).view.emb (ix2 r l) = ix2 (row t r) l := by
  obtain ⟨e0, e1⟩ := idx8 t
  funext a; apply Fin.ext
  match a with
  | ⟨0, _⟩ => show win0_8.index t (0 : Fin 2) * 256 + 1 * r.val = t.val * 256 + r.val; omega
  | ⟨1, _⟩ => show win0_8.index t (1 : Fin 2) * 1024 + 1 * l.val = l.val; omega

variable (m : (ℓ : Loc nD τ sig) → Buf (Elt Ideal) ℓ) (ρ : Dev nD → PrngReg)

/-- The first gate's block: the projection's columns from 1024 on. -/
theorem gate_a (c : Dev nD) (t : Fin cfg0.N) (r : Fin 256) (l : Fin 1024) :
    X0_3 m c t (ix2 r l) = m ((c : Thread nD τ).loc main_arg3) (ix2 (row t r) (⟨1024 + l.val, by omega⟩ : Fin 3968)) := by
  rw [← V_main_arg3 m c]
  obtain ⟨e0, e1⟩ := idx3 t
  unfold X0_3 Pipeline.Window.fill
  rw [dif_pos (moved0_3 t _)]
  unfold iblk
  show V m c main_arg3 (((cfg0.win 3).blk t).view.emb _) = _
  refine congrArg (V m c main_arg3) ?_
  funext a; apply Fin.ext
  match a with
  | ⟨0, _⟩ => show win0_3.index t (0 : Fin 2) * 256 + 1 * r.val = t.val * 256 + r.val; omega
  | ⟨1, _⟩ => show win0_3.index t (1 : Fin 2) * 1024 + 1 * l.val = 1024 + l.val; omega

/-- The second gate's block: the projection's columns from 2048 on. -/
theorem gate_b (c : Dev nD) (t : Fin cfg0.N) (r : Fin 256) (l : Fin 1024) :
    X0_4 m c t (ix2 r l) = m ((c : Thread nD τ).loc main_arg3) (ix2 (row t r) (⟨2048 + l.val, by omega⟩ : Fin 3968)) := by
  rw [← V_main_arg3 m c]
  obtain ⟨e0, e1⟩ := idx4 t
  unfold X0_4 Pipeline.Window.fill
  rw [dif_pos (moved0_4 t _)]
  unfold iblk
  show V m c main_arg3 (((cfg0.win 4).blk t).view.emb _) = _
  refine congrArg (V m c main_arg3) ?_
  funext a; apply Fin.ext
  match a with
  | ⟨0, _⟩ => show win0_4.index t (0 : Fin 2) * 256 + 1 * r.val = t.val * 256 + r.val; omega
  | ⟨1, _⟩ => show win0_4.index t (1 : Fin 2) * 1024 + 1 * l.val = 2048 + l.val; omega

/-- The host's conversions leave the weights as they were. -/
theorem V_v0 (c : Dev nD) (i : S512x1024.Idx) : V m c main_v0 i = m ((c : Thread nD τ).loc main_arg4) i := by
  simp only [V, hostOps0, StableHlo.after_cons, StableHlo.after_nil]
  rfl
theorem V_v1 (c : Dev nD) (i : S512x1024.Idx) : V m c main_v1 i = m ((c : Thread nD τ).loc main_arg5) i := by
  simp only [V, hostOps0, StableHlo.after_cons, StableHlo.after_nil]
  rfl
theorem V_v2 (c : Dev nD) (i : S1024x1024.Idx) : V m c main_v2 i = m ((c : Thread nD τ).loc main_arg6) i := by
  simp only [V, hostOps0, StableHlo.after_cons, StableHlo.after_nil]
  rfl

/-- The reference's result, of the kernel's own argument arrays. -/
def G (c : Dev nD) : Vec Ideal S16384x1024 .f32 :=
  Cert.MergeRefIdeal.Read.val_main_v22 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- What point `t` writes back is its block of the reference's result. -/
theorem flushed_eq (c : Dev nD) (t : Fin cfg0.N) :
    (dats m 0 c).flushed 8 t = ((cfg0.win 8).blk t).view.read (Elt Ideal) (G m c) := by
  rw [flushed8_A, out_eq]
  funext j
  show k0_pay1 (F := Ideal) _ _ _ _ _ _ _ _ j = G m c (((cfg0.win 8).blk t).view.emb j)
  obtain ⟨r, l, rfl⟩ : ∃ (r : Fin 256) (l : Fin 1024), j = ix2 r l := ⟨j 0, j 1, eq_ix2 j⟩
  rw [pay_apply, emb8, G, ref_apply]
  have h0 : iblk m c 0 t (ix2 r l) = m ((c : Thread nD τ).loc main_arg0) (ix2 (row t r) l) := by
    rw [← V_main_arg0 m c, ← emb0]; rfl
  have h1 : ∀ q : Fin 512, iblk m c 1 t (ix2 r q) = m ((c : Thread nD τ).loc main_arg1) (ix2 (row t r) q) := fun q => by
    rw [← V_main_arg1 m c, ← emb1]; rfl
  have h2 : ∀ q : Fin 512, iblk m c 2 t (ix2 r q) = m ((c : Thread nD τ).loc main_arg2) (ix2 (row t r) q) := fun q => by
    rw [← V_main_arg2 m c, ← emb2]; rfl
  have h5 : ∀ (q : Fin 512) (k : Fin 1024), iblk m c 5 t (ix2 q k) = m ((c : Thread nD τ).loc main_arg4) (ix2 q k) := fun q k =>
    (show _ = V m c main_v0 (((cfg0.win 5).blk t).view.emb (ix2 q k)) from rfl).trans (by rw [emb5, V_v0])
  have h6 : ∀ (q : Fin 512) (k : Fin 1024), iblk m c 6 t (ix2 q k) = m ((c : Thread nD τ).loc main_arg5) (ix2 q k) := fun q k =>
    (show _ = V m c main_v1 (((cfg0.win 6).blk t).view.emb (ix2 q k)) from rfl).trans (by rw [emb6, V_v1])
  have h7 : ∀ (q k : Fin 1024), iblk m c 7 t (ix2 q k) = m ((c : Thread nD τ).loc main_arg6) (ix2 q k) := fun q k =>
    (show _ = V m c main_v2 (((cfg0.win 7).blk t).view.emb (ix2 q k)) from rfl).trans (by rw [emb7, V_v2])
  simp only [h0, h1, h2, h5, h6, h7, gate_a, gate_b]

/-- Every index of the result is in the block of the point its row names. -/
theorem covered (i : S16384x1024.Idx) : ∃ t : Fin cfg0.N, (cfg0.win 8).flush t = true ∧ i ∈ ((cfg0.win 8).blk t).view.set := by
  obtain ⟨R, l, rfl⟩ : ∃ (R : Fin 16384) (l : Fin 1024), i = ix2 R l := ⟨i 0, i 1, eq_ix2 i⟩
  have hR := R.isLt
  refine ⟨(⟨R.val / 256, show R.val / 256 < 64 by omega⟩ : Fin cfg0.N), flush0_8 _, ?_⟩
  have h := ((cfg0.win 8).blk (⟨R.val / 256, show R.val / 256 < 64 by omega⟩ : Fin cfg0.N)).view.emb_mem_set
    (ix2 (⟨R.val % 256, by omega⟩ : Fin 256) l)
  rw [emb8] at h
  have e : row (⟨R.val / 256, show R.val / 256 < 64 by omega⟩ : Fin cfg0.N) (⟨R.val % 256, by omega⟩ : Fin 256) = R :=
    Fin.ext (by show R.val / 256 * 256 + R.val % 256 = R.val; omega)
  rwa [e] at h

/-- The result array after the run is the reference's result. -/
theorem final (c : Dev nD) : (dats m 0 c).arrAt 8 cfg0.N = G m c :=
  (dats m 0 c).arrAt_eq_of_cover 8 (G m c) (fun t _ => flushed_eq m c t) covered

/-- The run leaves the reference's result in the result array, and the arguments as they were. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.MergeIdeal.RefValue

end
-- ==== Proof.Turn.lean ====
/- A head turned by a position's angles: its first sixteen coordinates are turned pairwise, the others stay. The kernel writes
   the same as a row of 128 lanes (two heads), that row moved up by eight lanes and moved down by eight lanes, each times a
   factor. Both batches' rotary calls use this. -/
module

public import proofs.«01_k».proof.Proof.Common

@[expose] public section

noncomputable section

namespace Cert.Turn

/-- One coordinate of a head turned by a position's cosines and sines. -/
def rotated (cs sn : Fin 8 → EReal) (x : Fin 64 → EReal) (q : Fin 64) : EReal :=
  if h : q.val < 8 then x q * cs ⟨q.val, h⟩ - x ⟨q.val + 8, by omega⟩ * sn ⟨q.val, h⟩
  else if h' : q.val < 16 then x ⟨q.val - 8, by omega⟩ * sn ⟨q.val - 8, by omega⟩ + x q * cs ⟨q.val - 8, by omega⟩
  else x q

/-- The same with the second half's coordinates counted from the halves' starts. -/
theorem rotated_eq (cs sn : Fin 8 → EReal) (x : Fin 64 → EReal) (q : Fin 64) :
    (if h : q.val < 8 then x q * cs ⟨q.val, h⟩ - x ⟨8 + q.val, by omega⟩ * sn ⟨q.val, h⟩
     else if h' : q.val - 8 < 8 then
       x ⟨q.val - 8, by omega⟩ * sn ⟨q.val - 8, h'⟩ + x ⟨8 + (q.val - 8), by omega⟩ * cs ⟨q.val - 8, h'⟩
     else x ⟨16 + (q.val - 8 - 8), by omega⟩) = rotated cs sn x q := by
  unfold rotated
  have e : ∀ (n : ℕ) (h : n < 64), n = q.val → x ⟨n, h⟩ = x q := fun n h e => congrArg x (Fin.ext e)
  split_ifs with h1 h2 h3 h3
  · simp only [Nat.add_comm]
  · rw [e (8 + (q.val - 8)) _ (by omega)]
  · exfalso; omega
  · exfalso; omega
  · rw [e (16 + (q.val - 8 - 8)) _ (by omega)]

/-- The three factors of a coordinate: of the coordinate itself, of the one eight after it and of the one eight before it. -/
def factor (k : Fin 3) (cs sn : Fin 8 → EReal) (q : Fin 64) : EReal :=
  match k with
  | 0 => if h : q.val < 8 then cs ⟨q.val, h⟩ else if h' : q.val < 16 then cs ⟨q.val - 8, by omega⟩ else 1
  | 1 => if h : q.val < 8 then -sn ⟨q.val, h⟩ else 0
  | 2 => if h : q.val < 8 then 0 else if h' : q.val < 16 then sn ⟨q.val - 8, by omega⟩ else 0

/-- A row of 128 lanes with its two moved copies, each times its factor, is the row with both its heads turned. -/
theorem row_turned (cs sn : Fin 8 → EReal) (x : Fin 128 → EReal) (l : Fin 128) :
    x l * factor 0 cs sn ⟨l.val % 64, by omega⟩ + x ⟨(l.val + 8) % 128, by omega⟩ * factor 1 cs sn ⟨l.val % 64, by omega⟩
        + x ⟨(l.val + 120) % 128, by omega⟩ * factor 2 cs sn ⟨l.val % 64, by omega⟩
      = rotated cs sn (fun k => x ⟨l.val / 64 * 64 + k.val, by omega⟩) ⟨l.val % 64, by omega⟩ := by
  unfold rotated factor
  have e : ∀ (n : ℕ) (h : n < 128), n = l.val → x ⟨n, h⟩ = x l := fun n h e => congrArg x (Fin.ext e)
  dsimp only
  rw [e (l.val / 64 * 64 + l.val % 64) _ (by omega)]
  split_ifs with a b
  · rw [mul_zero, add_zero, mul_neg, sub_eq_add_neg]
    have : (⟨(l.val + 8) % 128, by omega⟩ : Fin 128) = ⟨l.val / 64 * 64 + (l.val % 64 + 8), by omega⟩ := Fin.ext (by show (l.val + 8) % 128 = l.val / 64 * 64 + (l.val % 64 + 8); omega)
    rw [this]
  · have : (⟨(l.val + 120) % 128, by omega⟩ : Fin 128) = ⟨l.val / 64 * 64 + (l.val % 64 - 8), by omega⟩ := Fin.ext (by show (l.val + 120) % 128 = l.val / 64 * 64 + (l.val % 64 - 8); omega)
    rw [mul_zero, add_zero, this, add_comm]
  · rw [mul_zero, mul_zero, mul_one, add_zero, add_zero]

end Cert.Turn

end
-- ==== Proof.RopeRef.lean ====
/- The rotary reference at an index: the first sixteen coordinates of a head are turned by the position's angles, the
   others stay. -/
module

public import proofs.«01_k».proof.Proof.Turn
public import proofs.«01_k».proof.Proof.Gen.RopeRefIdeal.Read

@[expose] public section

set_option maxRecDepth 16384

noncomputable section

namespace Cert.RopeRefIdeal.RefValue

open Cert.Common Cert.Turn Cert.RopeRefIdeal Cert.RopeRefIdeal.Read Idealize.ShloMosaic Idealize.ShloMosaic.TcCoe Idealize.SL.Sem

/-- The cosine and the sine of position `p`'s angle at frequency `j`. -/
def cosv (p : Fin 4096) (j : Fin 8) : EReal := val_main_v18 (F := Ideal) (ix2 p j)
def sinv (p : Fin 4096) (j : Fin 8) : EReal := val_main_v20 (F := Ideal) (ix2 p j)

/-- The rotated indexer queries by sequence, position, head and coordinate. -/
theorem v39_apply (z : Vec Ideal S16384x3968 .f32) (b : Fin 4) (t : Fin 4096) (h : Fin 8) (q : Fin 64) :
    val_main_v39 (F := Ideal) z (ix4 b t h q)
      = rotated (cosv t) (sinv t) (fun k => z (ix2 (⟨b.val * 4096 + t.val, by omega⟩ : Fin 16384) (⟨3072 + (h.val * 64 + k.val), by omega⟩ : Fin 3968))) q := by
  rw [← rotated_eq]; unfold cosv sinv
  pointwise [val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v21, val_main_v19, val_main_v5, val_main_v1]

/-- The rotated keys by sequence, position, head and coordinate. -/
theorem v74_apply (z : Vec Ideal S16384x3968 .f32) (b : Fin 4) (t : Fin 4096) (h : Fin 2) (q : Fin 64) :
    val_main_v74 (F := Ideal) z (ix4 b t h q)
      = rotated (cosv t) (sinv t) (fun k => z (ix2 (⟨b.val * 4096 + t.val, by omega⟩ : Fin 16384) (⟨3584 + (h.val * 64 + k.val), by omega⟩ : Fin 3968))) q := by
  rw [← rotated_eq]; unfold cosv sinv
  have ec : val_main_v53 (F := Ideal) = val_main_v18 := rfl
  have es : val_main_v55 (F := Ideal) = val_main_v20 := rfl
  pointwise [val_main_v74, val_main_v73, val_main_v72, val_main_v71, val_main_v70, val_main_v69, val_main_v68, val_main_v67, val_main_v66,
    val_main_v65, val_main_v64, val_main_v63, val_main_v62, val_main_v61, val_main_v60, val_main_v59, val_main_v58, val_main_v57,
    val_main_v56, val_main_v54, val_main_v40, val_main_v2, ec, es]

/-- The rotated indexer keys by sequence, position, head and coordinate. -/
theorem v109_apply (z : Vec Ideal S16384x3968 .f32) (b : Fin 4) (t : Fin 4096) (h : Fin 1) (q : Fin 64) :
    val_main_v109 (F := Ideal) z (ix4 b t h q)
      = rotated (cosv t) (sinv t) (fun k => z (ix2 (⟨b.val * 4096 + t.val, by omega⟩ : Fin 16384) (⟨3840 + (0 + k.val), by omega⟩ : Fin 3968))) q := by
  simp only [Nat.zero_add]
  rw [← rotated_eq]; unfold cosv sinv
  have ec : val_main_v88 (F := Ideal) = val_main_v18 := rfl
  have es : val_main_v90 (F := Ideal) = val_main_v20 := rfl
  pointwise [val_main_v109, val_main_v108, val_main_v107, val_main_v106, val_main_v105, val_main_v104, val_main_v103, val_main_v102, val_main_v101,
    val_main_v100, val_main_v99, val_main_v98, val_main_v97, val_main_v96, val_main_v95, val_main_v94, val_main_v93, val_main_v92,
    val_main_v91, val_main_v89, val_main_v75, val_main_v4, ec, es]

/-- A row's coordinates from `o` on turned head by head, at column `l`: the row's position is its index within the sequence. -/
def turned (z : Vec Ideal S16384x3968 .f32) (R : Fin 16384) (o : ℕ) (l : ℕ) (h : o + l < 3968 - 64) : EReal :=
  rotated (cosv ⟨R.val % 4096, by omega⟩) (sinv ⟨R.val % 4096, by omega⟩) (fun k => z (ix2 R (⟨o + (l / 64 * 64 + k.val), by omega⟩ : Fin 3968)))
    ⟨l % 64, by omega⟩

/-- The turned coordinates spelt by sequence and position. -/
theorem turned_eq (z : Vec Ideal S16384x3968 .f32) (R : Fin 16384) (o l : ℕ) (h : o + l < 3968 - 64) (b : Fin 4) (t : Fin 4096) (e : ℕ) (q : Fin 64)
    (w : ∀ k : Fin 64, o + (e + k.val) < 3968)
    (hR : b.val * 4096 + t.val = R.val) (he : e = l / 64 * 64) (hq : q.val = l % 64) :
    rotated (cosv t) (sinv t) (fun k => z (ix2 (⟨b.val * 4096 + t.val, by omega⟩ : Fin 16384) (⟨o + (e + k.val), w k⟩ : Fin 3968))) q = turned z R o l h := by
  subst he
  unfold turned
  have ht : t = ⟨R.val % 4096, by omega⟩ := Fin.ext (by have := t.isLt; show t.val = R.val % 4096; omega)
  have hq' : q = ⟨l % 64, by omega⟩ := Fin.ext hq
  have hR' : (⟨b.val * 4096 + t.val, by omega⟩ : Fin 16384) = R := Fin.ext hR
  rw [hR', ← ht, ← hq']

/-- The reference's rotated indexer queries, at an index. -/
theorem v110_apply (z : Vec Ideal S16384x3968 .f32) (R : Fin 16384) (l : Fin 512) :
    val_main_v110 (F := Ideal) z (ix2 R l) = turned z R 3072 l.val (by omega) := by
  rw [val_main_v110_apply,
    show idx_main_v110 (ix2 R l) = ix4 (⟨R.val / 4096, by omega⟩ : Fin 4) (⟨R.val % 4096, by omega⟩ : Fin 4096) (⟨l.val / 64, by omega⟩ : Fin 8)
      (⟨l.val % 64, by omega⟩ : Fin 64) from funext fun a => Fin.ext (match a with
        | ⟨0, _⟩ => show (R.val * 512 + l.val) / 2097152 = R.val / 4096 by omega
        | ⟨1, _⟩ => show (R.val * 512 + l.val) / 512 % 4096 = R.val % 4096 by omega
        | ⟨2, _⟩ => show (R.val * 512 + l.val) / 64 % 8 = l.val / 64 by omega
        | ⟨3, _⟩ => show (R.val * 512 + l.val) % 64 = l.val % 64 by omega), v39_apply]
  exact turned_eq z R 3072 l.val (by omega) _ _ _ _ _ (by show R.val / 4096 * 4096 + R.val % 4096 = R.val; omega) rfl rfl

/-- The reference's rotated keys, at an index. -/
theorem v111_apply (z : Vec Ideal S16384x3968 .f32) (R : Fin 16384) (l : Fin 128) :
    val_main_v111 (F := Ideal) z (ix2 R l) = turned z R 3584 l.val (by omega) := by
  rw [val_main_v111_apply,
    show idx_main_v111 (ix2 R l) = ix4 (⟨R.val / 4096, by omega⟩ : Fin 4) (⟨R.val % 4096, by omega⟩ : Fin 4096) (⟨l.val / 64, by omega⟩ : Fin 2)
      (⟨l.val % 64, by omega⟩ : Fin 64) from funext fun a => Fin.ext (match a with
        | ⟨0, _⟩ => show (R.val * 128 + l.val) / 524288 = R.val / 4096 by omega
        | ⟨1, _⟩ => show (R.val * 128 + l.val) / 128 % 4096 = R.val % 4096 by omega
        | ⟨2, _⟩ => show (R.val * 128 + l.val) / 64 % 2 = l.val / 64 by omega
        | ⟨3, _⟩ => show (R.val * 128 + l.val) % 64 = l.val % 64 by omega), v74_apply]
  exact turned_eq z R 3584 l.val (by omega) _ _ _ _ _ (by show R.val / 4096 * 4096 + R.val % 4096 = R.val; omega) rfl rfl

/-- The reference's rotated indexer keys, at an index. -/
theorem v112_apply (z : Vec Ideal S16384x3968 .f32) (R : Fin 16384) (l : Fin 64) :
    val_main_v112 (F := Ideal) z (ix2 R l) = turned z R 3840 l.val (by omega) := by
  rw [val_main_v112_apply,
    show idx_main_v112 (ix2 R l) = ix4 (⟨R.val / 4096, by omega⟩ : Fin 4) (⟨R.val % 4096, by omega⟩ : Fin 4096) (⟨0, by omega⟩ : Fin 1)
      (⟨l.val % 64, by omega⟩ : Fin 64) from funext fun a => Fin.ext (match a with
        | ⟨0, _⟩ => show (R.val * 64 + l.val) / 262144 = R.val / 4096 by omega
        | ⟨1, _⟩ => show (R.val * 64 + l.val) / 64 % 4096 = R.val % 4096 by omega
        | ⟨2, _⟩ => rfl
        | ⟨3, _⟩ => show (R.val * 64 + l.val) % 64 = l.val % 64 by omega), v109_apply]
  exact turned_eq z R 3840 l.val (by omega) _ _ 0 _ _ (by show R.val / 4096 * 4096 + R.val % 4096 = R.val; omega) (by omega) rfl

end Cert.RopeRefIdeal.RefValue

end
-- ==== Proof.RopeTable.lean ====
/- The rotary call's table: three rows of factors for each position — cosines, sines with their sign changed, and sines — and
   a block of 128 lanes (two heads of 64 coordinates) turned by them. Coordinates 16 to 63 of a head are left as they were,
   so the table has 1, 0 and 0 there. -/
module

public import proofs.«01_k».proof.Proof.RopeRef
public import proofs.«01_k».proof.Proof.Gen.RopeIdeal.Value

@[expose] public section

set_option maxRecDepth 16384

noncomputable section

namespace Cert.RopeIdeal.Table

open Cert.Common Cert.Turn Cert.RopeIdeal Cert.RopeIdeal.Gen Cert.RopeIdeal.Value Idealize.ShloMosaic Idealize.ShloMosaic.TcCoe Idealize.SL.Sem
open Idealize.ShloMosaic.Pipeline (Dat)
open Cert.RopeRefIdeal.RefValue (cosv sinv)

/-- The turned block, at an index: the block, the block moved up by eight lanes and the block moved down by eight, each
    with its factor. -/
theorem pay1_apply (c s1 s2 x : Vec Ideal S512x128 .f32) (r : Fin 512) (l : Fin 128) :
    k0_pay1 c s1 s2 x (ix2 r l)
      = x (ix2 r l) * c (ix2 r l) + x (ix2 r (⟨(l.val + 8) % 128, by omega⟩ : Fin 128)) * s1 (ix2 r l)
        + x (ix2 r (⟨(l.val + 120) % 128, by omega⟩ : Fin 128)) * s2 (ix2 r l) := by
  have e1 : ∀ h, (⟨(l.val + 128 - 120) % 128, h⟩ : Fin 128) = ⟨(l.val + 8) % 128, by omega⟩ := fun h => Fin.ext (by show (l.val + 128 - 120) % 128 = (l.val + 8) % 128; omega)
  have e2 : ∀ h, (⟨(l.val + 128 - 8) % 128, h⟩ : Fin 128) = ⟨(l.val + 120) % 128, by omega⟩ := fun h => Fin.ext (by show (l.val + 128 - 8) % 128 = (l.val + 120) % 128; omega)
  pointwise [k0_pay1]
  rw [e1, e2]

/-- The host's table: the cosines with ones past the turned coordinates, the negated sines and the sines in their halves. -/
def half (k : Fin 3) : Vec Ideal S4096x64 .f32 :=
  match k with
  | 0 => concatenate S4096x64 1 [⟨S4096x8, Cert.RopeRefIdeal.Read.val_main_v18 (F := Ideal)⟩, ⟨S4096x8, Cert.RopeRefIdeal.Read.val_main_v18 (F := Ideal)⟩,
      ⟨S4096x48, broadcastInDim S4096x48 ![] bcast_S_S4096x48 (constant (F := Ideal) S_ .f32 0x3F800000#32)⟩] concatenates_S4096x8_S4096x8_S4096x48_S4096x64_d1
  | 1 => concatenate S4096x64 1 [⟨S4096x8, (Host.negf (F := Ideal) (φ := .f32) (Cert.RopeRefIdeal.Read.val_main_v20 (F := Ideal)) : FVec Ideal S4096x8 .f32)⟩,
      ⟨S4096x8, broadcastInDim S4096x8 ![] bcast_S_S4096x8 (constant (F := Ideal) S_ .f32 0x00000000#32)⟩,
      ⟨S4096x48, broadcastInDim S4096x48 ![] bcast_S_S4096x48 (constant (F := Ideal) S_ .f32 0x00000000#32)⟩] concatenates_S4096x8_S4096x8_S4096x48_S4096x64_d1
  | 2 => concatenate S4096x64 1 [⟨S4096x8, broadcastInDim S4096x8 ![] bcast_S_S4096x8 (constant (F := Ideal) S_ .f32 0x00000000#32)⟩,
      ⟨S4096x8, Cert.RopeRefIdeal.Read.val_main_v20 (F := Ideal)⟩,
      ⟨S4096x48, broadcastInDim S4096x48 ![] bcast_S_S4096x48 (constant (F := Ideal) S_ .f32 0x00000000#32)⟩] concatenates_S4096x8_S4096x8_S4096x48_S4096x64_d1

def table : Vec Ideal S3x4096x128 .f32 :=
  shapeCast _ (broadcastInDim S1x3x1x4096x2x64 ![0, 1, 2, 3, 4, 5] bcast_S1x3x1x4096x1x64_S1x3x1x4096x2x64_0_1_2_3_4_5
    (shapeCast S1x3x1x4096x1x64 (concatenate S3x4096x64 0
      [⟨S1x4096x64, broadcastInDim S1x4096x64 ![1, 2] bcast_S4096x64_S1x4096x64_1_2 (half 0)⟩,
       ⟨S1x4096x64, broadcastInDim S1x4096x64 ![1, 2] bcast_S4096x64_S1x4096x64_1_2 (half 1)⟩,
       ⟨S1x4096x64, broadcastInDim S1x4096x64 ![1, 2] bcast_S4096x64_S1x4096x64_1_2 (half 2)⟩] concatenates_S1x4096x64_S1x4096x64_S1x4096x64_S3x4096x64_d0)
      shapeCasts_S3x4096x64_S1x3x1x4096x1x64)) shapeCasts_S1x3x1x4096x2x64_S3x4096x128

/-- A table row of 128 lanes is its half twice. -/
theorem table_half (k : Fin 3) (p : Fin 4096) (l : Fin 128) : table (ix3 k p l) = half k (ix2 p (⟨l.val % 64, by omega⟩ : Fin 64)) := by
  pointwise [table]
  fin_cases k <;> rfl

/-- The three halves hold the factors of the position's angles. -/
theorem half_apply (k : Fin 3) (p : Fin 4096) (q : Fin 64) : half k (ix2 p q) = factor k (cosv p) (sinv p) q := by
  unfold half factor cosv sinv
  match k with
  | 0 =>
    pointwise
    by_cases a : q.val < 8
    · refine (dif_pos a).trans ?_; rw [dif_pos a]
    · refine (dif_neg a).trans ?_; rw [dif_neg a]
      by_cases b : q.val < 16
      · refine (dif_pos (show q.val - 8 < 8 by omega)).trans ?_; rw [dif_pos b]
      · refine (dif_neg (show ¬ q.val - 8 < 8 by omega)).trans ?_; rw [dif_neg b]
  | 1 =>
    pointwise
    split_ifs <;> rfl
  | 2 =>
    pointwise
    by_cases a : q.val < 8
    · refine (dif_pos a).trans ?_; rw [dif_pos a]
    · refine (dif_neg a).trans ?_; rw [dif_neg a]
      by_cases b : q.val < 16
      · refine (dif_pos (show q.val - 8 < 8 by omega)).trans ?_; rw [dif_pos b]
      · refine (dif_neg (show ¬ q.val - 8 < 8 by omega)).trans ?_; rw [dif_neg b]

/-- The table holds the factors of a position's angles, for the two heads of a row of 128 lanes. -/
theorem table_apply (k : Fin 3) (p : Fin 4096) (l : Fin 128) : table (ix3 k p l) = factor k (cosv p) (sinv p) ⟨l.val % 64, by omega⟩ :=
  (table_half k p l).trans (half_apply k p _)

/-- A block turned by the table's rows is the block with every head's coordinates turned. -/
theorem block_turned (c s1 s2 x : Vec Ideal S512x128 .f32) (r : Fin 512) (l : Fin 128) (p : Fin 4096)
    (h0 : c (ix2 r l) = factor 0 (cosv p) (sinv p) ⟨l.val % 64, by omega⟩) (h1 : s1 (ix2 r l) = factor 1 (cosv p) (sinv p) ⟨l.val % 64, by omega⟩)
    (h2 : s2 (ix2 r l) = factor 2 (cosv p) (sinv p) ⟨l.val % 64, by omega⟩) :
    k0_pay1 c s1 s2 x (ix2 r l)
      = rotated (cosv p) (sinv p) (fun k => x (ix2 r (⟨l.val / 64 * 64 + k.val, by omega⟩ : Fin 128))) ⟨l.val % 64, by omega⟩ := by
  rw [pay1_apply, h0, h1, h2]
  exact row_turned (cosv p) (sinv p) (fun l => x (ix2 r l)) l

variable (m : (ℓ : Loc nD τ sig) → Buf (Elt Ideal) ℓ) (ρ : Dev nD → PrngReg)

/-- The table the host builds before the call. -/
theorem V_v28 (c : Dev nD) : V m c main_v28 = table := by
  simp only [V, hostOps0]
  after_results_simp
  dsimp only [Matrix.cons_val]
  rfl

end Cert.RopeIdeal.Table

end
-- ==== Proof.RopeValue.lean ====
/- The rotary call: what it leaves in four of its results is what the reference computes. Row `512 t + r` of each result is
   written at grid point `t`; there the staged blocks are columns of the combined projection, and the table's block is that of
   the row's position within its sequence. -/
module

public import proofs.«01_k».proof.Proof.RopeTable
public import proofs.«01_k».proof.Proof.Gen.RopeIdeal.Value

@[expose] public section

set_option maxRecDepth 16384

noncomputable section

namespace Cert.RopeIdeal.RefValue

open Cert.Common Cert.Turn Cert.RopeIdeal Cert.RopeIdeal.Gen Cert.RopeIdeal.Value Idealize.ShloMosaic Idealize.ShloMosaic.TcCoe Idealize.SL.Sem
open Idealize.ShloMosaic.Pipeline (Dat)
open Cert.RopeRefIdeal.RefValue (cosv sinv turned v110_apply v111_apply v112_apply)
open Cert.RopeIdeal.Table (table table_apply block_turned V_v28)

/-! ## What the body leaves in the staged results -/

section Body
variable (x0 x1 : Vec Ideal S512x512 .f32) (x2 x3 x4 : Vec Ideal S512x128 .f32) (x5 : Vec Ideal S3x512x128 .f32) (pos : Fin 512 → Fin 4096)

/-- A block of 128 lanes turned by the staged table. -/
def turnBlock (x : Vec Ideal S512x128 .f32) : Vec Ideal S512x128 .f32 :=
  k0_pay1 (k0_pay8 (View.ld x5 (Rect.unit (s := S3x512x128) ![0, 0, 0] S1x512x128.size inb_S3x512x128_S1x512x128_0_0_0)))
    (k0_pay9 (View.ld x5 (Rect.unit (s := S3x512x128) ![1, 0, 0] S1x512x128.size inb_S3x512x128_S1x512x128_1_0_0)))
    (k0_pay10 (View.ld x5 (Rect.unit (s := S3x512x128) ![2, 0, 0] S1x512x128.size inb_S3x512x128_S1x512x128_2_0_0))) x

/-- The staged table is the table at the rows' positions. -/
def Staged : Prop := ∀ (k : Fin 3) (r : Fin 512) (l : Fin 128), x5 (ix3 k r l) = factor k (cosv (pos r)) (sinv (pos r)) ⟨l.val % 64, by omega⟩

/-- A slab of the staged table, at an index. -/
theorem slab (k : ℕ) (hk : k < 3) (h : ∀ a, (![k, 0, 0] : Fin 3 → ℕ) a + S1x512x128.size a ≤ S3x512x128.size a) (r : Fin 512) (l : Fin 128) :
    View.ld x5 (Rect.unit (s := S3x512x128) ![k, 0, 0] S1x512x128.size h) (ix3 (0 : Fin 1) r l) = x5 (ix3 (⟨k, hk⟩ : Fin 3) r l) := by
  refine congrArg x5 ?_
  funext d; apply Fin.ext
  match d with
  | ⟨0, _⟩ => rfl
  | ⟨1, _⟩ => show 0 + 1 * r.val = r.val; omega
  | ⟨2, _⟩ => show 0 + 1 * l.val = l.val; omega

/-- A slab's rows and lanes, with its leading coordinate dropped. -/
theorem pay8_apply (v : Vec Ideal S1x512x128 .f32) (r : Fin 512) (l : Fin 128) : k0_pay8 v (ix2 r l) = v (ix3 (0 : Fin 1) r l) := by
  pointwise [k0_pay8]
theorem pay9_apply (v : Vec Ideal S1x512x128 .f32) (r : Fin 512) (l : Fin 128) : k0_pay9 v (ix2 r l) = v (ix3 (0 : Fin 1) r l) :=
  pay8_apply v r l
theorem pay10_apply (v : Vec Ideal S1x512x128 .f32) (r : Fin 512) (l : Fin 128) : k0_pay10 v (ix2 r l) = v (ix3 (0 : Fin 1) r l) :=
  pay8_apply v r l

/-- A turned block is the block with every head's coordinates turned. -/
theorem turnBlock_apply (hs : Staged x5 pos) (x : Vec Ideal S512x128 .f32) (r : Fin 512) (l : Fin 128) :
    turnBlock x5 x (ix2 r l)
      = rotated (cosv (pos r)) (sinv (pos r)) (fun k => x (ix2 r (⟨l.val / 64 * 64 + k.val, by omega⟩ : Fin 128))) ⟨l.val % 64, by omega⟩ := by
  unfold turnBlock
  refine block_turned _ _ _ x r l (pos r) ?_ ?_ ?_
  · exact (pay8_apply _ r l).trans ((slab x5 0 (by decide) inb_S3x512x128_S1x512x128_0_0_0 r l).trans (hs 0 r l))
  · exact (pay9_apply _ r l).trans ((slab x5 1 (by decide) inb_S3x512x128_S1x512x128_1_0_0 r l).trans (hs 1 r l))
  · exact (pay10_apply _ r l).trans ((slab x5 2 (by decide) inb_S3x512x128_S1x512x128_2_0_0 r l).trans (hs 2 r l))

/-- The first 64 lanes of a block, at an index. -/
theorem low_apply (x : Vec Ideal S512x128 .f32) (r : Fin 512) (l : Fin 64) :
    extractStridedSlice S512x64 ![0, 0] x slices_S512x128_o0_0_S512x64 (ix2 r l) = x (ix2 r (⟨l.val, by omega⟩ : Fin 128)) := by
  pointwise

/-- A wide block with every head turned, at an index. -/
def heads (y : S512x512.Idx) : EReal :=
  rotated (cosv (pos (y 0))) (sinv (pos (y 0)))
    (fun k => x1 (ix2 (n0 := 512) (n1 := 512) (y 0) ⟨(y 1).val / 64 * 64 + k.val, by have h : (y 1).val < 512 := (y 1).isLt; omega⟩)) ⟨(y 1).val % 64, by omega⟩
/-- A strip of 128 lanes of a wide block, turned. -/
theorem strip (hs : Staged x5 pos) (o : ℕ) (ho : o % 64 = 0 ∧ o + 128 ≤ 512) (h h' : ∀ a, (![0, o] : Fin 2 → ℕ) a + S512x128.size a ≤ S512x512.size a) (x : S512x128.Idx) :
    turnBlock x5 (View.ld x1 (Rect.unit (s := S512x512) ![0, o] S512x128.size h')) x
      = heads x1 pos ((Rect.unit (s := S512x512) ![0, o] S512x128.size h).emb x) := by
  obtain ⟨a, b, rfl⟩ : ∃ (a : Fin 512) (b : Fin 128), x = ix2 a b := ⟨x 0, x 1, eq_ix2 x⟩
  have e : (Rect.unit (s := S512x512) ![0, o] S512x128.size h).emb (ix2 a b) = ix2 a (⟨o + b.val, by omega⟩ : Fin 512) := by
    funext d; apply Fin.ext
    match d with
    | ⟨0, _⟩ => show 0 + 1 * a.val = a.val; omega
    | ⟨1, _⟩ => show o + 1 * b.val = o + b.val; omega
  rw [turnBlock_apply x5 pos hs, e]
  show rotated (cosv (pos a)) (sinv (pos a)) _ _ = rotated (cosv (pos a)) (sinv (pos a)) _ _
  have e2 : (⟨b.val % 64, by omega⟩ : Fin 64) = ⟨(o + b.val) % 64, by omega⟩ := Fin.ext (by show b.val % 64 = (o + b.val) % 64; omega)
  rw [e2]
  refine congrArg (fun f => rotated (cosv (pos a)) (sinv (pos a)) f _) (funext fun k => congrArg x1 ?_)
  funext d; apply Fin.ext
  match d with
  | ⟨0, _⟩ => show 0 + 1 * a.val = a.val; omega
  | ⟨1, _⟩ => show o + 1 * (b.val / 64 * 64 + k.val) = (o + b.val) / 64 * 64 + k.val; omega

variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S3x512x128 .f32) (harg6 : arg6.IsWhole) (arg7 : Memref sig .tc .vmem S512x1024 .f32) (harg7 : arg7.IsWhole) (arg8 : Memref sig .tc .vmem S512x512 .f32) (harg8 : arg8.IsWhole) (arg9 : Memref sig .tc .vmem S512x128 .f32) (harg9 : arg9.IsWhole) (arg10 : Memref sig .tc .vmem S512x128 .bf16) (harg10 : arg10.IsWhole) (arg11 : Memref sig .tc .vmem S512x128 .f32) (harg11 : arg11.IsWhole) (arg12 : Memref sig .tc .vmem S512x64 .f32) (harg12 : arg12.IsWhole) (arg13 : Memref sig .tc .vmem S512x256 .bf16) (harg13 : arg13.IsWhole) (arg14 : Memref sig .tc .vmem S1x128x512 .bf16) (harg14 : arg14.IsWhole) (arg15 : Memref sig .tc .vmem S8x512 .f32) (harg15 : arg15.IsWhole)

/-- The staged indexer queries: the four strips turned. -/
theorem out7_eq (hs : Staged x5 pos) : out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = heads x1 pos := by
  unfold out0_A_7
  rw [View.read_writes_junk_eq_canon]
  funext y
  refine View.canon_apply_of_pieces (heads x1 pos) _ ?_ y (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 y)
  unfold kernelRun0_A
  dsimp only
  sl_unfold_words
  simp only [View.readAt_eq_ld, Memref.IsWhole.read_unread, ld_zero]
  intro p hp x
  simp only [List.mem_cons, List.not_mem_nil, or_false] at hp
  rcases hp with rfl | rfl | rfl | rfl
  · exact strip x1 x5 pos hs 384 (by decide) inb_S512x512_S512x128_0_384 inb_S512x512_S512x128_0_384 x
  · exact strip x1 x5 pos hs 256 (by decide) inb_S512x512_S512x128_0_256 inb_S512x512_S512x128_0_256 x
  · exact strip x1 x5 pos hs 128 (by decide) inb_S512x512_S512x128_0_128 inb_S512x512_S512x128_0_128 x
  · exact strip x1 x5 pos hs 0 (by decide) inb_S512x512_S512x128_0_0 inb_S512x512_S512x128_0_0 x

/-- The staged keys: the block turned. -/
theorem out8_eq : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = turnBlock x5 x2 := by
  unfold out0_A_8
  rw [View.read_writes_junk_eq_canon]
  unfold kernelRun0_A
  dsimp only
  sl_unfold_words
  simp only [View.readAt_eq_ld, Memref.IsWhole.read_unread, ld_zero]
  rw [View.canon_unit_zero hz]
  rfl

/-- The staged values: the block as it was. -/
theorem out10_eq : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 = x3 := by
  unfold out0_A_10
  rw [View.read_writes_junk_eq_canon]
  unfold kernelRun0_A
  dsimp only
  sl_unfold_words
  simp only [View.readAt_eq_ld, Memref.IsWhole.read_unread, ld_zero]
  rw [View.canon_unit_zero hz]

/-- The staged indexer keys: the first 64 lanes of the block turned. -/
theorem out11_eq : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5
    = extractStridedSlice S512x64 ![0, 0] (turnBlock x5 x4) slices_S512x128_o0_0_S512x64 := by
  unfold out0_A_11
  rw [View.read_writes_junk_eq_canon]
  unfold kernelRun0_A
  dsimp only
  sl_unfold_words
  simp only [View.readAt_eq_ld, Memref.IsWhole.read_unread, ld_zero]
  rw [View.canon_unit_zero hz]
  rfl

end Body

/-! ## The blocks -/

theorem idx1 : ∀ t : Fin cfg0.N, win0_1.index t (0 : Fin 2) = t.val ∧ win0_1.index t (1 : Fin 2) = 6 := (by decide +kernel : ∀ t : Fin grid0.N, _)
theorem idx2 : ∀ t : Fin cfg0.N, win0_2.index t (0 : Fin 2) = t.val ∧ win0_2.index t (1 : Fin 2) = 28 := (by decide +kernel : ∀ t : Fin grid0.N, _)
theorem idx3 : ∀ t : Fin cfg0.N, win0_3.index t (0 : Fin 2) = t.val ∧ win0_3.index t (1 : Fin 2) = 29 := (by decide +kernel : ∀ t : Fin grid0.N, _)
theorem idx4 : ∀ t : Fin cfg0.N, win0_4.index t (0 : Fin 2) = t.val ∧ win0_4.index t (1 : Fin 2) = 30 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx10 : ∀ t : Fin cfg0.N, win0_10.index t (0 : Fin 2) = t.val ∧ win0_10.index t (1 : Fin 2) = 0 := (by decide +kernel : ∀ t : Fin grid0.N, _)
theorem idx11 : ∀ t : Fin cfg0.N, win0_11.index t (0 : Fin 2) = t.val ∧ win0_11.index t (1 : Fin 2) = 0 := (by decide +kernel : ∀ t : Fin grid0.N, _)
theorem idx5 : ∀ t : Fin cfg0.N, win0_5.index t (0 : Fin 3) = 0 ∧ win0_5.index t (1 : Fin 3) = t.val % 8 ∧ win0_5.index t (2 : Fin 3) = 0 := (by decide +kernel : ∀ t : Fin grid0.N, _)

/-- Row `r` of a block at point `t` is this row of the array, at this position of its sequence. -/
def row (t : Fin cfg0.N) (r : Fin 512) : Fin 16384 := ⟨t.val * 512 + r.val, by have : t.val < 32 := t.isLt; omega⟩
def pos (t : Fin cfg0.N) (r : Fin 512) : Fin 4096 := ⟨t.val % 8 * 512 + r.val, by omega⟩
theorem pos_eq (t : Fin cfg0.N) (r : Fin 512) (h : (row t r).val % 4096 < 4096) : (⟨(row t r).val % 4096, h⟩ : Fin 4096) = pos t r :=
  Fin.ext (by show (t.val * 512 + r.val) % 4096 = t.val % 8 * 512 + r.val; omega)

theorem emb2 (t : Fin cfg0.N) (r : Fin 512) (l : Fin 128) : ((cfg0.win 2).blk t).view.emb (ix2 r l) = ix2 (row t r) (⟨3584 + l.val, by omega⟩ : Fin 3968) := by
  obtain ⟨e0, e1⟩ := idx2 t
  funext a; apply Fin.ext
  match a with
  | ⟨0, _⟩ => show win0_2.index t (0 : Fin 2) * 512 + 1 * r.val = t.val * 512 + r.val; omega
  | ⟨1, _⟩ => show win0_2.index t (1 : Fin 2) * 128 + 1 * l.val = 3584 + l.val; omega
theorem emb3 (t : Fin cfg0.N) (r : Fin 512) (l : Fin 128) : ((cfg0.win 3).blk t).view.emb (ix2 r l) = ix2 (row t r) (⟨3712 + l.val, by omega⟩ : Fin 3968) := by
  obtain ⟨e0, e1⟩ := idx3 t
  funext a; apply Fin.ext
  match a with
  | ⟨0, _⟩ => show win0_3.index t (0 : Fin 2) * 512 + 1 * r.val = t.val * 512 + r.val; omega
  | ⟨1, _⟩ => show win0_3.index t (1 : Fin 2) * 128 + 1 * l.val = 3712 + l.val; omega
theorem emb4 (t : Fin cfg0.N) (r : Fin 512) (l : Fin 128) : ((cfg0.win 4).blk t).view.emb (ix2 r l) = ix2 (row t r) (⟨3840 + l.val, by omega⟩ : Fin 3968) := by
  obtain ⟨e0, e1⟩ := idx4 t
  funext a; apply Fin.ext
  match a with
  | ⟨0, _⟩ => show win0_4.index t (0 : Fin 2) * 512 + 1 * r.val = t.val * 512 + r.val; omega
  | ⟨1, _⟩ => show win0_4.index t (1 : Fin 2) * 128 + 1 * l.val = 3840 + l.val; omega
theorem emb7 (t : Fin cfg0.N) (r : Fin 512) (l : Fin 512) : ((cfg0.win 7).blk t).view.emb (ix2 r l) = ix2 (row t r) l := by
  obtain ⟨e0, e1⟩ := idx7 t
  funext a; apply Fin.ext
  match a with
  | ⟨0, _⟩ => show win0_7.index t (0 : Fin 2) * 512 + 1 * r.val = t.val * 512 + r.val; omega
  | ⟨1, _⟩ => show win0_7.index t (1 : Fin 2) * 512 + 1 * l.val = l.val; omega
theorem emb8 (t : Fin cfg0.N) (r : Fin 512) (l : Fin 128) : ((cfg0.win 8).blk t).view.emb (ix2 r l) = ix2 (row t r) l := by
  obtain ⟨e0, e1⟩ := idx8 t
  funext a; apply Fin.ext
  match a with
  | ⟨0, _⟩ => show win0_8.index t (0 : Fin 2) * 512 + 1 * r.val = t.val * 512 + r.val; omega
  | ⟨1, _⟩ => show win0_8.index t (1 : Fin 2) * 128 + 1 * l.val = l.val; omega
theorem emb10 (t : Fin cfg0.N) (r : Fin 512) (l : Fin 128) : ((cfg0.win 10).blk t).view.emb (ix2 r l) = ix2 (row t r) l := by
  obtain ⟨e0, e1⟩ := idx10 t
  funext a; apply Fin.ext
  match a with
  | ⟨0, _⟩ => show win0_10.index t (0 : Fin 2) * 512 + 1 * r.val = t.val * 512 + r.val; omega
  | ⟨1, _⟩ => show win0_10.index t (1 : Fin 2) * 128 + 1 * l.val = l.val; omega
theorem emb11 (t : Fin cfg0.N) (r : Fin 512) (l : Fin 64) : ((cfg0.win 11).blk t).view.emb (ix2 r l) = ix2 (row t r) l := by
  obtain ⟨e0, e1⟩ := idx11 t
  funext a; apply Fin.ext
  match a with
  | ⟨0, _⟩ => show win0_11.index t (0 : Fin 2) * 512 + 1 * r.val = t.val * 512 + r.val; omega
  | ⟨1, _⟩ => show win0_11.index t (1 : Fin 2) * 64 + 1 * l.val = l.val; omega
theorem emb5 (t : Fin cfg0.N) (k : Fin 3) (r : Fin 512) (l : Fin 128) : ((cfg0.win 5).blk t).view.emb (ix3 k r l) = ix3 k (pos t r) l := by
  obtain ⟨e0, e1, e2⟩ := idx5 t
  funext a; apply Fin.ext
  match a with
  | ⟨0, _⟩ => show win0_5.index t (0 : Fin 3) * 3 + 1 * k.val = k.val; omega
  | ⟨1, _⟩ => show win0_5.index t (1 : Fin 3) * 512 + 1 * r.val = t.val % 8 * 512 + r.val; omega
  | ⟨2, _⟩ => show win0_5.index t (2 : Fin 3) * 128 + 1 * l.val = l.val; omega

variable (m : (ℓ : Loc nD τ sig) → Buf (Elt Ideal) ℓ) (ρ : Dev nD → PrngReg)

/-- The combined projection, as the kernel receives it. -/
def Z (c : Dev nD) : Vec Ideal S16384x3968 .f32 := m ((c : Thread nD τ).loc main_arg0)

/-- The indexer queries' block: the projection's columns from 3072 on. -/
theorem blk1 (c : Dev nD) (t : Fin cfg0.N) (r l : Fin 512) : X0_1 m c t (ix2 r l) = Z m c (ix2 (row t r) (⟨3072 + l.val, by omega⟩ : Fin 3968)) := by
  unfold Z
  rw [← V_main_arg0 m c]
  obtain ⟨e0, e1⟩ := idx1 t
  unfold X0_1 Pipeline.Window.fill
  rw [dif_pos (moved0_1 t _)]
  unfold iblk
  show V m c main_arg0 (((cfg0.win 1).blk t).view.emb _) = _
  refine congrArg (V m c main_arg0) ?_
  funext a; apply Fin.ext
  match a with
  | ⟨0, _⟩ => show win0_1.index t (0 : Fin 2) * 512 + 1 * r.val = t.val * 512 + r.val; omega
  | ⟨1, _⟩ => show win0_1.index t (1 : Fin 2) * 512 + 1 * l.val = 3072 + l.val; omega

/-- The other blocks of the projection: the keys', the values' and the indexer keys'. -/
theorem blk2 (c : Dev nD) (t : Fin cfg0.N) (r : Fin 512) (l : Fin 128) : iblk m c 2 t (ix2 r l) = Z m c (ix2 (row t r) (⟨3584 + l.val, by omega⟩ : Fin 3968)) := by
  unfold Z
  rw [← V_main_arg0 m c, ← emb2]; rfl
theorem blk3 (c : Dev nD) (t : Fin cfg0.N) (r : Fin 512) (l : Fin 128) : iblk m c 3 t (ix2 r l) = Z m c (ix2 (row t r) (⟨3712 + l.val, by omega⟩ : Fin 3968)) := by
  unfold Z
  rw [← V_main_arg0 m c, ← emb3]; rfl
theorem blk4 (c : Dev nD) (t : Fin cfg0.N) (r : Fin 512) (l : Fin 128) : iblk m c 4 t (ix2 r l) = Z m c (ix2 (row t r) (⟨3840 + l.val, by omega⟩ : Fin 3968)) := by
  unfold Z
  rw [← V_main_arg0 m c, ← emb4]; rfl

/-- The staged table is the table at the rows' positions. -/
theorem staged (c : Dev nD) (t : Fin cfg0.N) : Staged (iblk m c 5 t) (pos t) := fun k r l =>
  (show iblk m c 5 t (ix3 k r l) = V m c main_v28 (((cfg0.win 5).blk t).view.emb (ix3 k r l)) from rfl).trans
    (by rw [emb5, V_v28, table_apply])

/-- A head's coordinates turned, read off a block whose lanes are the projection's columns from `o` on. -/
theorem rotated_blk (c : Dev nD) (t : Fin cfg0.N) (r : Fin 512) (o l : ℕ) (h : o + l < 3968 - 64) (f : Fin 64 → EReal)
    (hf : ∀ k : Fin 64, f k = Z m c (ix2 (row t r) (⟨o + (l / 64 * 64 + k.val), by omega⟩ : Fin 3968))) :
    rotated (cosv (pos t r)) (sinv (pos t r)) f ⟨l % 64, by omega⟩ = turned (Z m c) (row t r) o l h := by
  unfold turned
  rw [pos_eq, show f = _ from funext hf]

/-- The reference's results, of the kernel's own argument array. -/
def G7 (c : Dev nD) : Vec Ideal S16384x512 .f32 := Cert.RopeRefIdeal.Read.val_main_v110 (F := Ideal) (Z m c)
def G8 (c : Dev nD) : Vec Ideal S16384x128 .f32 := Cert.RopeRefIdeal.Read.val_main_v111 (F := Ideal) (Z m c)
def G10 (c : Dev nD) : Vec Ideal S16384x128 .f32 := Cert.RopeRefIdeal.Read.val_main_v3 (F := Ideal) (Z m c)
def G11 (c : Dev nD) : Vec Ideal S16384x64 .f32 := Cert.RopeRefIdeal.Read.val_main_v112 (F := Ideal) (Z m c)

/-- What point `t` writes back is its block of the reference's result: the indexer queries. -/
theorem flushed7_eq (c : Dev nD) (t : Fin cfg0.N) :
    (dats m 0 c).flushed 7 t = ((cfg0.win 7).blk t).view.read (Elt Ideal) (G7 m c) := by
  rw [flushed7_A, out7_eq (hs := staged m c t)]
  funext j
  obtain ⟨r, l, rfl⟩ : ∃ (r : Fin 512) (l : Fin 512), j = ix2 r l := ⟨j 0, j 1, eq_ix2 j⟩
  show heads (X0_1 m c t) (pos t) (ix2 r l) = G7 m c (((cfg0.win 7).blk t).view.emb (ix2 r l))
  rw [emb7, G7, v110_apply]
  exact rotated_blk m c t r 3072 l.val (by omega) _ fun k => blk1 m c t r ⟨l.val / 64 * 64 + k.val, by omega⟩

/-- The same of the keys. -/
theorem flushed8_eq (c : Dev nD) (t : Fin cfg0.N) :
    (dats m 0 c).flushed 8 t = ((cfg0.win 8).blk t).view.read (Elt Ideal) (G8 m c) := by
  rw [flushed8_A, out8_eq]
  funext j
  obtain ⟨r, l, rfl⟩ : ∃ (r : Fin 512) (l : Fin 128), j = ix2 r l := ⟨j 0, j 1, eq_ix2 j⟩
  show turnBlock (iblk m c 5 t) (iblk m c 2 t) (ix2 r l) = G8 m c (((cfg0.win 8).blk t).view.emb (ix2 r l))
  rw [emb8, G8, v111_apply, turnBlock_apply (hs := staged m c t)]
  exact rotated_blk m c t r 3584 l.val (by omega) _ fun k => blk2 m c t r ⟨l.val / 64 * 64 + k.val, by omega⟩

/-- The same of the values, which are stored as they were. -/
theorem flushed10_eq (c : Dev nD) (t : Fin cfg0.N) :
    (dats m 0 c).flushed 10 t = ((cfg0.win 10).blk t).view.read (Elt Ideal) (G10 m c) := by
  rw [flushed10_A, out10_eq]
  funext j
  obtain ⟨r, l, rfl⟩ : ∃ (r : Fin 512) (l : Fin 128), j = ix2 r l := ⟨j 0, j 1, eq_ix2 j⟩
  show iblk m c 3 t (ix2 r l) = G10 m c (((cfg0.win 10).blk t).view.emb (ix2 r l))
  rw [emb10, G10, Cert.RopeRefIdeal.Read.val_main_v3_apply, blk3]
  refine congrArg (Z m c) ?_
  funext a; apply Fin.ext
  match a with
  | ⟨0, _⟩ => rfl
  | ⟨1, _⟩ => show 3712 + l.val = _; first | rfl | (show 3712 + l.val = l.val + 3712; omega)

/-- The same of the indexer keys. -/
theorem flushed11_eq (c : Dev nD) (t : Fin cfg0.N) :
    (dats m 0 c).flushed 11 t = ((cfg0.win 11).blk t).view.read (Elt Ideal) (G11 m c) := by
  rw [flushed11_A, out11_eq]
  funext j
  obtain ⟨r, l, rfl⟩ : ∃ (r : Fin 512) (l : Fin 64), j = ix2 r l := ⟨j 0, j 1, eq_ix2 j⟩
  show extractStridedSlice S512x64 ![0, 0] (turnBlock (iblk m c 5 t) (iblk m c 4 t)) slices_S512x128_o0_0_S512x64 (ix2 r l)
    = G11 m c (((cfg0.win 11).blk t).view.emb (ix2 r l))
  rw [emb11, G11, v112_apply, low_apply, turnBlock_apply (hs := staged m c t)]
  exact rotated_blk m c t r 3840 l.val (by omega) _ fun k => blk4 m c t r ⟨l.val / 64 * 64 + k.val, by omega⟩

/-- Every row is in the blocks of one point. -/
theorem row_surj (R : Fin 16384) : ∃ (t : Fin cfg0.N) (r : Fin 512), row t r = R :=
  ⟨⟨R.val / 512, show R.val / 512 < 32 by omega⟩, ⟨R.val % 512, by omega⟩, Fin.ext (by show R.val / 512 * 512 + R.val % 512 = R.val; omega)⟩

/-- So every index of a result is in a block that is written back. -/
theorem covered7 (i : S16384x512.Idx) : ∃ t : Fin cfg0.N, (cfg0.win 7).flush t = true ∧ i ∈ ((cfg0.win 7).blk t).view.set := by
  obtain ⟨R, l, rfl⟩ : ∃ (R : Fin 16384) (l : Fin 512), i = ix2 R l := ⟨i 0, i 1, eq_ix2 i⟩
  obtain ⟨t, r, rfl⟩ := row_surj R
  exact ⟨t, flush0_7 _, emb7 t r l ▸ ((cfg0.win 7).blk t).view.emb_mem_set (ix2 r l)⟩
theorem covered8 (i : S16384x128.Idx) : ∃ t : Fin cfg0.N, (cfg0.win 8).flush t = true ∧ i ∈ ((cfg0.win 8).blk t).view.set := by
  obtain ⟨R, l, rfl⟩ : ∃ (R : Fin 16384) (l : Fin 128), i = ix2 R l := ⟨i 0, i 1, eq_ix2 i⟩
  obtain ⟨t, r, rfl⟩ := row_surj R
  exact ⟨t, flush0_8 _, emb8 t r l ▸ ((cfg0.win 8).blk t).view.emb_mem_set (ix2 r l)⟩
theorem covered10 (i : S16384x128.Idx) : ∃ t : Fin cfg0.N, (cfg0.win 10).flush t = true ∧ i ∈ ((cfg0.win 10).blk t).view.set := by
  obtain ⟨R, l, rfl⟩ : ∃ (R : Fin 16384) (l : Fin 128), i = ix2 R l := ⟨i 0, i 1, eq_ix2 i⟩
  obtain ⟨t, r, rfl⟩ := row_surj R
  exact ⟨t, flush0_10 _, emb10 t r l ▸ ((cfg0.win 10).blk t).view.emb_mem_set (ix2 r l)⟩
theorem covered11 (i : S16384x64.Idx) : ∃ t : Fin cfg0.N, (cfg0.win 11).flush t = true ∧ i ∈ ((cfg0.win 11).blk t).view.set := by
  obtain ⟨R, l, rfl⟩ : ∃ (R : Fin 16384) (l : Fin 64), i = ix2 R l := ⟨i 0, i 1, eq_ix2 i⟩
  obtain ⟨t, r, rfl⟩ := row_surj R
  exact ⟨t, flush0_11 _, emb11 t r l ▸ ((cfg0.win 11).blk t).view.emb_mem_set (ix2 r l)⟩

/-- The run leaves the reference's results in the four result arrays, and the argument as it was. -/
theorem run : θ_run defs (onTc (τ := τ) (main (F := Ideal))) ⟨m, fun _ => 0, ρ⟩ fun r => ∀ c : Dev nD,
      r.2.mem ((c : Thread nD τ).loc main_v29_1) = G7 m c
      ∧ r.2.mem ((c : Thread nD τ).loc main_v29_2) = G8 m c
      ∧ r.2.mem ((c : Thread nD τ).loc main_v29_4) = G10 m c
      ∧ r.2.mem ((c : Thread nD τ).loc main_v29_5) = G11 m c
      ∧ r.2.mem ((c : Thread nD τ).loc main_arg0) = m ((c : Thread nD τ).loc main_arg0) :=
  (θ_run defs _ _).mono (fun r h c => by
    obtain ⟨-, h7, h8, -, h10, h11, -, -, -, ha⟩ := h c
    exact ⟨h7.trans ((dats m 0 c).arrAt_eq_of_cover 7 (G7 m c) (fun t _ => flushed7_eq m c t) covered7),
      h8.trans ((dats m 0 c).arrAt_eq_of_cover 8 (G8 m c) (fun t _ => flushed8_eq m c t) covered8),
      h10.trans ((dats m 0 c).arrAt_eq_of_cover 10 (G10 m c) (fun t _ => flushed10_eq m c t) covered10),
      h11.trans ((dats m 0 c).arrAt_eq_of_cover 11 (G11 m c) (fun t _ => flushed11_eq m c t) covered11), ha⟩) (run_blocks m ρ)

end Cert.RopeIdeal.RefValue

end
-- ==== Proof.FfnSampleValue.lean ====
/- The feed-forward block of the sample's 256 rows: the same call on one row block, so one run of eleven points. What the call
   leaves in its result is what the reference computes. The sum over the hidden dimension is put together from its chunks as in
   the prompt's call (`sum_chunks`). -/
module

public import proofs.«01_k».proof.Proof.Common
public import proofs.«01_k».proof.Proof.Gen.FfnSampleIdeal.Value
public import proofs.«01_k».proof.Proof.Gen.FfnSampleRefIdeal.Read

@[expose] public section

set_option maxRecDepth 16384

noncomputable section

namespace Cert.FfnSampleIdeal.RefValue

open Cert.Common Cert.FfnSampleIdeal Cert.FfnSampleIdeal.Gen Cert.FfnSampleIdeal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the first point of a run stores in the hidden scratch: the normed rows, at an index. -/
theorem pay1_apply (v31 : Vec Ideal S256x1024 .f32) (v32 : Vec Ideal S1x1024 .f32) (r : Fin 256) (l : Fin 1024) :
    k0_pay1 v31 v32 (ix2 r l) = normed (fun k => v31 (ix2 r k)) (fun k => v32 (ix2 (0 : Fin 1) k)) l := by
  unfold normed
  pointwise [k0_pay1]

/-- The sum starts at zero. -/
theorem pay2_apply (r : Fin 256) (l : Fin 1024) : k0_pay2 (F := Ideal) (ix2 r l) = 0 := by
  pointwise [k0_pay2]

/-- What a point adds to the sum, at an index. -/
theorem pay3_apply (v3 : Vec Ideal S256x1024 .bf16) (v4 v7 : Vec Ideal S1024x256 .bf16) (v20 : Vec Ideal S256x1024 .f32)
    (v21 : Vec Ideal S256x1024 .bf16) (r : Fin 256) (l : Fin 1024) :
    k0_pay3 v3 v4 v7 v20 v21 (ix2 r l)
      = v20 (ix2 r l) + ∑ q : Fin 256, act (fun k => v3 (ix2 r k)) (fun k => v4 (ix2 k q)) (fun k => v7 (ix2 k q)) * v21 (ix2 q l) := by
  unfold act sigm
  pointwise [k0_pay3]
  simp only [zero_sub]

/-- What the last point stores in the result block: the residual and the sum, normed. -/
theorem pay4_apply (v31 v32 : Vec Ideal S256x1024 .f32) (v34 : Vec Ideal S1x1024 .f32) (r : Fin 256) (l : Fin 1024) :
    k0_pay4 v31 v32 v34 (ix2 r l) = normed (fun k => v31 (ix2 r k) + v32 (ix2 r k)) (fun k => v34 (ix2 (0 : Fin 1) k)) l := by
  unfold normed
  pointwise [k0_pay4]

section Reference
open Cert.FfnSampleRefIdeal.Read

/-- The reference, at an index. -/
theorem ref_apply (x0 : Vec Ideal S256x1024 .f32) (x1 : Vec Ideal S1024 .f32) (x2 x3 : Vec Ideal S1024x2816 .f32)
    (x4 : Vec Ideal S2816x1024 .f32) (x5 : Vec Ideal S1024 .f32) (r : Fin 256) (l : Fin 1024) :
    val_main_v31 (F := Ideal) x0 x1 x2 x3 x4 x5 (ix2 r l)
      = normed (fun k => x0 (ix2 r k) + ∑ f : Fin 2816, act (normed (fun q => x0 (ix2 r q)) (fun q => x1 (ix1 q)))
          (fun q => x2 (ix2 q f)) (fun q => x3 (ix2 q f)) * x4 (ix2 f k)) (fun k => x5 (ix1 k)) l := by
  unfold normed act sigm
  beta_reduce
  pointwise [val_main_v31, val_main_v30, val_main_v29, val_main_v28, val_main_v27, val_main_v26, val_main_v25, val_main_v24, val_main_cst_4, val_main_v23, val_main_v22, val_main_cst_3, val_main_v21, val_main_v20, val_main_cst_2, val_main_v19, val_main_v18, val_main_v17, val_main_v16, val_main_v15, val_main_v14, val_main_call0_v5, val_main_call0_v4, val_main_call0_cst_0, val_main_call0_v3, val_main_call0_v2, val_main_call0_cst, val_main_call0_v1, val_main_call0_v0, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

end Reference

section A
variable (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .f32) (harg10 : arg10.IsWhole)
    (x0 : Vec Ideal S256x1024 .f32) (x1 : Vec Ideal S1x1024 .f32) (x2 : Vec Ideal S1024x256 .bf16) (x3 : Vec Ideal S1024x256 .bf16) (x4 : Vec Ideal S256x1024 .bf16) (x5 : Vec Ideal S1x1024 .f32) (xs0 : Vec Ideal S256x1024 .bf16) (xs1 : Vec Ideal S256x1024 .f32)

/-- The hidden scratch after the first point of a run. -/
theorem h_first (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 x5
      = k0_pay1 x0 x1 := by
  unfold sout0_A_0
  rw [View.read_writes_junk_eq_canon]
  unfold kernelRun0_A
  dsimp only
  sl_unfold_words
  rw [View.canon_cons_unit_zero hz]
  simp only [cov_zero, View.readAt_eq_ld, Memref.IsWhole.read_unread, ld_zero]

/-- The sum after the first point of a run. -/
theorem acc_first (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 x3 x4 x5
      = k0_pay3 (k0_pay1 x0 x1) x2 x3 (k0_pay2 (F := Ideal)) x4 := by
  unfold sout0_A_1
  rw [View.read_writes_junk_eq_canon]
  unfold kernelRun0_A
  dsimp only
  sl_unfold_words
  rw [View.canon_cons_unit_zero hz]
  simp only [cov_zero, View.readAt_eq_ld, Memref.IsWhole.read_unread, ld_zero]

/-- The sum after a later point of a run that is not its last. -/
theorem acc_next (hc0 : ¬cond0_0 i) (hc1 : ¬cond0_1 i) :
    sout0_B_1 c i arg2 harg2 arg3 harg3 arg4 harg4 arg5 harg5 arg6 harg6 arg7 harg7 arg8 harg8 arg9 harg9 arg10 harg10 hc0 hc1 x0 x1 x2 x3 x4 x5 xs0 xs1
      = k0_pay3 xs0 x2 x3 xs1 x4 := by
  unfold sout0_B_1
  rw [View.read_writes_junk_eq_canon]
  unfold kernelRun0_B
  dsimp only
  sl_unfold_words
  rw [View.canon_cons_unit_zero hz]
  simp only [cov_zero, View.readAt_eq_ld, Memref.IsWhole.read_unread, ld_zero]

/-- The result block after the last point of a run. -/
theorem out_last (hc0 : ¬cond0_0 i) (hc1 : cond0_1 i) :
    out0_C_6 c i arg2 harg2 arg3 harg3 arg4 harg4 arg5 harg5 arg6 harg6 arg7 harg7 arg8 harg8 arg9 harg9 arg10 harg10 hc0 hc1 x0 x1 x2 x3 x4 x5 xs0 xs1
      = k0_pay4 x0 (k0_pay3 xs0 x2 x3 xs1 x4) x5 := by
  unfold out0_C_6
  rw [View.read_writes_junk_eq_canon]
  unfold kernelRun0_C
  dsimp only
  sl_unfold_words
  rw [View.canon_cons_unit_zero hz]
  simp only [cov_zero, View.readAt_eq_ld, Memref.IsWhole.read_unread, ld_zero]
end A

/-! ## The blocks -/

/-- Which block of each array a point stages or writes. -/
theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 11 := (by decide +kernel : ∀ t : Fin grid0.N, _)
theorem idx3 : ∀ t : Fin cfg0.N, win0_3.index t (0 : Fin 2) = 0 ∧ win0_3.index t (1 : Fin 2) = t.val % 11 := (by decide +kernel : ∀ t : Fin grid0.N, _)
theorem idx4 : ∀ t : Fin cfg0.N, win0_4.index t (0 : Fin 2) = t.val % 11 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)

/-- Position `q` of the chunk at point `t` is this position of the hidden dimension. -/
def pos (t : Fin cfg0.N) (q : Fin 256) : Fin 2816 := ⟨t.val % 11 * 256 + q.val, by omega⟩

/-- Where an index of a block at point `t` lies in its array. -/
theorem emb0 (t : Fin cfg0.N) (r : Fin 256) (l : Fin 1024) : ((cfg0.win 0).blk t).view.emb (ix2 r l) = ix2 r l := by
  obtain ⟨e0, e1⟩ := idx0 t
  funext a; apply Fin.ext
  match a with
  | ⟨0, _⟩ => show win0_0.index t (0 : Fin 2) * 256 + 1 * r.val = r.val; omega
  | ⟨1, _⟩ => show win0_0.index t (1 : Fin 2) * 1024 + 1 * l.val = l.val; omega
theorem emb1 (t : Fin cfg0.N) (r : Fin 1) (l : Fin 1024) : ((cfg0.win 1).blk t).view.emb (ix2 r l) = ix2 r l := by
  obtain ⟨e0, e1⟩ := idx1 t
  funext a; apply Fin.ext
  match a with
  | ⟨0, _⟩ => show win0_1.index t (0 : Fin 2) * 1 + 1 * r.val = r.val; omega
  | ⟨1, _⟩ => show win0_1.index t (1 : Fin 2) * 1024 + 1 * l.val = l.val; omega
theorem emb2 (t : Fin cfg0.N) (r : Fin 1024) (q : Fin 256) : ((cfg0.win 2).blk t).view.emb (ix2 r q) = ix2 r (pos t q) := by
  obtain ⟨e0, e1⟩ := idx2 t
  funext a; apply Fin.ext
  match a with
  | ⟨0, _⟩ => show win0_2.index t (0 : Fin 2) * 1024 + 1 * r.val = r.val; omega
  | ⟨1, _⟩ => show win0_2.index t (1 : Fin 2) * 256 + 1 * q.val = t.val % 11 * 256 + q.val; omega
theorem emb3 (t : Fin cfg0.N) (r : Fin 1024) (q : Fin 256) : ((cfg0.win 3).blk t).view.emb (ix2 r q) = ix2 r (pos t q) := by
  obtain ⟨e0, e1⟩ := idx3 t
  funext a; apply Fin.ext
  match a with
  | ⟨0, _⟩ => show win0_3.index t (0 : Fin 2) * 1024 + 1 * r.val = r.val; omega
  | ⟨1, _⟩ => show win0_3.index t (1 : Fin 2) * 256 + 1 * q.val = t.val % 11 * 256 + q.val; omega
theorem emb4 (t : Fin cfg0.N) (q : Fin 256) (l : Fin 1024) : ((cfg0.win 4).blk t).view.emb (ix2 q l) = ix2 (pos t q) l := by
  obtain ⟨e0, e1⟩ := idx4 t
  funext a; apply Fin.ext
  match a with
  | ⟨0, _⟩ => show win0_4.index t (0 : Fin 2) * 256 + 1 * q.val = t.val % 11 * 256 + q.val; omega
  | ⟨1, _⟩ => show win0_4.index t (1 : Fin 2) * 1024 + 1 * l.val = l.val; omega
theorem emb5 (t : Fin cfg0.N) (r : Fin 1) (l : Fin 1024) : ((cfg0.win 5).blk t).view.emb (ix2 r l) = ix2 r l := by
  obtain ⟨e0, e1⟩ := idx5 t
  funext a; apply Fin.ext
  match a with
  | ⟨0, _⟩ => show win0_5.index t (0 : Fin 2) * 1 + 1 * r.val = r.val; omega
  | ⟨1, _⟩ => show win0_5.index t (1 : Fin 2) * 1024 + 1 * l.val = l.val; omega
theorem emb6 (t : Fin cfg0.N) (r : Fin 256) (l : Fin 1024) : ((cfg0.win 6).blk t).view.emb (ix2 r l) = ix2 r l := by
  obtain ⟨e0, e1⟩ := idx6 t
  funext a; apply Fin.ext
  match a with
  | ⟨0, _⟩ => show win0_6.index t (0 : Fin 2) * 256 + 1 * r.val = r.val; omega
  | ⟨1, _⟩ => show win0_6.index t (1 : Fin 2) * 1024 + 1 * l.val = l.val; omega

/-- The host's conversions leave the weights as they were, and its reshapes lay the gains out in one row. -/
theorem V_v0 (c : Dev nD) (i : S1024x2816.Idx) : V m c main_v0 i = m ((c : Thread nD τ).loc main_arg2) i := by
  simp only [V, hostOps0, StableHlo.after_cons, StableHlo.after_nil]
  rfl
theorem V_v1 (c : Dev nD) (i : S1024x2816.Idx) : V m c main_v1 i = m ((c : Thread nD τ).loc main_arg3) i := by
  simp only [V, hostOps0, StableHlo.after_cons, StableHlo.after_nil]
  rfl
theorem V_v2 (c : Dev nD) (i : S2816x1024.Idx) : V m c main_v2 i = m ((c : Thread nD τ).loc main_arg4) i := by
  simp only [V, hostOps0, StableHlo.after_cons, StableHlo.after_nil]
  rfl
theorem V_v3 (c : Dev nD) (l : Fin 1024) : V m c main_v3 (ix2 (0 : Fin 1) l) = m ((c : Thread nD τ).loc main_arg1) (ix1 l) := by
  have e : V m c main_v3 = shapeCast S1x1024 (m ((c : Thread nD τ).loc main_arg1) : Vec Ideal S1024 .f32) shapeCasts_S1024_S1x1024 := by
    simp only [V, hostOps0, StableHlo.after_cons, StableHlo.after_nil]
    rfl
  rw [e]
  pointwise
theorem V_v4 (c : Dev nD) (l : Fin 1024) : V m c main_v4 (ix2 (0 : Fin 1) l) = m ((c : Thread nD τ).loc main_arg5) (ix1 l) := by
  have e : V m c main_v4 = shapeCast S1x1024 (m ((c : Thread nD τ).loc main_arg5) : Vec Ideal S1024 .f32) shapeCasts_S1024_S1x1024 := by
    simp only [V, hostOps0, StableHlo.after_cons, StableHlo.after_nil]
    rfl
  rw [e]
  pointwise

/-- The blocks' entries, of the argument arrays. -/
theorem blk0 (c : Dev nD) (t : Fin cfg0.N) (r : Fin 256) (l : Fin 1024) : iblk m c 0 t (ix2 r l) = m ((c : Thread nD τ).loc main_arg0) (ix2 r l) :=
  (show _ = V m c main_arg0 (((cfg0.win 0).blk t).view.emb (ix2 r l)) from rfl).trans (by rw [emb0, V_main_arg0])
theorem blk1 (c : Dev nD) (t : Fin cfg0.N) (l : Fin 1024) : iblk m c 1 t (ix2 (0 : Fin 1) l) = m ((c : Thread nD τ).loc main_arg1) (ix1 l) :=
  (show _ = V m c main_v3 (((cfg0.win 1).blk t).view.emb (ix2 (0 : Fin 1) l)) from rfl).trans (by rw [emb1, V_v3])
theorem blk2 (c : Dev nD) (t : Fin cfg0.N) (k : Fin 1024) (q : Fin 256) : iblk m c 2 t (ix2 k q) = m ((c : Thread nD τ).loc main_arg2) (ix2 k (pos t q)) :=
  (show _ = V m c main_v0 (((cfg0.win 2).blk t).view.emb (ix2 k q)) from rfl).trans (by rw [emb2, V_v0])
theorem blk3 (c : Dev nD) (t : Fin cfg0.N) (k : Fin 1024) (q : Fin 256) : iblk m c 3 t (ix2 k q) = m ((c : Thread nD τ).loc main_arg3) (ix2 k (pos t q)) :=
  (show _ = V m c main_v1 (((cfg0.win 3).blk t).view.emb (ix2 k q)) from rfl).trans (by rw [emb3, V_v1])
theorem blk4 (c : Dev nD) (t : Fin cfg0.N) (q : Fin 256) (l : Fin 1024) : iblk m c 4 t (ix2 q l) = m ((c : Thread nD τ).loc main_arg4) (ix2 (pos t q) l) :=
  (show _ = V m c main_v2 (((cfg0.win 4).blk t).view.emb (ix2 q l)) from rfl).trans (by rw [emb4, V_v2])
theorem blk5 (c : Dev nD) (t : Fin cfg0.N) (l : Fin 1024) : iblk m c 5 t (ix2 (0 : Fin 1) l) = m ((c : Thread nD τ).loc main_arg5) (ix1 l) :=
  (show _ = V m c main_v4 (((cfg0.win 5).blk t).view.emb (ix2 (0 : Fin 1) l)) from rfl).trans (by rw [emb5, V_v4])

/-! ## The two scratches, point by point -/

/-- The normed row `R` of the argument. -/
def hid (c : Dev nD) (R : Fin 256) : Fin 1024 → EReal :=
  normed (fun q => m ((c : Thread nD τ).loc main_arg0) (ix2 R q)) (fun q => m ((c : Thread nD τ).loc main_arg1) (ix1 q))

/-- What position `f` of the hidden dimension adds to entry `l` of row `R`. -/
def term (c : Dev nD) (R : Fin 256) (l : Fin 1024) (f : Fin 2816) : EReal :=
  act (hid m c R) (fun q => m ((c : Thread nD τ).loc main_arg2) (ix2 q f)) (fun q => m ((c : Thread nD τ).loc main_arg3) (ix2 q f))
    * m ((c : Thread nD τ).loc main_arg4) (ix2 f l)

/-- The step of the accumulator at a point whose hidden scratch holds the normed rows. -/
theorem step_apply (c : Dev nD) (t : Fin cfg0.N) (h : Vec Ideal S256x1024 .bf16) (a : Vec Ideal S256x1024 .f32)
    (r : Fin 256) (l : Fin 1024) (hh : ∀ k, h (ix2 r k) = hid m c r k) :
    k0_pay3 h (iblk m c 2 t) (iblk m c 3 t) a (iblk m c 4 t) (ix2 r l) = a (ix2 r l) + chunkOf (term m c r l) t.val := by
  rw [pay3_apply]
  simp only [hh, blk2, blk3, blk4]
  rfl

/-- After the first point of a run. -/
theorem state_first (c : Dev nD) (t : Fin cfg0.N) (h0 : t.val % 11 = 0) (h1 : ¬t.val % 11 = 10) (r : Fin 256) (l : Fin 1024) :
    (outsAt0 m c t.val t.isLt).2.1 (ix2 r l) = hid m c r l
      ∧ (outsAt0 m c t.val t.isLt).2.2 (ix2 r l) = ∑ k ∈ Finset.range (t.val % 11 + 1), chunkOf (term m c r l) k := by
  have hh : ∀ k, k0_pay1 (iblk m c 0 t) (iblk m c 1 t) (ix2 r k) = hid m c r k := fun k => by
    rw [pay1_apply]
    simp only [blk0, blk1]
    rfl
  rw [outsAt0_A m c t h0 h1]
  dsimp only
  rw [h_first, acc_first, step_apply m c t _ _ r l hh, pay2_apply, zero_add, h0, Finset.sum_range_one, ← chunkOf_mod, h0]
  exact ⟨hh l, rfl⟩

/-- After a later point of a run that is not its last, from the point before. -/
theorem state_next (c : Dev nD) (t : Fin cfg0.N) (h0 : ¬t.val % 11 = 0) (h1 : ¬t.val % 11 = 10) (r : Fin 256) (l : Fin 1024)
    (hh : ∀ k, (outsAt0 m c (t.val - 1) (Nat.lt_of_le_of_lt (Nat.sub_le _ _) t.isLt)).2.1 (ix2 r k) = hid m c r k)
    (ha : (outsAt0 m c (t.val - 1) (Nat.lt_of_le_of_lt (Nat.sub_le _ _) t.isLt)).2.2 (ix2 r l)
      = ∑ k ∈ Finset.range (t.val % 11), chunkOf (term m c r l) k) :
    (outsAt0 m c t.val t.isLt).2.1 (ix2 r l) = hid m c r l
      ∧ (outsAt0 m c t.val t.isLt).2.2 (ix2 r l) = ∑ k ∈ Finset.range (t.val % 11 + 1), chunkOf (term m c r l) k := by
  rw [outsAt0_B m c t h0 h1]
  dsimp only
  rw [acc_next, step_apply m c t _ _ r l hh, ha, Finset.sum_range_succ, chunkOf_mod]
  exact ⟨hh l, rfl⟩

/-- After a point that is not the last of its run, the first scratch holds the normed rows and the second the chunks so far. -/
theorem state (c : Dev nD) : ∀ (n : ℕ) (hn : n < cfg0.N), ¬n % 11 = 10 → ∀ (r : Fin 256) (l : Fin 1024),
    (outsAt0 m c n hn).2.1 (ix2 r l) = hid m c r l
      ∧ (outsAt0 m c n hn).2.2 (ix2 r l) = ∑ k ∈ Finset.range (n % 11 + 1), chunkOf (term m c r l) k := by
  intro n
  induction n with
  | zero => exact fun hn h1 r l => state_first m c ⟨0, hn⟩ rfl h1 r l
  | succ n ih =>
    intro hn h1 r l
    by_cases h0 : (n + 1) % 11 = 0
    · exact state_first m c ⟨n + 1, hn⟩ h0 h1 r l
    · have p := ih (Nat.lt_of_succ_lt hn) (by omega)
      have en : n % 11 + 1 = (n + 1) % 11 := by omega
      refine state_next m c ⟨n + 1, hn⟩ h0 h1 r l (fun k => (p r k).1) (((p r l).2).trans ?_)
      rw [en]

/-- The reference's result, of the kernel's own argument arrays. -/
def G (c : Dev nD) : Vec Ideal S256x1024 .f32 :=
  Cert.FfnSampleRefIdeal.Read.val_main_v31 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- An entry of the argument. -/
def xent (c : Dev nD) (R : Fin 256) (k : Fin 1024) : EReal := m ((c : Thread nD τ).loc main_arg0) (ix2 R k)

/-- The reference's result of the kernel's arguments, at an index. -/
theorem G_apply (c : Dev nD) (R : Fin 256) (l : Fin 1024) :
    G m c (ix2 R l) = normed (fun k => xent m c R k + ∑ f, term m c R k f)
      (fun k => m ((c : Thread nD τ).loc main_arg5) (ix1 k)) l := by
  rw [G, ref_apply]
  rfl

/-- What the last point of a run writes back is its block of the reference's result. -/
theorem flushed_eq (c : Dev nD) (t : Fin cfg0.N) (hf : (cfg0.win 6).flush t = true) :
    (dats m 0 c).flushed 6 t = ((cfg0.win 6).blk t).view.read (Elt Ideal) (G m c) := by
  have h1 : t.val % 11 = 10 := (flush0_6 t).mp hf
  have h0 : ¬t.val % 11 = 0 := by omega
  have hlt : t.val - 1 < cfg0.N := Nat.lt_of_le_of_lt (Nat.sub_le _ _) t.isLt
  rw [flushed6_C m c t h0 h1, out_last]
  funext j
  show k0_pay4 (F := Ideal) _ _ _ j = G m c (((cfg0.win 6).blk t).view.emb j)
  obtain ⟨r, l, rfl⟩ : ∃ (r : Fin 256) (l : Fin 1024), j = ix2 r l := ⟨j 0, j 1, eq_ix2 j⟩
  have p := state m c (t.val - 1) hlt (by omega) r
  have en : (t.val - 1) % 11 + 1 = 10 := by omega
  rw [en] at p
  rw [pay4_apply, emb6, G_apply]
  simp only [step_apply m c t _ _ r _ (fun k => (p k).1), (p _).2, blk0, blk5, sum_chunks, Finset.sum_range_succ _ 10, xent]
  simp only [← chunkOf_mod _ t.val, h1]

/-- Every index of the result is in the block of the last point. -/
theorem covered (i : S256x1024.Idx) : ∃ t : Fin cfg0.N, (cfg0.win 6).flush t = true ∧ i ∈ ((cfg0.win 6).blk t).view.set := by
  obtain ⟨r, l, rfl⟩ : ∃ (r : Fin 256) (l : Fin 1024), i = ix2 r l := ⟨i 0, i 1, eq_ix2 i⟩
  have hlt : 10 < cfg0.N := show 10 < 11 by omega
  exact ⟨⟨10, hlt⟩, (flush0_6 _).mpr rfl, emb6 ⟨10, hlt⟩ r l ▸ ((cfg0.win 6).blk ⟨10, hlt⟩).view.emb_mem_set (ix2 r l)⟩

/-- The result array after the run is the reference's result. -/
theorem final (c : Dev nD) : (dats m 0 c).arrAt 6 cfg0.N = G m c :=
  (dats m 0 c).arrAt_eq_of_cover 6 (G m c) (fun t hf => flushed_eq m c t hf) covered

/-- The run leaves the reference's result in the result array, and the arguments as they were. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.FfnSampleIdeal.RefValue

end
-- ==== Proof.RopeSampleRef.lean ====
/- The sample's rotary reference at an index: thirty-two sequences of eight positions, whose heads are turned as the prompt's
   are, by the angles of the positions after the prompt. -/
module

public import proofs.«01_k».proof.Proof.Turn
public import proofs.«01_k».proof.Proof.Gen.RopeSampleRefIdeal.Read

@[expose] public section

set_option maxRecDepth 16384

noncomputable section

namespace Cert.RopeSampleRefIdeal.RefValue

open Cert.Common Cert.Turn Cert.RopeSampleRefIdeal Cert.RopeSampleRefIdeal.Read Idealize.ShloMosaic Idealize.ShloMosaic.TcCoe Idealize.SL.Sem

/-- The cosine and the sine of position `p`'s angle at frequency `j`. -/
def cosv (p : Fin 8) (j : Fin 8) : EReal := val_main_v20 (F := Ideal) (ix2 p j)
def sinv (p : Fin 8) (j : Fin 8) : EReal := val_main_v22 (F := Ideal) (ix2 p j)

/-- The rotated indexer queries by sequence, position, head and coordinate. -/
theorem v41_apply (z : Vec Ideal S256x3968 .f32) (b : Fin 32) (t : Fin 8) (h : Fin 8) (q : Fin 64) :
    val_main_v41 (F := Ideal) z (ix4 b t h q)
      = rotated (cosv t) (sinv t) (fun k => z (ix2 (⟨b.val * 8 + t.val, by omega⟩ : Fin 256) (⟨3072 + (h.val * 64 + k.val), by omega⟩ : Fin 3968))) q := by
  rw [← rotated_eq]; unfold cosv sinv
  pointwise [val_main_v41, val_main_v40, val_main_v39, val_main_v38, val_main_v37, val_main_v36, val_main_v35, val_main_v34, val_main_v33,
    val_main_v32, val_main_v31, val_main_v30, val_main_v29, val_main_v28, val_main_v27, val_main_v26, val_main_v25, val_main_v24,
    val_main_v23, val_main_v21, val_main_v7, val_main_v3]

/-- The rotated keys by sequence, position, head and coordinate. -/
theorem v76_apply (z : Vec Ideal S256x3968 .f32) (b : Fin 32) (t : Fin 8) (h : Fin 2) (q : Fin 64) :
    val_main_v76 (F := Ideal) z (ix4 b t h q)
      = rotated (cosv t) (sinv t) (fun k => z (ix2 (⟨b.val * 8 + t.val, by omega⟩ : Fin 256) (⟨3584 + (h.val * 64 + k.val), by omega⟩ : Fin 3968))) q := by
  rw [← rotated_eq]; unfold cosv sinv
  have ec : val_main_v55 (F := Ideal) = val_main_v20 := rfl
  have es : val_main_v57 (F := Ideal) = val_main_v22 := rfl
  pointwise [val_main_v76, val_main_v75, val_main_v74, val_main_v73, val_main_v72, val_main_v71, val_main_v70, val_main_v69, val_main_v68,
    val_main_v67, val_main_v66, val_main_v65, val_main_v64, val_main_v63, val_main_v62, val_main_v61, val_main_v60, val_main_v59,
    val_main_v58, val_main_v56, val_main_v42, val_main_v4, ec, es]

/-- The rotated indexer keys by sequence, position, head and coordinate. -/
theorem v111_apply (z : Vec Ideal S256x3968 .f32) (b : Fin 32) (t : Fin 8) (h : Fin 1) (q : Fin 64) :
    val_main_v111 (F := Ideal) z (ix4 b t h q)
      = rotated (cosv t) (sinv t) (fun k => z (ix2 (⟨b.val * 8 + t.val, by omega⟩ : Fin 256) (⟨3840 + (0 + k.val), by omega⟩ : Fin 3968))) q := by
  simp only [Nat.zero_add]
  rw [← rotated_eq]; unfold cosv sinv
  have ec : val_main_v90 (F := Ideal) = val_main_v20 := rfl
  have es : val_main_v92 (F := Ideal) = val_main_v22 := rfl
  pointwise [val_main_v111, val_main_v110, val_main_v109, val_main_v108, val_main_v107, val_main_v106, val_main_v105, val_main_v104, val_main_v103,
    val_main_v102, val_main_v101, val_main_v100, val_main_v99, val_main_v98, val_main_v97, val_main_v96, val_main_v95, val_main_v94,
    val_main_v93, val_main_v91, val_main_v77, val_main_v6, ec, es]

/-- A row's coordinates from `o` on turned head by head, at column `l`: the row's position is its index within the sequence. -/
def turned (z : Vec Ideal S256x3968 .f32) (R : Fin 256) (o : ℕ) (l : ℕ) (h : o + l < 3968 - 64) : EReal :=
  rotated (cosv ⟨R.val % 8, by omega⟩) (sinv ⟨R.val % 8, by omega⟩) (fun k => z (ix2 R (⟨o + (l / 64 * 64 + k.val), by omega⟩ : Fin 3968)))
    ⟨l % 64, by omega⟩

/-- The turned coordinates spelt by sequence and position. -/
theorem turned_eq (z : Vec Ideal S256x3968 .f32) (R : Fin 256) (o l : ℕ) (h : o + l < 3968 - 64) (b : Fin 32) (t : Fin 8) (e : ℕ) (q : Fin 64)
    (w : ∀ k : Fin 64, o + (e + k.val) < 3968)
    (hR : b.val * 8 + t.val = R.val) (he : e = l / 64 * 64) (hq : q.val = l % 64) :
    rotated (cosv t) (sinv t) (fun k => z (ix2 (⟨b.val * 8 + t.val, by omega⟩ : Fin 256) (⟨o + (e + k.val), w k⟩ : Fin 3968))) q = turned z R o l h := by
  subst he
  unfold turned
  have ht : t = ⟨R.val % 8, by omega⟩ := Fin.ext (by have := t.isLt; show t.val = R.val % 8; omega)
  have hq' : q = ⟨l % 64, by omega⟩ := Fin.ext hq
  have hR' : (⟨b.val * 8 + t.val, by omega⟩ : Fin 256) = R := Fin.ext hR
  rw [hR', ← ht, ← hq']

/-- The reference's rotated indexer queries, at an index. -/
theorem v112_apply (z : Vec Ideal S256x3968 .f32) (R : Fin 256) (l : Fin 512) :
    val_main_v112 (F := Ideal) z (ix2 R l) = turned z R 3072 l.val (by omega) := by
  rw [val_main_v112_apply,
    show idx_main_v112 (ix2 R l) = ix4 (⟨R.val / 8, by omega⟩ : Fin 32) (⟨R.val % 8, by omega⟩ : Fin 8) (⟨l.val / 64, by omega⟩ : Fin 8)
      (⟨l.val % 64, by omega⟩ : Fin 64) from funext fun a => Fin.ext (match a with
        | ⟨0, _⟩ => show (R.val * 512 + l.val) / 4096 = R.val / 8 by omega
        | ⟨1, _⟩ => show (R.val * 512 + l.val) / 512 % 8 = R.val % 8 by omega
        | ⟨2, _⟩ => show (R.val * 512 + l.val) / 64 % 8 = l.val / 64 by omega
        | ⟨3, _⟩ => show (R.val * 512 + l.val) % 64 = l.val % 64 by omega), v41_apply]
  exact turned_eq z R 3072 l.val (by omega) _ _ _ _ _ (by show R.val / 8 * 8 + R.val % 8 = R.val; omega) rfl rfl

/-- The reference's rotated keys, at an index. -/
theorem v113_apply (z : Vec Ideal S256x3968 .f32) (R : Fin 256) (l : Fin 128) :
    val_main_v113 (F := Ideal) z (ix2 R l) = turned z R 3584 l.val (by omega) := by
  rw [val_main_v113_apply,
    show idx_main_v113 (ix2 R l) = ix4 (⟨R.val / 8, by omega⟩ : Fin 32) (⟨R.val % 8, by omega⟩ : Fin 8) (⟨l.val / 64, by omega⟩ : Fin 2)
      (⟨l.val % 64, by omega⟩ : Fin 64) from funext fun a => Fin.ext (match a with
        | ⟨0, _⟩ => show (R.val * 128 + l.val) / 1024 = R.val / 8 by omega
        | ⟨1, _⟩ => show (R.val * 128 + l.val) / 128 % 8 = R.val % 8 by omega
        | ⟨2, _⟩ => show (R.val * 128 + l.val) / 64 % 2 = l.val / 64 by omega
        | ⟨3, _⟩ => show (R.val * 128 + l.val) % 64 = l.val % 64 by omega), v76_apply]
  exact turned_eq z R 3584 l.val (by omega) _ _ _ _ _ (by show R.val / 8 * 8 + R.val % 8 = R.val; omega) rfl rfl

/-- The reference's rotated indexer keys, at an index. -/
theorem v114_apply (z : Vec Ideal S256x3968 .f32) (R : Fin 256) (l : Fin 64) :
    val_main_v114 (F := Ideal) z (ix2 R l) = turned z R 3840 l.val (by omega) := by
  rw [val_main_v114_apply,
    show idx_main_v114 (ix2 R l) = ix4 (⟨R.val / 8, by omega⟩ : Fin 32) (⟨R.val % 8, by omega⟩ : Fin 8) (⟨0, by omega⟩ : Fin 1)
      (⟨l.val % 64, by omega⟩ : Fin 64) from funext fun a => Fin.ext (match a with
        | ⟨0, _⟩ => show (R.val * 64 + l.val) / 512 = R.val / 8 by omega
        | ⟨1, _⟩ => show (R.val * 64 + l.val) / 64 % 8 = R.val % 8 by omega
        | ⟨2, _⟩ => rfl
        | ⟨3, _⟩ => show (R.val * 64 + l.val) % 64 = l.val % 64 by omega), v111_apply]
  exact turned_eq z R 3840 l.val (by omega) _ _ 0 _ _ (by show R.val / 8 * 8 + R.val % 8 = R.val; omega) (by omega) rfl

end Cert.RopeSampleRefIdeal.RefValue

end
-- ==== Proof.RopeSampleTable.lean ====
/- The sample's rotary call has the same table for its eight positions, repeated for every sequence: one row of factors for each
   of the 256 rows. -/
module

public import proofs.«01_k».proof.Proof.RopeSampleRef
public import proofs.«01_k».proof.Proof.Gen.RopeSampleIdeal.Value

@[expose] public section

set_option maxRecDepth 16384

noncomputable section

namespace Cert.RopeSampleIdeal.Table

open Cert.Common Cert.Turn Cert.RopeSampleIdeal Cert.RopeSampleIdeal.Gen Cert.RopeSampleIdeal.Value Idealize.ShloMosaic Idealize.ShloMosaic.TcCoe Idealize.SL.Sem
open Idealize.ShloMosaic.Pipeline (Dat)
open Cert.RopeSampleRefIdeal.RefValue (cosv sinv)

/-- The turned block, at an index: the block, the block moved up by eight lanes and the block moved down by eight, each
    with its factor. -/
theorem pay1_apply (c s1 s2 x : Vec Ideal S256x128 .f32) (r : Fin 256) (l : Fin 128) :
    k0_pay1 c s1 s2 x (ix2 r l)
      = x (ix2 r l) * c (ix2 r l) + x (ix2 r (⟨(l.val + 8) % 128, by omega⟩ : Fin 128)) * s1 (ix2 r l)
        + x (ix2 r (⟨(l.val + 120) % 128, by omega⟩ : Fin 128)) * s2 (ix2 r l) := by
  have e1 : ∀ h, (⟨(l.val + 128 - 120) % 128, h⟩ : Fin 128) = ⟨(l.val + 8) % 128, by omega⟩ := fun h => Fin.ext (by show (l.val + 128 - 120) % 128 = (l.val + 8) % 128; omega)
  have e2 : ∀ h, (⟨(l.val + 128 - 8) % 128, h⟩ : Fin 128) = ⟨(l.val + 120) % 128, by omega⟩ := fun h => Fin.ext (by show (l.val + 128 - 8) % 128 = (l.val + 120) % 128; omega)
  pointwise [k0_pay1]
  rw [e1, e2]

/-- The host's table: the cosines with ones past the turned coordinates, the negated sines and the sines in their halves. -/
def half (k : Fin 3) : Vec Ideal S8x64 .f32 :=
  match k with
  | 0 => concatenate S8x64 1 [⟨S8x8, Cert.RopeSampleRefIdeal.Read.val_main_v20 (F := Ideal)⟩, ⟨S8x8, Cert.RopeSampleRefIdeal.Read.val_main_v20 (F := Ideal)⟩,
      ⟨S8x48, broadcastInDim S8x48 ![] bcast_S_S8x48 (constant (F := Ideal) S_ .f32 0x3F800000#32)⟩] concatenates_S8x8_S8x8_S8x48_S8x64_d1
  | 1 => concatenate S8x64 1 [⟨S8x8, (Host.negf (F := Ideal) (φ := .f32) (Cert.RopeSampleRefIdeal.Read.val_main_v22 (F := Ideal)) : FVec Ideal S8x8 .f32)⟩,
      ⟨S8x8, broadcastInDim S8x8 ![] bcast_S_S8x8 (constant (F := Ideal) S_ .f32 0x00000000#32)⟩,
      ⟨S8x48, broadcastInDim S8x48 ![] bcast_S_S8x48 (constant (F := Ideal) S_ .f32 0x00000000#32)⟩] concatenates_S8x8_S8x8_S8x48_S8x64_d1
  | 2 => concatenate S8x64 1 [⟨S8x8, broadcastInDim S8x8 ![] bcast_S_S8x8 (constant (F := Ideal) S_ .f32 0x00000000#32)⟩,
      ⟨S8x8, Cert.RopeSampleRefIdeal.Read.val_main_v22 (F := Ideal)⟩,
      ⟨S8x48, broadcastInDim S8x48 ![] bcast_S_S8x48 (constant (F := Ideal) S_ .f32 0x00000000#32)⟩] concatenates_S8x8_S8x8_S8x48_S8x64_d1

def table : Vec Ideal S3x8x128 .f32 :=
  shapeCast _ (broadcastInDim S1x3x1x8x2x64 ![0, 1, 2, 3, 4, 5] bcast_S1x3x1x8x1x64_S1x3x1x8x2x64_0_1_2_3_4_5
    (shapeCast S1x3x1x8x1x64 (concatenate S3x8x64 0
      [⟨S1x8x64, broadcastInDim S1x8x64 ![1, 2] bcast_S8x64_S1x8x64_1_2 (half 0)⟩,
       ⟨S1x8x64, broadcastInDim S1x8x64 ![1, 2] bcast_S8x64_S1x8x64_1_2 (half 1)⟩,
       ⟨S1x8x64, broadcastInDim S1x8x64 ![1, 2] bcast_S8x64_S1x8x64_1_2 (half 2)⟩] concatenates_S1x8x64_S1x8x64_S1x8x64_S3x8x64_d0)
      shapeCasts_S3x8x64_S1x3x1x8x1x64)) shapeCasts_S1x3x1x8x2x64_S3x8x128

/-- A table row of 128 lanes is its half twice. -/
theorem table_half (k : Fin 3) (p : Fin 8) (l : Fin 128) : table (ix3 k p l) = half k (ix2 p (⟨l.val % 64, by omega⟩ : Fin 64)) := by
  pointwise [table]
  fin_cases k <;> rfl

/-- The three halves hold the factors of the position's angles. -/
theorem half_apply (k : Fin 3) (p : Fin 8) (q : Fin 64) : half k (ix2 p q) = factor k (cosv p) (sinv p) q := by
  unfold half factor cosv sinv
  match k with
  | 0 =>
    pointwise
    by_cases a : q.val < 8
    · refine (dif_pos a).trans ?_; rw [dif_pos a]
    · refine (dif_neg a).trans ?_; rw [dif_neg a]
      by_cases b : q.val < 16
      · refine (dif_pos (show q.val - 8 < 8 by omega)).trans ?_; rw [dif_pos b]
      · refine (dif_neg (show ¬ q.val - 8 < 8 by omega)).trans ?_; rw [dif_neg b]
  | 1 =>
    pointwise
    split_ifs <;> rfl
  | 2 =>
    pointwise
    by_cases a : q.val < 8
    · refine (dif_pos a).trans ?_; rw [dif_pos a]
    · refine (dif_neg a).trans ?_; rw [dif_neg a]
      by_cases b : q.val < 16
      · refine (dif_pos (show q.val - 8 < 8 by omega)).trans ?_; rw [dif_pos b]
      · refine (dif_neg (show ¬ q.val - 8 < 8 by omega)).trans ?_; rw [dif_neg b]

/-- The table holds the factors of a position's angles, for the two heads of a row of 128 lanes. -/
theorem table_apply (k : Fin 3) (p : Fin 8) (l : Fin 128) : table (ix3 k p l) = factor k (cosv p) (sinv p) ⟨l.val % 64, by omega⟩ :=
  (table_half k p l).trans (half_apply k p _)

/-- A block turned by the table's rows is the block with every head's coordinates turned. -/
theorem block_turned (c s1 s2 x : Vec Ideal S256x128 .f32) (r : Fin 256) (l : Fin 128) (p : Fin 8)
    (h0 : c (ix2 r l) = factor 0 (cosv p) (sinv p) ⟨l.val % 64, by omega⟩) (h1 : s1 (ix2 r l) = factor 1 (cosv p) (sinv p) ⟨l.val % 64, by omega⟩)
    (h2 : s2 (ix2 r l) = factor 2 (cosv p) (sinv p) ⟨l.val % 64, by omega⟩) :
    k0_pay1 c s1 s2 x (ix2 r l)
      = rotated (cosv p) (sinv p) (fun k => x (ix2 r (⟨l.val / 64 * 64 + k.val, by omega⟩ : Fin 128))) ⟨l.val % 64, by omega⟩ := by
  rw [pay1_apply, h0, h1, h2]
  exact row_turned (cosv p) (sinv p) (fun l => x (ix2 r l)) l

/-- The table repeated for the thirty-two sequences. -/
def tiled : Vec Ideal S3x256x128 .f32 :=
  shapeCast _ (broadcastInDim S1x3x32x8x1x128 ![0, 1, 2, 3, 4, 5] bcast_S1x3x1x8x1x128_S1x3x32x8x1x128_0_1_2_3_4_5
    (shapeCast S1x3x1x8x1x128 table shapeCasts_S3x8x128_S1x3x1x8x1x128)) shapeCasts_S1x3x32x8x1x128_S3x256x128

/-- Its row is the table's row of the position within the sequence. -/
theorem tiled_table (k : Fin 3) (r : Fin 256) (l : Fin 128) : tiled (ix3 k r l) = table (ix3 k (⟨r.val % 8, by omega⟩ : Fin 8) l) := by
  pointwise [tiled]

/-- So it holds the factors of the row's position. -/
theorem tiled_apply (k : Fin 3) (r : Fin 256) (l : Fin 128) :
    tiled (ix3 k r l) = factor k (cosv ⟨r.val % 8, by omega⟩) (sinv ⟨r.val % 8, by omega⟩) ⟨l.val % 64, by omega⟩ :=
  (tiled_table k r l).trans (table_apply k _ l)

variable (m : (ℓ : Loc nD τ sig) → Buf (Elt Ideal) ℓ) (ρ : Dev nD → PrngReg)

/-- The table the host builds before the call. -/
theorem V_v33 (c : Dev nD) : V m c main_v33 = tiled := by
  simp only [V, hostOps0]
  after_results_simp
  dsimp only [Matrix.cons_val]
  rfl

end Cert.RopeSampleIdeal.Table

end
-- ==== Proof.RopeSampleValue.lean ====
/- The sample's rotary call, which takes its 256 rows at a single point: what it leaves in four of its results is what the
   reference computes. The staged blocks are columns of the combined projection, and the staged table's row is that of the
   row's position within its sequence. -/
module

public import proofs.«01_k».proof.Proof.RopeSampleTable
public import proofs.«01_k».proof.Proof.Gen.RopeSampleIdeal.Value

@[expose] public section

set_option maxRecDepth 16384

noncomputable section

namespace Cert.RopeSampleIdeal.RefValue

open Cert.Common Cert.Turn Cert.RopeSampleIdeal Cert.RopeSampleIdeal.Gen Cert.RopeSampleIdeal.Value Idealize.ShloMosaic Idealize.ShloMosaic.TcCoe Idealize.SL.Sem
open Idealize.ShloMosaic.Pipeline (Dat)
open Cert.RopeSampleRefIdeal.RefValue (cosv sinv turned v112_apply v113_apply v114_apply)
open Cert.RopeSampleIdeal.Table (tiled tiled_apply block_turned V_v33)

/-! ## What the body leaves in the staged results -/

section Body
variable (x0 x1 : Vec Ideal S256x512 .f32) (x2 x3 x4 : Vec Ideal S256x128 .f32) (x5 : Vec Ideal S3x256x128 .f32) (pos : Fin 256 → Fin 8)

/-- A block of 128 lanes turned by the staged table. -/
def turnBlock (x : Vec Ideal S256x128 .f32) : Vec Ideal S256x128 .f32 :=
  k0_pay1 (k0_pay6 (View.ld x5 (Rect.unit (s := S3x256x128) ![0, 0, 0] S1x256x128.size inb_S3x256x128_S1x256x128_0_0_0)))
    (k0_pay7 (View.ld x5 (Rect.unit (s := S3x256x128) ![1, 0, 0] S1x256x128.size inb_S3x256x128_S1x256x128_1_0_0)))
    (k0_pay8 (View.ld x5 (Rect.unit (s := S3x256x128) ![2, 0, 0] S1x256x128.size inb_S3x256x128_S1x256x128_2_0_0))) x

/-- The staged table is the table at the rows' positions. -/
def Staged : Prop := ∀ (k : Fin 3) (r : Fin 256) (l : Fin 128), x5 (ix3 k r l) = factor k (cosv (pos r)) (sinv (pos r)) ⟨l.val % 64, by omega⟩

/-- A slab of the staged table, at an index. -/
theorem slab (k : ℕ) (hk : k < 3) (h : ∀ a, (![k, 0, 0] : Fin 3 → ℕ) a + S1x256x128.size a ≤ S3x256x128.size a) (r : Fin 256) (l : Fin 128) :
    View.ld x5 (Rect.unit (s := S3x256x128) ![k, 0, 0] S1x256x128.size h) (ix3 (0 : Fin 1) r l) = x5 (ix3 (⟨k, hk⟩ : Fin 3) r l) := by
  refine congrArg x5 ?_
  funext d; apply Fin.ext
  match d with
  | ⟨0, _⟩ => rfl
  | ⟨1, _⟩ => show 0 + 1 * r.val = r.val; omega
  | ⟨2, _⟩ => show 0 + 1 * l.val = l.val; omega

/-- A slab's rows and lanes, with its leading coordinate dropped. -/
theorem pay6_apply (v : Vec Ideal S1x256x128 .f32) (r : Fin 256) (l : Fin 128) : k0_pay6 v (ix2 r l) = v (ix3 (0 : Fin 1) r l) := by
  pointwise [k0_pay6]
theorem pay7_apply (v : Vec Ideal S1x256x128 .f32) (r : Fin 256) (l : Fin 128) : k0_pay7 v (ix2 r l) = v (ix3 (0 : Fin 1) r l) :=
  pay6_apply v r l
theorem pay8_apply (v : Vec Ideal S1x256x128 .f32) (r : Fin 256) (l : Fin 128) : k0_pay8 v (ix2 r l) = v (ix3 (0 : Fin 1) r l) :=
  pay6_apply v r l

/-- A turned block is the block with every head's coordinates turned. -/
theorem turnBlock_apply (hs : Staged x5 pos) (x : Vec Ideal S256x128 .f32) (r : Fin 256) (l : Fin 128) :
    turnBlock x5 x (ix2 r l)
      = rotated (cosv (pos r)) (sinv (pos r)) (fun k => x (ix2 r (⟨l.val / 64 * 64 + k.val, by omega⟩ : Fin 128))) ⟨l.val % 64, by omega⟩ := by
  unfold turnBlock
  refine block_turned _ _ _ x r l (pos r) ?_ ?_ ?_
  · exact (pay6_apply _ r l).trans ((slab x5 0 (by decide) inb_S3x256x128_S1x256x128_0_0_0 r l).trans (hs 0 r l))
  · exact (pay7_apply _ r l).trans ((slab x5 1 (by decide) inb_S3x256x128_S1x256x128_1_0_0 r l).trans (hs 1 r l))
  · exact (pay8_apply _ r l).trans ((slab x5 2 (by decide) inb_S3x256x128_S1x256x128_2_0_0 r l).trans (hs 2 r l))

/-- The first 64 lanes of a block, at an index. -/
theorem low_apply (x : Vec Ideal S256x128 .f32) (r : Fin 256) (l : Fin 64) :
    extractStridedSlice S256x64 ![0, 0] x slices_S256x128_o0_0_S256x64 (ix2 r l) = x (ix2 r (⟨l.val, by omega⟩ : Fin 128)) := by
  pointwise

/-- A wide block with every head turned, at an index. -/
def heads (y : S256x512.Idx) : EReal :=
  rotated (cosv (pos (y 0))) (sinv (pos (y 0)))
    (fun k => x1 (ix2 (n0 := 256) (n1 := 512) (y 0) ⟨(y 1).val / 64 * 64 + k.val, by have h : (y 1).val < 512 := (y 1).isLt; omega⟩)) ⟨(y 1).val % 64, by omega⟩
/-- A strip of 128 lanes of a wide block, turned. -/
theorem strip (hs : Staged x5 pos) (o : ℕ) (ho : o % 64 = 0 ∧ o + 128 ≤ 512) (h h' : ∀ a, (![0, o] : Fin 2 → ℕ) a + S256x128.size a ≤ S256x512.size a) (x : S256x128.Idx) :
    turnBlock x5 (View.ld x1 (Rect.unit (s := S256x512) ![0, o] S256x128.size h')) x
      = heads x1 pos ((Rect.unit (s := S256x512) ![0, o] S256x128.size h).emb x) := by
  obtain ⟨a, b, rfl⟩ : ∃ (a : Fin 256) (b : Fin 128), x = ix2 a b := ⟨x 0, x 1, eq_ix2 x⟩
  have e : (Rect.unit (s := S256x512) ![0, o] S256x128.size h).emb (ix2 a b) = ix2 a (⟨o + b.val, by omega⟩ : Fin 512) := by
    funext d; apply Fin.ext
    match d with
    | ⟨0, _⟩ => show 0 + 1 * a.val = a.val; omega
    | ⟨1, _⟩ => show o + 1 * b.val = o + b.val; omega
  rw [turnBlock_apply x5 pos hs, e]
  show rotated (cosv (pos a)) (sinv (pos a)) _ _ = rotated (cosv (pos a)) (sinv (pos a)) _ _
  have e2 : (⟨b.val % 64, by omega⟩ : Fin 64) = ⟨(o + b.val) % 64, by omega⟩ := Fin.ext (by show b.val % 64 = (o + b.val) % 64; omega)
  rw [e2]
  refine congrArg (fun f => rotated (cosv (pos a)) (sinv (pos a)) f _) (funext fun k => congrArg x1 ?_)
  funext d; apply Fin.ext
  match d with
  | ⟨0, _⟩ => show 0 + 1 * a.val = a.val; omega
  | ⟨1, _⟩ => show o + 1 * (b.val / 64 * 64 + k.val) = (o + b.val) / 64 * 64 + k.val; omega

variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S3x256x128 .f32) (harg6 : arg6.IsWhole) (arg7 : Memref sig .tc .vmem S256x1024 .f32) (harg7 : arg7.IsWhole) (arg8 : Memref sig .tc .vmem S256x512 .f32) (harg8 : arg8.IsWhole) (arg9 : Memref sig .tc .vmem S256x128 .f32) (harg9 : arg9.IsWhole) (arg10 : Memref sig .tc .vmem S256x128 .bf16) (harg10 : arg10.IsWhole) (arg11 : Memref sig .tc .vmem S256x128 .f32) (harg11 : arg11.IsWhole) (arg12 : Memref sig .tc .vmem S256x64 .f32) (harg12 : arg12.IsWhole) (arg13 : Memref sig .tc .vmem S256x256 .bf16) (harg13 : arg13.IsWhole)

/-- The staged indexer queries: the four strips turned. -/
theorem out7_eq (hs : Staged x5 pos) : out0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 = heads x1 pos := by
  unfold out0_A_7
  rw [View.read_writes_junk_eq_canon]
  funext y
  refine View.canon_apply_of_pieces (heads x1 pos) _ ?_ y (cover0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 y)
  unfold kernelRun0_A
  dsimp only
  sl_unfold_words
  simp only [View.readAt_eq_ld, Memref.IsWhole.read_unread, ld_zero]
  intro p hp x
  simp only [List.mem_cons, List.not_mem_nil, or_false] at hp
  rcases hp with rfl | rfl | rfl | rfl
  · exact strip x1 x5 pos hs 384 (by decide) inb_S256x512_S256x128_0_384 inb_S256x512_S256x128_0_384 x
  · exact strip x1 x5 pos hs 256 (by decide) inb_S256x512_S256x128_0_256 inb_S256x512_S256x128_0_256 x
  · exact strip x1 x5 pos hs 128 (by decide) inb_S256x512_S256x128_0_128 inb_S256x512_S256x128_0_128 x
  · exact strip x1 x5 pos hs 0 (by decide) inb_S256x512_S256x128_0_0 inb_S256x512_S256x128_0_0 x

/-- The staged keys: the block turned. -/
theorem out8_eq : out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 = turnBlock x5 x2 := by
  unfold out0_A_8
  rw [View.read_writes_junk_eq_canon]
  unfold kernelRun0_A
  dsimp only
  sl_unfold_words
  simp only [View.readAt_eq_ld, Memref.IsWhole.read_unread, ld_zero]
  rw [View.canon_unit_zero hz]
  rfl

/-- The staged values: the block as it was. -/
theorem out10_eq : out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 = x3 := by
  unfold out0_A_10
  rw [View.read_writes_junk_eq_canon]
  unfold kernelRun0_A
  dsimp only
  sl_unfold_words
  simp only [View.readAt_eq_ld, Memref.IsWhole.read_unread, ld_zero]
  rw [View.canon_unit_zero hz]

/-- The staged indexer keys: the first 64 lanes of the block turned. -/
theorem out11_eq : out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5
    = extractStridedSlice S256x64 ![0, 0] (turnBlock x5 x4) slices_S256x128_o0_0_S256x64 := by
  unfold out0_A_11
  rw [View.read_writes_junk_eq_canon]
  unfold kernelRun0_A
  dsimp only
  sl_unfold_words
  simp only [View.readAt_eq_ld, Memref.IsWhole.read_unread, ld_zero]
  rw [View.canon_unit_zero hz]
  rfl

end Body

/-! ## The blocks -/

theorem idx1 : ∀ t : Fin cfg0.N, win0_1.index t (0 : Fin 2) = 0 ∧ win0_1.index t (1 : Fin 2) = 6 := (by decide +kernel : ∀ t : Fin grid0.N, _)
theorem idx2 : ∀ t : Fin cfg0.N, win0_2.index t (0 : Fin 2) = 0 ∧ win0_2.index t (1 : Fin 2) = 28 := (by decide +kernel : ∀ t : Fin grid0.N, _)
theorem idx3 : ∀ t : Fin cfg0.N, win0_3.index t (0 : Fin 2) = 0 ∧ win0_3.index t (1 : Fin 2) = 29 := (by decide +kernel : ∀ t : Fin grid0.N, _)
theorem idx4 : ∀ t : Fin cfg0.N, win0_4.index t (0 : Fin 2) = 0 ∧ win0_4.index t (1 : Fin 2) = 30 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)
theorem idx5 : ∀ t : Fin cfg0.N, win0_5.index t (0 : Fin 3) = 0 ∧ win0_5.index t (1 : Fin 3) = 0 ∧ win0_5.index t (2 : Fin 3) = 0 := (by decide +kernel : ∀ t : Fin grid0.N, _)

/-- The position of row `r` within its sequence. -/
def pos (r : Fin 256) : Fin 8 := ⟨r.val % 8, by omega⟩

/-- Where an index of a block lies in its array: its row is the array's. -/
theorem emb2 (t : Fin cfg0.N) (r : Fin 256) (l : Fin 128) : ((cfg0.win 2).blk t).view.emb (ix2 r l) = ix2 r (⟨3584 + l.val, by omega⟩ : Fin 3968) := by
  obtain ⟨e0, e1⟩ := idx2 t
  funext a; apply Fin.ext
  match a with
  | ⟨0, _⟩ => show win0_2.index t (0 : Fin 2) * 256 + 1 * r.val = r.val; omega
  | ⟨1, _⟩ => show win0_2.index t (1 : Fin 2) * 128 + 1 * l.val = 3584 + l.val; omega
theorem emb3 (t : Fin cfg0.N) (r : Fin 256) (l : Fin 128) : ((cfg0.win 3).blk t).view.emb (ix2 r l) = ix2 r (⟨3712 + l.val, by omega⟩ : Fin 3968) := by
  obtain ⟨e0, e1⟩ := idx3 t
  funext a; apply Fin.ext
  match a with
  | ⟨0, _⟩ => show win0_3.index t (0 : Fin 2) * 256 + 1 * r.val = r.val; omega
  | ⟨1, _⟩ => show win0_3.index t (1 : Fin 2) * 128 + 1 * l.val = 3712 + l.val; omega
theorem emb4 (t : Fin cfg0.N) (r : Fin 256) (l : Fin 128) : ((cfg0.win 4).blk t).view.emb (ix2 r l) = ix2 r (⟨3840 + l.val, by omega⟩ : Fin 3968) := by
  obtain ⟨e0, e1⟩ := idx4 t
  funext a; apply Fin.ext
  match a with
  | ⟨0, _⟩ => show win0_4.index t (0 : Fin 2) * 256 + 1 * r.val = r.val; omega
  | ⟨1, _⟩ => show win0_4.index t (1 : Fin 2) * 128 + 1 * l.val = 3840 + l.val; omega
theorem emb7 (t : Fin cfg0.N) (r : Fin 256) (l : Fin 512) : ((cfg0.win 7).blk t).view.emb (ix2 r l) = ix2 r l := by
  obtain ⟨e0, e1⟩ := idx7 t
  funext a; apply Fin.ext
  match a with
  | ⟨0, _⟩ => show win0_7.index t (0 : Fin 2) * 256 + 1 * r.val = r.val; omega
  | ⟨1, _⟩ => show win0_7.index t (1 : Fin 2) * 512 + 1 * l.val = l.val; omega
theorem emb8 (t : Fin cfg0.N) (r : Fin 256) (l : Fin 128) : ((cfg0.win 8).blk t).view.emb (ix2 r l) = ix2 r l := by
  obtain ⟨e0, e1⟩ := idx8 t
  funext a; apply Fin.ext
  match a with
  | ⟨0, _⟩ => show win0_8.index t (0 : Fin 2) * 256 + 1 * r.val = r.val; omega
  | ⟨1, _⟩ => show win0_8.index t (1 : Fin 2) * 128 + 1 * l.val = l.val; omega
theorem emb10 (t : Fin cfg0.N) (r : Fin 256) (l : Fin 128) : ((cfg0.win 10).blk t).view.emb (ix2 r l) = ix2 r l := by
  obtain ⟨e0, e1⟩ := idx10 t
  funext a; apply Fin.ext
  match a with
  | ⟨0, _⟩ => show win0_10.index t (0 : Fin 2) * 256 + 1 * r.val = r.val; omega
  | ⟨1, _⟩ => show win0_10.index t (1 : Fin 2) * 128 + 1 * l.val = l.val; omega
theorem emb11 (t : Fin cfg0.N) (r : Fin 256) (l : Fin 64) : ((cfg0.win 11).blk t).view.emb (ix2 r l) = ix2 r l := by
  obtain ⟨e0, e1⟩ := idx11 t
  funext a; apply Fin.ext
  match a with
  | ⟨0, _⟩ => show win0_11.index t (0 : Fin 2) * 256 + 1 * r.val = r.val; omega
  | ⟨1, _⟩ => show win0_11.index t (1 : Fin 2) * 64 + 1 * l.val = l.val; omega
theorem emb5 (t : Fin cfg0.N) (k : Fin 3) (r : Fin 256) (l : Fin 128) : ((cfg0.win 5).blk t).view.emb (ix3 k r l) = ix3 k r l := by
  obtain ⟨e0, e1, e2⟩ := idx5 t
  funext a; apply Fin.ext
  match a with
  | ⟨0, _⟩ => show win0_5.index t (0 : Fin 3) * 3 + 1 * k.val = k.val; omega
  | ⟨1, _⟩ => show win0_5.index t (1 : Fin 3) * 256 + 1 * r.val = r.val; omega
  | ⟨2, _⟩ => show win0_5.index t (2 : Fin 3) * 128 + 1 * l.val = l.val; omega

variable (m : (ℓ : Loc nD τ sig) → Buf (Elt Ideal) ℓ) (ρ : Dev nD → PrngReg)

/-- The combined projection, as the kernel receives it. -/
def Z (c : Dev nD) : Vec Ideal S256x3968 .f32 := m ((c : Thread nD τ).loc main_arg0)

/-- The indexer queries' block: the projection's columns from 3072 on. -/
theorem blk1 (c : Dev nD) (t : Fin cfg0.N) (r : Fin 256) (l : Fin 512) : X0_1 m c t (ix2 r l) = Z m c (ix2 r (⟨3072 + l.val, by omega⟩ : Fin 3968)) := by
  unfold Z
  rw [← V_main_arg0 m c]
  obtain ⟨e0, e1⟩ := idx1 t
  unfold X0_1 Pipeline.Window.fill
  rw [dif_pos (moved0_1 t _)]
  unfold iblk
  show V m c main_arg0 (((cfg0.win 1).blk t).view.emb _) = _
  refine congrArg (V m c main_arg0) ?_
  funext a; apply Fin.ext
  match a with
  | ⟨0, _⟩ => show win0_1.index t (0 : Fin 2) * 256 + 1 * r.val = r.val; omega
  | ⟨1, _⟩ => show win0_1.index t (1 : Fin 2) * 512 + 1 * l.val = 3072 + l.val; omega

/-- The other blocks of the projection: the keys', the values' and the indexer keys'. -/
theorem blk2 (c : Dev nD) (t : Fin cfg0.N) (r : Fin 256) (l : Fin 128) : iblk m c 2 t (ix2 r l) = Z m c (ix2 r (⟨3584 + l.val, by omega⟩ : Fin 3968)) := by
  unfold Z
  rw [← V_main_arg0 m c, ← emb2 t r l]; rfl
theorem blk3 (c : Dev nD) (t : Fin cfg0.N) (r : Fin 256) (l : Fin 128) : iblk m c 3 t (ix2 r l) = Z m c (ix2 r (⟨3712 + l.val, by omega⟩ : Fin 3968)) := by
  unfold Z
  rw [← V_main_arg0 m c, ← emb3 t r l]; rfl
theorem blk4 (c : Dev nD) (t : Fin cfg0.N) (r : Fin 256) (l : Fin 128) : iblk m c 4 t (ix2 r l) = Z m c (ix2 r (⟨3840 + l.val, by omega⟩ : Fin 3968)) := by
  unfold Z
  rw [← V_main_arg0 m c, ← emb4 t r l]; rfl

/-- The staged table is the table at the rows' positions. -/
theorem staged (c : Dev nD) (t : Fin cfg0.N) : Staged (iblk m c 5 t) pos := fun k r l =>
  (show iblk m c 5 t (ix3 k r l) = V m c main_v33 (((cfg0.win 5).blk t).view.emb (ix3 k r l)) from rfl).trans
    (by rw [emb5, V_v33]; exact tiled_apply k r l)

/-- A head's coordinates turned, read off a block whose lanes are the projection's columns from `o` on. -/
theorem rotated_blk (c : Dev nD) (t : Fin cfg0.N) (r : Fin 256) (o l : ℕ) (h : o + l < 3968 - 64) (f : Fin 64 → EReal)
    (hf : ∀ k : Fin 64, f k = Z m c (ix2 r (⟨o + (l / 64 * 64 + k.val), by omega⟩ : Fin 3968))) :
    rotated (cosv (pos r)) (sinv (pos r)) f ⟨l % 64, by omega⟩ = turned (Z m c) r o l h := by
  unfold turned
  rw [show f = _ from funext hf]
  rfl

/-- The reference's results, of the kernel's own argument array. -/
def G7 (c : Dev nD) : Vec Ideal S256x512 .f32 := Cert.RopeSampleRefIdeal.Read.val_main_v112 (F := Ideal) (Z m c)
def G8 (c : Dev nD) : Vec Ideal S256x128 .f32 := Cert.RopeSampleRefIdeal.Read.val_main_v113 (F := Ideal) (Z m c)
def G10 (c : Dev nD) : Vec Ideal S256x128 .f32 := Cert.RopeSampleRefIdeal.Read.val_main_v5 (F := Ideal) (Z m c)
def G11 (c : Dev nD) : Vec Ideal S256x64 .f32 := Cert.RopeSampleRefIdeal.Read.val_main_v114 (F := Ideal) (Z m c)

/-- What point `t` writes back is its block of the reference's result: the indexer queries. -/
theorem flushed7_eq (c : Dev nD) (t : Fin cfg0.N) :
    (dats m 0 c).flushed 7 t = ((cfg0.win 7).blk t).view.read (Elt Ideal) (G7 m c) := by
  rw [flushed7_A, out7_eq (hs := staged m c t)]
  funext j
  obtain ⟨r, l, rfl⟩ : ∃ (r : Fin 256) (l : Fin 512), j = ix2 r l := ⟨j 0, j 1, eq_ix2 j⟩
  show heads (X0_1 m c t) pos (ix2 r l) = G7 m c (((cfg0.win 7).blk t).view.emb (ix2 r l))
  rw [emb7, G7, v112_apply]
  exact rotated_blk m c t r 3072 l.val (by omega) _ fun k => blk1 m c t r ⟨l.val / 64 * 64 + k.val, by omega⟩

/-- The same of the keys. -/
theorem flushed8_eq (c : Dev nD) (t : Fin cfg0.N) :
    (dats m 0 c).flushed 8 t = ((cfg0.win 8).blk t).view.read (Elt Ideal) (G8 m c) := by
  rw [flushed8_A, out8_eq]
  funext j
  obtain ⟨r, l, rfl⟩ : ∃ (r : Fin 256) (l : Fin 128), j = ix2 r l := ⟨j 0, j 1, eq_ix2 j⟩
  show turnBlock (iblk m c 5 t) (iblk m c 2 t) (ix2 r l) = G8 m c (((cfg0.win 8).blk t).view.emb (ix2 r l))
  rw [emb8, G8, v113_apply, turnBlock_apply (hs := staged m c t)]
  exact rotated_blk m c t r 3584 l.val (by omega) _ fun k => blk2 m c t r ⟨l.val / 64 * 64 + k.val, by omega⟩

/-- The same of the values, which are stored as they were. -/
theorem flushed10_eq (c : Dev nD) (t : Fin cfg0.N) :
    (dats m 0 c).flushed 10 t = ((cfg0.win 10).blk t).view.read (Elt Ideal) (G10 m c) := by
  rw [flushed10_A, out10_eq]
  funext j
  obtain ⟨r, l, rfl⟩ : ∃ (r : Fin 256) (l : Fin 128), j = ix2 r l := ⟨j 0, j 1, eq_ix2 j⟩
  show iblk m c 3 t (ix2 r l) = G10 m c (((cfg0.win 10).blk t).view.emb (ix2 r l))
  rw [emb10, G10, Cert.RopeSampleRefIdeal.Read.val_main_v5_apply, blk3]
  refine congrArg (Z m c) ?_
  funext a; apply Fin.ext
  match a with
  | ⟨0, _⟩ => rfl
  | ⟨1, _⟩ => show 3712 + l.val = _; first | rfl | (show 3712 + l.val = l.val + 3712; omega)

/-- The same of the indexer keys. -/
theorem flushed11_eq (c : Dev nD) (t : Fin cfg0.N) :
    (dats m 0 c).flushed 11 t = ((cfg0.win 11).blk t).view.read (Elt Ideal) (G11 m c) := by
  rw [flushed11_A, out11_eq]
  funext j
  obtain ⟨r, l, rfl⟩ : ∃ (r : Fin 256) (l : Fin 64), j = ix2 r l := ⟨j 0, j 1, eq_ix2 j⟩
  show extractStridedSlice S256x64 ![0, 0] (turnBlock (iblk m c 5 t) (iblk m c 4 t)) slices_S256x128_o0_0_S256x64 (ix2 r l)
    = G11 m c (((cfg0.win 11).blk t).view.emb (ix2 r l))
  rw [emb11, G11, v114_apply, low_apply, turnBlock_apply (hs := staged m c t)]
  exact rotated_blk m c t r 3840 l.val (by omega) _ fun k => blk4 m c t r ⟨l.val / 64 * 64 + k.val, by omega⟩

/-- Every index of a result is in the block the point writes back. -/
theorem covered7 (i : S256x512.Idx) : ∃ t : Fin cfg0.N, (cfg0.win 7).flush t = true ∧ i ∈ ((cfg0.win 7).blk t).view.set := by
  obtain ⟨r, l, rfl⟩ : ∃ (r : Fin 256) (l : Fin 512), i = ix2 r l := ⟨i 0, i 1, eq_ix2 i⟩
  exact ⟨(⟨0, by decide⟩ : Fin cfg0.N), flush0_7 _, emb7 _ r l ▸ ((cfg0.win 7).blk (⟨0, by decide⟩ : Fin cfg0.N)).view.emb_mem_set (ix2 r l)⟩
theorem covered8 (i : S256x128.Idx) : ∃ t : Fin cfg0.N, (cfg0.win 8).flush t = true ∧ i ∈ ((cfg0.win 8).blk t).view.set := by
  obtain ⟨r, l, rfl⟩ : ∃ (r : Fin 256) (l : Fin 128), i = ix2 r l := ⟨i 0, i 1, eq_ix2 i⟩
  exact ⟨(⟨0, by decide⟩ : Fin cfg0.N), flush0_8 _, emb8 _ r l ▸ ((cfg0.win 8).blk (⟨0, by decide⟩ : Fin cfg0.N)).view.emb_mem_set (ix2 r l)⟩
theorem covered10 (i : S256x128.Idx) : ∃ t : Fin cfg0.N, (cfg0.win 10).flush t = true ∧ i ∈ ((cfg0.win 10).blk t).view.set := by
  obtain ⟨r, l, rfl⟩ : ∃ (r : Fin 256) (l : Fin 128), i = ix2 r l := ⟨i 0, i 1, eq_ix2 i⟩
  exact ⟨(⟨0, by decide⟩ : Fin cfg0.N), flush0_10 _, emb10 _ r l ▸ ((cfg0.win 10).blk (⟨0, by decide⟩ : Fin cfg0.N)).view.emb_mem_set (ix2 r l)⟩
theorem covered11 (i : S256x64.Idx) : ∃ t : Fin cfg0.N, (cfg0.win 11).flush t = true ∧ i ∈ ((cfg0.win 11).blk t).view.set := by
  obtain ⟨r, l, rfl⟩ : ∃ (r : Fin 256) (l : Fin 64), i = ix2 r l := ⟨i 0, i 1, eq_ix2 i⟩
  exact ⟨(⟨0, by decide⟩ : Fin cfg0.N), flush0_11 _, emb11 _ r l ▸ ((cfg0.win 11).blk (⟨0, by decide⟩ : Fin cfg0.N)).view.emb_mem_set (ix2 r l)⟩

/-- The run leaves the reference's results in the four result arrays, and the argument as it was. -/
theorem run : θ_run defs (onTc (τ := τ) (main (F := Ideal))) ⟨m, fun _ => 0, ρ⟩ fun r => ∀ c : Dev nD,
      r.2.mem ((c : Thread nD τ).loc main_v34_1) = G7 m c
      ∧ r.2.mem ((c : Thread nD τ).loc main_v34_2) = G8 m c
      ∧ r.2.mem ((c : Thread nD τ).loc main_v34_4) = G10 m c
      ∧ r.2.mem ((c : Thread nD τ).loc main_v34_5) = G11 m c
      ∧ r.2.mem ((c : Thread nD τ).loc main_arg0) = m ((c : Thread nD τ).loc main_arg0) :=
  (θ_run defs _ _).mono (fun r h c => by
    obtain ⟨-, h7, h8, -, h10, h11, -, ha⟩ := h c
    exact ⟨h7.trans ((dats m 0 c).arrAt_eq_of_cover 7 (G7 m c) (fun t _ => flushed7_eq m c t) covered7),
      h8.trans ((dats m 0 c).arrAt_eq_of_cover 8 (G8 m c) (fun t _ => flushed8_eq m c t) covered8),
      h10.trans ((dats m 0 c).arrAt_eq_of_cover 10 (G10 m c) (fun t _ => flushed10_eq m c t) covered10),
      h11.trans ((dats m 0 c).arrAt_eq_of_cover 11 (G11 m c) (fun t _ => flushed11_eq m c t) covered11), ha⟩) (run_blocks m ρ)

end Cert.RopeSampleIdeal.RefValue

end
-- ==== Proof.NormProjSampleValue.lean ====
/- The norm and the input projection of the sample's 256 rows. The call has one grid point, whose body is the body of the prompt's
   call on a block of 256 rows; so the strips it stores, and the permutation of the weight's columns, are those of
   `Proof/NormProjValue.lean`, and only the arrays' sizes are read anew here. -/
module

public import proofs.«01_k».proof.Proof.NormProjValue
public import proofs.«01_k».proof.Proof.Gen.NormProjSampleIdeal.Value
public import proofs.«01_k».proof.Proof.Gen.NormProjSampleRefIdeal.Read

@[expose] public section

set_option maxRecDepth 16384

noncomputable section

namespace Cert.NormProjSampleIdeal.RefValue

open Cert.Common Cert.NormProjSampleIdeal Cert.NormProjSampleIdeal.Gen Cert.NormProjSampleIdeal.Value Idealize.ShloMosaic Idealize.ShloMosaic.TcCoe Idealize.SL.Sem
open Idealize.ShloMosaic.Pipeline (Dat)
open Cert.NormProjIdeal.RefValue (src permuted permuted_pos permuted_neg product strip_512 strip_384 weight weight_apply)

section Reference
open Cert.NormProjSampleRefIdeal.Read

/-- The reference's product before the permutation, at an index. -/
theorem product_apply (x0 : Vec Ideal S256x1024 .f32) (x1 : Vec Ideal S1024 .f32) (x2 : Vec Ideal S1024x3912 .f32) (r : Fin 256) (l : Fin 3912) :
    val_main_v13 (F := Ideal) x0 x1 x2 (ix2 r l) = ∑ k, normed (fun q => x0 (ix2 r q)) (fun q => x1 (ix1 q)) k * x2 (ix2 k l) := by
  unfold normed
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

set_option maxHeartbeats 2000000 in
/-- The reference's result, at an index: the product of the normed row and a column of the permuted weight. -/
theorem ref_apply (x0 : Vec Ideal S256x1024 .f32) (x1 : Vec Ideal S1024 .f32) (x2 : Vec Ideal S1024x3912 .f32) (r : Fin 256) (l : Fin 3968) :
    val_main_v24 (F := Ideal) x0 x1 x2 (ix2 r l)
      = ∑ k, normed (fun q => x0 (ix2 r q)) (fun q => x1 (ix1 q)) k * permuted (fun j => x2 (ix2 k j)) l := by
  pointwise [val_main_v24, val_main_v23, val_main_v22, val_main_v21, val_main_v20, val_main_v19, val_main_v18, val_main_v17, val_main_v16,
    val_main_v15, val_main_v14, val_main_cst_2]
  have hl := l.isLt
  by_cases h : l.val < 3912
  · simp only [permuted_pos _ _ h]
    rw [← product_apply x0 x1 x2 r ⟨src l.val, _⟩]
    split_ifs <;> first
      | (exfalso; omega)
      | (refine congrArg _ (congrArg (ix2 r) (Fin.ext ?_)); dsimp only; unfold src; split_ifs <;> omega)
  · simp only [permuted_neg _ _ h, mul_zero, Finset.sum_const_zero]
    split_ifs <;> first
      | (exfalso; omega)
      | rfl

end Reference

/-- What the eight strips leave in the result's staging buffer. -/
theorem out_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3968 .bf16) (harg3 : arg3.IsWhole) (arg4 : Memref sig .tc .vmem S256x3968 .f32) (harg4 : arg4.IsWhole)
    (x0 : Vec Ideal S256x1024 .f32) (x1 : Vec Ideal S1x1024 .f32) (x2 : Vec Ideal S1024x3968 .bf16) :
    out0_A_3 c i arg1 harg1 arg2 harg2 arg3 harg3 arg4 harg4 x0 x1 x2 = product x0 x1 x2 := by
  unfold out0_A_3
  rw [View.read_writes_junk_eq_canon]
  funext y
  refine View.canon_apply_of_pieces (product x0 x1 x2) _ ?_ y (cover0_A_3 c i arg1 harg1 arg2 harg2 arg3 harg3 arg4 harg4 x0 x1 x2 y)
  unfold kernelRun0_A
  dsimp only
  sl_unfold_words
  simp only [View.readAt_eq_ld, Memref.IsWhole.read_unread, ld_zero]
  intro p hp x
  simp only [List.mem_cons, List.not_mem_nil, or_false] at hp
  rcases hp with rfl | rfl | rfl | rfl | rfl | rfl | rfl | rfl
  · exact strip_384 x0 x1 x2 inb_S256x3968_S256x384_0_3584 inb_S1024x3968_S1024x384_0_3584 x
  · exact strip_512 x0 x1 x2 3072 (by decide) inb_S256x3968_S256x512_0_3072 inb_S1024x3968_S1024x512_0_3072 x
  · exact strip_512 x0 x1 x2 2560 (by decide) inb_S256x3968_S256x512_0_2560 inb_S1024x3968_S1024x512_0_2560 x
  · exact strip_512 x0 x1 x2 2048 (by decide) inb_S256x3968_S256x512_0_2048 inb_S1024x3968_S1024x512_0_2048 x
  · exact strip_512 x0 x1 x2 1536 (by decide) inb_S256x3968_S256x512_0_1536 inb_S1024x3968_S1024x512_0_1536 x
  · exact strip_512 x0 x1 x2 1024 (by decide) inb_S256x3968_S256x512_0_1024 inb_S1024x3968_S1024x512_0_1024 x
  · exact strip_512 x0 x1 x2 512 (by decide) inb_S256x3968_S256x512_0_512 inb_S1024x3968_S1024x512_0_512 x
  · exact strip_512 x0 x1 x2 0 (by decide) inb_S256x3968_S256x512_0_0 inb_S1024x3968_S1024x512_0_0 x

/-! ## The blocks: each is its whole array -/

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)

theorem emb0 (t : Fin cfg0.N) (j : S256x1024.Idx) : ((cfg0.win 0).blk t).view.emb j = j := by
  obtain ⟨e0, e1⟩ := idx0 t
  funext a; apply Fin.ext
  match a with
  | ⟨0, _⟩ => show win0_0.index t (0 : Fin 2) * 256 + 1 * (j 0).val = (j 0).val; omega
  | ⟨1, _⟩ => show win0_0.index t (1 : Fin 2) * 1024 + 1 * (j 1).val = (j 1).val; omega
theorem emb1 (t : Fin cfg0.N) (j : S1x1024.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega
theorem emb2 (t : Fin cfg0.N) (j : S1024x3968.Idx) : ((cfg0.win 2).blk t).view.emb j = j := by
  obtain ⟨e0, e1⟩ := idx2 t
  funext a; apply Fin.ext
  match a with
  | ⟨0, _⟩ => show win0_2.index t (0 : Fin 2) * 1024 + 1 * (j 0).val = (j 0).val; omega
  | ⟨1, _⟩ => show win0_2.index t (1 : Fin 2) * 3968 + 1 * (j 1).val = (j 1).val; omega
theorem emb3 (t : Fin cfg0.N) (j : S256x3968.Idx) : ((cfg0.win 3).blk t).view.emb j = j := by
  obtain ⟨e0, e1⟩ := idx3 t
  funext a; apply Fin.ext
  match a with
  | ⟨0, _⟩ => show win0_3.index t (0 : Fin 2) * 256 + 1 * (j 0).val = (j 0).val; omega
  | ⟨1, _⟩ => show win0_3.index t (1 : Fin 2) * 3968 + 1 * (j 1).val = (j 1).val; omega

variable (m : (ℓ : Loc nD τ sig) → Buf (Elt Ideal) ℓ) (ρ : Dev nD → PrngReg)

/-- The host lays the gain out in one row. -/
theorem V_v12 (c : Dev nD) (l : Fin 1024) : V m c main_v12 (ix2 (0 : Fin 1) l) = m ((c : Thread nD τ).loc main_arg1) (ix1 l) := by
  have e : V m c main_v12 = shapeCast S1x1024 (m ((c : Thread nD τ).loc main_arg1) : Vec Ideal S1024 .f32) shapeCasts_S1024_S1x1024 := by
    simp only [V, hostOps0, StableHlo.after_cons, StableHlo.after_nil]
    rfl
  rw [e]
  pointwise

set_option maxHeartbeats 2000000 in
/-- The weight the call reads. -/
theorem V_v11 (c : Dev nD) (k : Fin 1024) (l : Fin 3968) :
    V m c main_v11 (ix2 k l) = permuted (fun j => m ((c : Thread nD τ).loc main_arg2) (ix2 k j)) l := by
  refine Eq.trans ?_ (weight_apply (m ((c : Thread nD τ).loc main_arg2)) k l)
  simp only [V, hostOps0, StableHlo.after_cons, StableHlo.after_nil]
  rfl

/-- The blocks' entries, of the argument arrays. -/
theorem blk0 (c : Dev nD) (t : Fin cfg0.N) (j : S256x1024.Idx) : iblk m c 0 t j = m ((c : Thread nD τ).loc main_arg0) j :=
  (show _ = V m c main_arg0 (((cfg0.win 0).blk t).view.emb j) from rfl).trans (by rw [emb0, V_main_arg0])
theorem blk1 (c : Dev nD) (t : Fin cfg0.N) (l : Fin 1024) : iblk m c 1 t (ix2 (0 : Fin 1) l) = m ((c : Thread nD τ).loc main_arg1) (ix1 l) :=
  (show _ = V m c main_v12 (((cfg0.win 1).blk t).view.emb (ix2 (0 : Fin 1) l)) from rfl).trans (by rw [emb1, V_v12])
theorem blk2 (c : Dev nD) (t : Fin cfg0.N) (k : Fin 1024) (l : Fin 3968) :
    iblk m c 2 t (ix2 k l) = permuted (fun j => m ((c : Thread nD τ).loc main_arg2) (ix2 k j)) l :=
  (show _ = V m c main_v11 (((cfg0.win 2).blk t).view.emb (ix2 k l)) from rfl).trans (by rw [emb2, V_v11])

/-- The reference's result, of the kernel's own argument arrays. -/
def G (c : Dev nD) : Vec Ideal S256x3968 .f32 :=
  Cert.NormProjSampleRefIdeal.Read.val_main_v24 (F := Ideal) (m ((c : Thread nD τ).loc main_arg0)) (m ((c : Thread nD τ).loc main_arg1))
    (m ((c : Thread nD τ).loc main_arg2))

/-- What the point writes back is the reference's result. -/
theorem flushed_eq (c : Dev nD) (t : Fin cfg0.N) :
    (dats m 0 c).flushed 3 t = ((cfg0.win 3).blk t).view.read (Elt Ideal) (G m c) := by
  rw [flushed3_A, out_eq]
  funext j
  obtain ⟨r, l, rfl⟩ : ∃ (r : Fin 256) (l : Fin 3968), j = ix2 r l := ⟨j 0, j 1, eq_ix2 j⟩
  show product (iblk m c 0 t) (iblk m c 1 t) (iblk m c 2 t) (ix2 r l) = G m c (((cfg0.win 3).blk t).view.emb (ix2 r l))
  rw [emb3, G, ref_apply]
  refine Finset.sum_congr rfl fun k _ => ?_
  show Cert.NormProjIdeal.Gen.k0_pay5 (iblk m c 0 t) (iblk m c 1 t) (ix2 r k) * iblk m c 2 t (ix2 k l) = _
  rw [Cert.NormProjIdeal.RefValue.pay5_apply, blk2]
  simp only [blk0, blk1]

/-- Every index of the result is in the one block. -/
theorem covered (i : S256x3968.Idx) : ∃ t : Fin cfg0.N, (cfg0.win 3).flush t = true ∧ i ∈ ((cfg0.win 3).blk t).view.set := by
  have hlt : 0 < cfg0.N := show 0 < 1 by omega
  have h := ((cfg0.win 3).blk ⟨0, hlt⟩).view.emb_mem_set i
  rw [emb3] at h
  exact ⟨⟨0, hlt⟩, flush0_3 _, h⟩

/-- The result array after the run is the reference's result. -/
theorem final (c : Dev nD) : (dats m 0 c).arrAt 3 cfg0.N = G m c :=
  (dats m 0 c).arrAt_eq_of_cover 3 (G m c) (fun t _ => flushed_eq m c t) covered

/-- The run leaves the reference's result in the result array, and the arguments as they were. -/
theorem run : θ_run defs (onTc (τ := τ) (main (F := Ideal))) ⟨m, fun _ => 0, ρ⟩ fun r => ∀ c : Dev nD,
      r.2.mem ((c : Thread nD τ).loc main_v13) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.NormProjSampleIdeal.RefValue

end
-- ==== Proof.MergeSampleValue.lean ====
/- The gated merge of the sample's 256 rows. The call has one grid point, whose body is the body of the prompt's call on a block of
   256 rows; both texts are the formula `merged` of `Proof/MergeValue.lean` at an index. -/
module

public import proofs.«01_k».proof.Proof.MergeValue
public import proofs.«01_k».proof.Proof.Gen.MergeSampleIdeal.Value
public import proofs.«01_k».proof.Proof.Gen.MergeSampleRefIdeal.Read

@[expose] public section

set_option maxRecDepth 16384

noncomputable section

namespace Cert.MergeSampleIdeal.RefValue

open Cert.Common Cert.MergeSampleIdeal Cert.MergeSampleIdeal.Gen Cert.MergeSampleIdeal.Value Idealize.ShloMosaic Idealize.ShloMosaic.TcCoe Idealize.SL.Sem
open Idealize.ShloMosaic.Pipeline (Dat)
open Cert.MergeIdeal.RefValue (merged)

section Reference
open Cert.MergeSampleRefIdeal.Read

/-- The reference's result, at an index. -/
theorem ref_apply (x0 : Vec Ideal S256x1024 .f32) (x1 x2 : Vec Ideal S256x512 .bf16) (x3 : Vec Ideal S256x3968 .f32)
    (x4 x5 : Vec Ideal S512x1024 .f32) (x6 : Vec Ideal S1024x1024 .f32) (r : Fin 256) (l : Fin 1024) :
    val_main_v22 (F := Ideal) x0 x1 x2 x3 x4 x5 x6 (ix2 r l)
      = merged (x0 (ix2 r l)) (fun k => x3 (ix2 r (⟨1024 + k.val, by omega⟩ : Fin 3968))) (fun k => x3 (ix2 r (⟨2048 + k.val, by omega⟩ : Fin 3968)))
          (fun q => x1 (ix2 r q)) (fun q => x2 (ix2 r q)) (fun q k => x4 (ix2 q k)) (fun q k => x5 (ix2 q k)) (fun k => x6 (ix2 k l)) := by
  unfold merged sigm
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_cst_2]

end Reference

/-- What the run leaves in the result's staging buffer: the value the prompt's body stores, of the whole input buffers. -/
theorem out_eq (c : Dev nD) (i : grid0.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S256x1024 .f32) (harg9 : arg9.IsWhole)
    (x0 : Vec Ideal S256x1024 .f32) (x1 : Vec Ideal S256x512 .bf16) (x2 : Vec Ideal S256x512 .bf16) (x3 : Vec Ideal S256x1024 .f32) (x4 : Vec Ideal S256x1024 .f32) (x5 : Vec Ideal S512x1024 .bf16) (x6 : Vec Ideal S512x1024 .bf16) (x7 : Vec Ideal S1024x1024 .bf16) :
    out0_A_8 c i arg1 harg1 arg2 harg2 arg3 harg3 arg4 harg4 arg5 harg5 arg6 harg6 arg7 harg7 arg8 harg8 arg9 harg9 x0 x1 x2 x3 x4 x5 x6 x7
      = Cert.MergeIdeal.Gen.k0_pay1 x1 x5 x2 x6 x3 x4 x0 x7 := by
  unfold out0_A_8
  rw [View.read_writes_junk_eq_canon]
  unfold kernelRun0_A
  dsimp only
  sl_unfold_words
  simp only [View.readAt_eq_ld, Memref.IsWhole.read_unread, ld_zero]
  exact View.canon_unit_zero hz ..

/-! ## The blocks: the whole arrays, but of the combined projection the second and third 1024 columns -/

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 1 := (by decide +kernel : ∀ t : Fin grid0.N, _)
theorem idx4 : ∀ t : Fin cfg0.N, win0_4.index t (0 : Fin 2) = 0 ∧ win0_4.index t (1 : Fin 2) = 2 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)

theorem emb0 (t : Fin cfg0.N) (j : S256x1024.Idx) : ((cfg0.win 0).blk t).view.emb j = j := by
  obtain ⟨e0, e1⟩ := idx0 t
  funext a; apply Fin.ext
  match a with
  | ⟨0, _⟩ => show win0_0.index t (0 : Fin 2) * 256 + 1 * (j 0).val = (j 0).val; omega
  | ⟨1, _⟩ => show win0_0.index t (1 : Fin 2) * 1024 + 1 * (j 1).val = (j 1).val; omega
theorem emb1 (t : Fin cfg0.N) (j : S256x512.Idx) : ((cfg0.win 1).blk t).view.emb j = j := by
  obtain ⟨e0, e1⟩ := idx1 t
  funext a; apply Fin.ext
  match a with
  | ⟨0, _⟩ => show win0_1.index t (0 : Fin 2) * 256 + 1 * (j 0).val = (j 0).val; omega
  | ⟨1, _⟩ => show win0_1.index t (1 : Fin 2) * 512 + 1 * (j 1).val = (j 1).val; omega
theorem emb2 (t : Fin cfg0.N) (j : S256x512.Idx) : ((cfg0.win 2).blk t).view.emb j = j := by
  obtain ⟨e0, e1⟩ := idx2 t
  funext a; apply Fin.ext
  match a with
  | ⟨0, _⟩ => show win0_2.index t (0 : Fin 2) * 256 + 1 * (j 0).val = (j 0).val; omega
  | ⟨1, _⟩ => show win0_2.index t (1 : Fin 2) * 512 + 1 * (j 1).val = (j 1).val; omega
theorem emb5 (t : Fin cfg0.N) (j : S512x1024.Idx) : ((cfg0.win 5).blk t).view.emb j = j := by
  obtain ⟨e0, e1⟩ := idx5 t
  funext a; apply Fin.ext
  match a with
  | ⟨0, _⟩ => show win0_5.index t (0 : Fin 2) * 512 + 1 * (j 0).val = (j 0).val; omega
  | ⟨1, _⟩ => show win0_5.index t (1 : Fin 2) * 1024 + 1 * (j 1).val = (j 1).val; omega
theorem emb6 (t : Fin cfg0.N) (j : S512x1024.Idx) : ((cfg0.win 6).blk t).view.emb j = j := by
  obtain ⟨e0, e1⟩ := idx6 t
  funext a; apply Fin.ext
  match a with
  | ⟨0, _⟩ => show win0_6.index t (0 : Fin 2) * 512 + 1 * (j 0).val = (j 0).val; omega
  | ⟨1, _⟩ => show win0_6.index t (1 : Fin 2) * 1024 + 1 * (j 1).val = (j 1).val; omega
theorem emb7 (t : Fin cfg0.N) (j : S1024x1024.Idx) : ((cfg0.win 7).blk t).view.emb j = j := by
  obtain ⟨e0, e1⟩ := idx7 t
  funext a; apply Fin.ext
  match a with
  | ⟨0, _⟩ => show win0_7.index t (0 : Fin 2) * 1024 + 1 * (j 0).val = (j 0).val; omega
  | ⟨1, _⟩ => show win0_7.index t (1 : Fin 2) * 1024 + 1 * (j 1).val = (j 1).val; omega
theorem emb8 (t : Fin cfg0.N) (j : S256x1024.Idx) : ((cfg0.win 8).blk t).view.emb j = j := by
  obtain ⟨e0, e1⟩ := idx8 t
  funext a; apply Fin.ext
  match a with
  | ⟨0, _⟩ => show win0_8.index t (0 : Fin 2) * 256 + 1 * (j 0).val = (j 0).val; omega
  | ⟨1, _⟩ => show win0_8.index t (1 : Fin 2) * 1024 + 1 * (j 1).val = (j 1).val; omega

variable (m : (ℓ : Loc nD τ sig) → Buf (Elt Ideal) ℓ) (ρ : Dev nD → PrngReg)

/-- The first gate's block: the projection's columns from 1024 on. -/
theorem gate_a (c : Dev nD) (t : Fin cfg0.N) (r : Fin 256) (l : Fin 1024) :
    X0_3 m c t (ix2 r l) = m ((c : Thread nD τ).loc main_arg3) (ix2 r (⟨1024 + l.val, by omega⟩ : Fin 3968)) := by
  rw [← V_main_arg3 m c]
  obtain ⟨e0, e1⟩ := idx3 t
  unfold X0_3 Pipeline.Window.fill
  rw [dif_pos (moved0_3 t _)]
  unfold iblk
  show V m c main_arg3 (((cfg0.win 3).blk t).view.emb _) = _
  refine congrArg (V m c main_arg3) ?_
  funext a; apply Fin.ext
  match a with
  | ⟨0, _⟩ => show win0_3.index t (0 : Fin 2) * 256 + 1 * r.val = r.val; omega
  | ⟨1, _⟩ => show win0_3.index t (1 : Fin 2) * 1024 + 1 * l.val = 1024 + l.val; omega

/-- The second gate's block: the projection's columns from 2048 on. -/
theorem gate_b (c : Dev nD) (t : Fin cfg0.N) (r : Fin 256) (l : Fin 1024) :
    X0_4 m c t (ix2 r l) = m ((c : Thread nD τ).loc main_arg3) (ix2 r (⟨2048 + l.val, by omega⟩ : Fin 3968)) := by
  rw [← V_main_arg3 m c]
  obtain ⟨e0, e1⟩ := idx4 t
  unfold X0_4 Pipeline.Window.fill
  rw [dif_pos (moved0_4 t _)]
  unfold iblk
  show V m c main_arg3 (((cfg0.win 4).blk t).view.emb _) = _
  refine congrArg (V m c main_arg3) ?_
  funext a; apply Fin.ext
  match a with
  | ⟨0, _⟩ => show win0_4.index t (0 : Fin 2) * 256 + 1 * r.val = r.val; omega
  | ⟨1, _⟩ => show win0_4.index t (1 : Fin 2) * 1024 + 1 * l.val = 2048 + l.val; omega

/-- The host's conversions leave the weights as they were. -/
theorem V_v0 (c : Dev nD) (i : S512x1024.Idx) : V m c main_v0 i = m ((c : Thread nD τ).loc main_arg4) i := by
  simp only [V, hostOps0, StableHlo.after_cons, StableHlo.after_nil]
  rfl
theorem V_v1 (c : Dev nD) (i : S512x1024.Idx) : V m c main_v1 i = m ((c : Thread nD τ).loc main_arg5) i := by
  simp only [V, hostOps0, StableHlo.after_cons, StableHlo.after_nil]
  rfl
theorem V_v2 (c : Dev nD) (i : S1024x1024.Idx) : V m c main_v2 i = m ((c : Thread nD τ).loc main_arg6) i := by
  simp only [V, hostOps0, StableHlo.after_cons, StableHlo.after_nil]
  rfl

/-- The reference's result, of the kernel's own argument arrays. -/
def G (c : Dev nD) : Vec Ideal S256x1024 .f32 :=
  Cert.MergeSampleRefIdeal.Read.val_main_v22 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- What the point writes back is the reference's result. -/
theorem flushed_eq (c : Dev nD) (t : Fin cfg0.N) :
    (dats m 0 c).flushed 8 t = ((cfg0.win 8).blk t).view.read (Elt Ideal) (G m c) := by
  rw [flushed8_A, out_eq]
  funext j
  show Cert.MergeIdeal.Gen.k0_pay1 (F := Ideal) _ _ _ _ _ _ _ _ j = G m c (((cfg0.win 8).blk t).view.emb j)
  obtain ⟨r, l, rfl⟩ : ∃ (r : Fin 256) (l : Fin 1024), j = ix2 r l := ⟨j 0, j 1, eq_ix2 j⟩
  rw [Cert.MergeIdeal.RefValue.pay_apply, emb8, G, ref_apply]
  have h0 : iblk m c 0 t (ix2 r l) = m ((c : Thread nD τ).loc main_arg0) (ix2 r l) :=
    (show _ = V m c main_arg0 (((cfg0.win 0).blk t).view.emb (ix2 r l)) from rfl).trans (by rw [emb0, V_main_arg0])
  have h1 : ∀ q : Fin 512, iblk m c 1 t (ix2 r q) = m ((c : Thread nD τ).loc main_arg1) (ix2 r q) := fun q =>
    (show _ = V m c main_arg1 (((cfg0.win 1).blk t).view.emb (ix2 r q)) from rfl).trans (by rw [emb1, V_main_arg1])
  have h2 : ∀ q : Fin 512, iblk m c 2 t (ix2 r q) = m ((c : Thread nD τ).loc main_arg2) (ix2 r q) := fun q =>
    (show _ = V m c main_arg2 (((cfg0.win 2).blk t).view.emb (ix2 r q)) from rfl).trans (by rw [emb2, V_main_arg2])
  have h5 : ∀ (q : Fin 512) (k : Fin 1024), iblk m c 5 t (ix2 q k) = m ((c : Thread nD τ).loc main_arg4) (ix2 q k) := fun q k =>
    (show _ = V m c main_v0 (((cfg0.win 5).blk t).view.emb (ix2 q k)) from rfl).trans (by rw [emb5, V_v0])
  have h6 : ∀ (q : Fin 512) (k : Fin 1024), iblk m c 6 t (ix2 q k) = m ((c : Thread nD τ).loc main_arg5) (ix2 q k) := fun q k =>
    (show _ = V m c main_v1 (((cfg0.win 6).blk t).view.emb (ix2 q k)) from rfl).trans (by rw [emb6, V_v1])
  have h7 : ∀ (q k : Fin 1024), iblk m c 7 t (ix2 q k) = m ((c : Thread nD τ).loc main_arg6) (ix2 q k) := fun q k =>
    (show _ = V m c main_v2 (((cfg0.win 7).blk t).view.emb (ix2 q k)) from rfl).trans (by rw [emb7, V_v2])
  simp only [h0, h1, h2, h5, h6, h7, gate_a, gate_b]

/-- Every index of the result is in the one block. -/
theorem covered (i : S256x1024.Idx) : ∃ t : Fin cfg0.N, (cfg0.win 8).flush t = true ∧ i ∈ ((cfg0.win 8).blk t).view.set := by
  have hlt : 0 < cfg0.N := show 0 < 1 by omega
  have h := ((cfg0.win 8).blk ⟨0, hlt⟩).view.emb_mem_set i
  rw [emb8] at h
  exact ⟨⟨0, hlt⟩, flush0_8 _, h⟩

/-- The result array after the run is the reference's result. -/
theorem final (c : Dev nD) : (dats m 0 c).arrAt 8 cfg0.N = G m c :=
  (dats m 0 c).arrAt_eq_of_cover 8 (G m c) (fun t _ => flushed_eq m c t) covered

/-- The run leaves the reference's result in the result array, and the arguments as they were. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.MergeSampleIdeal.RefValue

end
-- ==== Proof.FfnRun.lean ====
/- The two scratches of the feed-forward block along its runs of eleven points, without the program: one sequence holds the normed
   rows, another adds a chunk of the hidden dimension at every point and starts anew at the first point of a run. -/
module

public import proofs.«01_k».proof.Proof.Common

@[expose] public section

noncomputable section

namespace Cert.Common

/-- If the first point of a run sets `H` to `hid` and `A` to the first chunk, and every later point that is not the last keeps `H`
    and adds its chunk to `A`, then after a point that is not the last of its run `H` is `hid` and `A` the sum of the chunks so
    far. `hid` and `term` are those of the run's number. -/
theorem chunks_run {N : ℕ} {R : Type} (hid : ℕ → R → Fin 1024 → EReal) (term : ℕ → R → Fin 1024 → Fin 2816 → EReal)
    (H A : ∀ n, n < N → R → Fin 1024 → EReal)
    (first : ∀ n hn, n % 11 = 0 → ∀ r l, H n hn r l = hid (n / 11) r l ∧ A n hn r l = chunkOf (term (n / 11) r l) n)
    (next : ∀ n (hn : n + 1 < N), ¬(n + 1) % 11 = 0 → ¬(n + 1) % 11 = 10 →
      ∀ r, (∀ k, H n (Nat.lt_of_succ_lt hn) r k = hid ((n + 1) / 11) r k) →
      ∀ l, H (n + 1) hn r l = hid ((n + 1) / 11) r l
        ∧ A (n + 1) hn r l = A n (Nat.lt_of_succ_lt hn) r l + chunkOf (term ((n + 1) / 11) r l) (n + 1)) :
    ∀ n hn, ¬n % 11 = 10 → ∀ r l, H n hn r l = hid (n / 11) r l
      ∧ A n hn r l = ∑ k ∈ Finset.range (n % 11 + 1), chunkOf (term (n / 11) r l) k := by
  have start : ∀ n hn, n % 11 = 0 → ∀ r l, H n hn r l = hid (n / 11) r l
      ∧ A n hn r l = ∑ k ∈ Finset.range (n % 11 + 1), chunkOf (term (n / 11) r l) k := fun n hn h0 r l => by
    refine ⟨(first n hn h0 r l).1, (first n hn h0 r l).2.trans ?_⟩
    rw [h0, Finset.sum_range_one, ← chunkOf_mod, h0]
  intro n
  induction n with
  | zero => exact fun hn _ => start 0 hn rfl
  | succ n ih =>
    intro hn h1 r l
    by_cases h0 : (n + 1) % 11 = 0
    · exact start (n + 1) hn h0 r l
    · have p := ih (Nat.lt_of_succ_lt hn) (by omega) r
      have e : n / 11 = (n + 1) / 11 := by omega
      have en : n % 11 + 1 = (n + 1) % 11 := by omega
      rw [e, en] at p
      obtain ⟨q1, q2⟩ := next n hn h0 h1 r (fun k => (p k).1) l
      exact ⟨q1, by rw [q2, (p l).2, Finset.sum_range_succ, chunkOf_mod]⟩

end Cert.Common

end
-- ==== Proof.FfnInnerValue.lean ====
/- The feed-forward block of a layer that is not the last, on the prompt's rows: the call without the final norm. Its body differs
   from that of `Proof/FfnValue.lean` in what the last point of a run stores, the residual and the sum as they are. The other
   stored values are that call's, and the scratches are followed along a run by `chunks_run`. -/
module

public import proofs.«01_k».proof.Proof.FfnRun
public import proofs.«01_k».proof.Proof.FfnValue
public import proofs.«01_k».proof.Proof.Gen.FfnInnerIdeal.Value
public import proofs.«01_k».proof.Proof.Gen.FfnInnerRefIdeal.Read

@[expose] public section

set_option maxRecDepth 16384

noncomputable section

namespace Cert.FfnInnerIdeal.RefValue

open Cert.Common Cert.FfnInnerIdeal Cert.FfnInnerIdeal.Gen Cert.FfnInnerIdeal.Value Idealize.ShloMosaic Idealize.ShloMosaic.TcCoe Idealize.SL.Sem
open Idealize.ShloMosaic.Pipeline (Dat)
open Cert.FfnIdeal.RefValue (pay1_apply pay2_apply pay3_apply)

section Reference
open Cert.FfnInnerRefIdeal.Read

/-- The reference, at an index. -/
theorem ref_apply (x0 : Vec Ideal S16384x1024 .f32) (x1 : Vec Ideal S1024 .f32) (x2 x3 : Vec Ideal S1024x2816 .f32)
    (x4 : Vec Ideal S2816x1024 .f32) (r : Fin 16384) (l : Fin 1024) :
    val_main_v18 (F := Ideal) x0 x1 x2 x3 x4 (ix2 r l)
      = x0 (ix2 r l) + ∑ f : Fin 2816, act (normed (fun q => x0 (ix2 r q)) (fun q => x1 (ix1 q)))
          (fun q => x2 (ix2 q f)) (fun q => x3 (ix2 q f)) * x4 (ix2 f l) := by
  unfold normed act sigm
  beta_reduce
  pointwise [val_main_v18, val_main_v17, val_main_v16, val_main_v15, val_main_v14, val_main_call0_v5, val_main_call0_v4, val_main_call0_cst_0, val_main_call0_v3, val_main_call0_v2, val_main_call0_cst, val_main_call0_v1, val_main_call0_v0, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

end Reference

section Body
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 : Vec Ideal S1024x1024 .f32) (x1 : Vec Ideal S1x1024 .f32) (x2 : Vec Ideal S1024x256 .bf16) (x3 : Vec Ideal S1024x256 .bf16) (x4 : Vec Ideal S256x1024 .bf16) (x5 : Vec Ideal S1x1024 .f32) (xs0 : Vec Ideal S1024x1024 .bf16) (xs1 : Vec Ideal S1024x1024 .f32)

/-- The hidden scratch after the first point of a run. -/
theorem h_first (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 x5
      = Cert.FfnIdeal.Gen.k0_pay1 x0 x1 := by
  unfold sout0_A_0
  rw [View.read_writes_junk_eq_canon]
  unfold kernelRun0_A
  dsimp only
  sl_unfold_words
  rw [View.canon_cons_unit_zero hz]
  simp only [cov_zero, View.readAt_eq_ld, Memref.IsWhole.read_unread, ld_zero]
  rfl

/-- The sum after the first point of a run. -/
theorem acc_first (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 x3 x4 x5
      = Cert.FfnIdeal.Gen.k0_pay3 (Cert.FfnIdeal.Gen.k0_pay1 x0 x1) x2 x3 (Cert.FfnIdeal.Gen.k0_pay2 (F := Ideal)) x4 := by
  unfold sout0_A_1
  rw [View.read_writes_junk_eq_canon]
  unfold kernelRun0_A
  dsimp only
  sl_unfold_words
  rw [View.canon_cons_unit_zero hz]
  simp only [cov_zero, View.readAt_eq_ld, Memref.IsWhole.read_unread, ld_zero]
  rfl

/-- The sum after a later point of a run that is not its last. -/
theorem acc_next (hc0 : ¬cond0_0 i) (hc1 : ¬cond0_1 i) :
    sout0_B_1 c i arg2 harg2 arg3 harg3 arg4 harg4 arg5 harg5 arg6 harg6 arg7 harg7 arg8 harg8 arg9 harg9 arg10 harg10 hc0 hc1 x0 x1 x2 x3 x4 x5 xs0 xs1
      = Cert.FfnIdeal.Gen.k0_pay3 xs0 x2 x3 xs1 x4 := by
  unfold sout0_B_1
  rw [View.read_writes_junk_eq_canon]
  unfold kernelRun0_B
  dsimp only
  sl_unfold_words
  rw [View.canon_cons_unit_zero hz]
  simp only [cov_zero, View.readAt_eq_ld, Memref.IsWhole.read_unread, ld_zero]
  rfl

/-- The result block after the last point of a run: the residual and the sum. -/
theorem out_last (hc0 : ¬cond0_0 i) (hc1 : cond0_1 i) :
    out0_C_6 c i arg2 harg2 arg3 harg3 arg4 harg4 arg5 harg5 arg6 harg6 arg7 harg7 arg8 harg8 arg9 harg9 arg10 harg10 hc0 hc1 x0 x1 x2 x3 x4 x5 xs0 xs1
      = fun y => x0 y + Cert.FfnIdeal.Gen.k0_pay3 xs0 x2 x3 xs1 x4 y := by
  unfold out0_C_6
  rw [View.read_writes_junk_eq_canon]
  unfold kernelRun0_C
  dsimp only
  sl_unfold_words
  rw [View.canon_cons_unit_zero hz]
  simp only [cov_zero, View.readAt_eq_ld, Memref.IsWhole.read_unread, ld_zero]
  rfl
end Body

/-! ## The blocks -/

/-- Which block of each array a point stages or writes. -/
theorem idx0 : ∀ t : Fin cfg0.N, win0_0.index t (0 : Fin 2) = t.val / 11 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 11 := (by decide +kernel : ∀ t : Fin grid0.N, _)
theorem idx3 : ∀ t : Fin cfg0.N, win0_3.index t (0 : Fin 2) = 0 ∧ win0_3.index t (1 : Fin 2) = t.val % 11 := (by decide +kernel : ∀ t : Fin grid0.N, _)
theorem idx4 : ∀ t : Fin cfg0.N, win0_4.index t (0 : Fin 2) = t.val % 11 ∧ win0_4.index t (1 : Fin 2) = 0 := (by decide +kernel : ∀ t : Fin grid0.N, _)
theorem idx6 : ∀ t : Fin cfg0.N, win0_6.index t (0 : Fin 2) = t.val / 11 ∧ win0_6.index t (1 : Fin 2) = 0 := (by decide +kernel : ∀ t : Fin grid0.N, _)

/-- Row `r` of the row block of run `q` is this row of the array. -/
def row (q : ℕ) (r : Fin 1024) : Fin 16384 := ⟨(q * 1024 + r.val) % 16384, by omega⟩
theorem row_val (t : Fin cfg0.N) (r : Fin 1024) : (row (t.val / 11) r).val = t.val / 11 * 1024 + r.val := by
  have : t.val < 176 := t.isLt
  show (t.val / 11 * 1024 + r.val) % 16384 = _
  omega
/-- Position `q` of the chunk at point `t` is this position of the hidden dimension. -/
def pos (t : Fin cfg0.N) (q : Fin 256) : Fin 2816 := ⟨t.val % 11 * 256 + q.val, by omega⟩

/-- Where an index of a block at point `t` lies in its array. -/
theorem emb0 (t : Fin cfg0.N) (r : Fin 1024) (l : Fin 1024) : ((cfg0.win 0).blk t).view.emb (ix2 r l) = ix2 (row (t.val / 11) r) l := by
  obtain ⟨e0, e1⟩ := idx0 t
  funext a; apply Fin.ext
  match a with
  | ⟨0, _⟩ => show win0_0.index t (0 : Fin 2) * 1024 + 1 * r.val = (row (t.val / 11) r).val; rw [row_val]; omega
  | ⟨1, _⟩ => show win0_0.index t (1 : Fin 2) * 1024 + 1 * l.val = l.val; omega
theorem emb1 (t : Fin cfg0.N) (j : S1x1024.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega
theorem emb2 (t : Fin cfg0.N) (r : Fin 1024) (q : Fin 256) : ((cfg0.win 2).blk t).view.emb (ix2 r q) = ix2 r (pos t q) := by
  obtain ⟨e0, e1⟩ := idx2 t
  funext a; apply Fin.ext
  match a with
  | ⟨0, _⟩ => show win0_2.index t (0 : Fin 2) * 1024 + 1 * r.val = r.val; omega
  | ⟨1, _⟩ => show win0_2.index t (1 : Fin 2) * 256 + 1 * q.val = t.val % 11 * 256 + q.val; omega
theorem emb3 (t : Fin cfg0.N) (r : Fin 1024) (q : Fin 256) : ((cfg0.win 3).blk t).view.emb (ix2 r q) = ix2 r (pos t q) := by
  obtain ⟨e0, e1⟩ := idx3 t
  funext a; apply Fin.ext
  match a with
  | ⟨0, _⟩ => show win0_3.index t (0 : Fin 2) * 1024 + 1 * r.val = r.val; omega
  | ⟨1, _⟩ => show win0_3.index t (1 : Fin 2) * 256 + 1 * q.val = t.val % 11 * 256 + q.val; omega
theorem emb4 (t : Fin cfg0.N) (q : Fin 256) (l : Fin 1024) : ((cfg0.win 4).blk t).view.emb (ix2 q l) = ix2 (pos t q) l := by
  obtain ⟨e0, e1⟩ := idx4 t
  funext a; apply Fin.ext
  match a with
  | ⟨0, _⟩ => show win0_4.index t (0 : Fin 2) * 256 + 1 * q.val = t.val % 11 * 256 + q.val; omega
  | ⟨1, _⟩ => show win0_4.index t (1 : Fin 2) * 1024 + 1 * l.val = l.val; omega
theorem emb6 (t : Fin cfg0.N) (r : Fin 1024) (l : Fin 1024) : ((cfg0.win 6).blk t).view.emb (ix2 r l) = ix2 (row (t.val / 11) r) l := by
  obtain ⟨e0, e1⟩ := idx6 t
  funext a; apply Fin.ext
  match a with
  | ⟨0, _⟩ => show win0_6.index t (0 : Fin 2) * 1024 + 1 * r.val = (row (t.val / 11) r).val; rw [row_val]; omega
  | ⟨1, _⟩ => show win0_6.index t (1 : Fin 2) * 1024 + 1 * l.val = l.val; omega

variable (m : (ℓ : Loc nD τ sig) → Buf (Elt Ideal) ℓ) (ρ : Dev nD → PrngReg)

/-- The host's conversions leave the weights as they were, and its reshape lays the gain out in one row. -/
theorem V_v0 (c : Dev nD) (i : S1024x2816.Idx) : V m c main_v0 i = m ((c : Thread nD τ).loc main_arg2) i := by
  simp only [V, hostOps0, StableHlo.after_cons, StableHlo.after_nil]
  rfl
theorem V_v1 (c : Dev nD) (i : S1024x2816.Idx) : V m c main_v1 i = m ((c : Thread nD τ).loc main_arg3) i := by
  simp only [V, hostOps0, StableHlo.after_cons, StableHlo.after_nil]
  rfl
theorem V_v2 (c : Dev nD) (i : S2816x1024.Idx) : V m c main_v2 i = m ((c : Thread nD τ).loc main_arg4) i := by
  simp only [V, hostOps0, StableHlo.after_cons, StableHlo.after_nil]
  rfl
theorem V_v3 (c : Dev nD) (l : Fin 1024) : V m c main_v3 (ix2 (0 : Fin 1) l) = m ((c : Thread nD τ).loc main_arg1) (ix1 l) := by
  have e : V m c main_v3 = shapeCast S1x1024 (m ((c : Thread nD τ).loc main_arg1) : Vec Ideal S1024 .f32) shapeCasts_S1024_S1x1024 := by
    simp only [V, hostOps0, StableHlo.after_cons, StableHlo.after_nil]
    rfl
  rw [e]
  pointwise

/-- The blocks' entries, of the argument arrays. -/
theorem blk0 (c : Dev nD) (t : Fin cfg0.N) (r l : Fin 1024) : iblk m c 0 t (ix2 r l) = m ((c : Thread nD τ).loc main_arg0) (ix2 (row (t.val / 11) r) l) :=
  (show _ = V m c main_arg0 (((cfg0.win 0).blk t).view.emb (ix2 r l)) from rfl).trans (by rw [emb0, V_main_arg0])
theorem blk1 (c : Dev nD) (t : Fin cfg0.N) (l : Fin 1024) : iblk m c 1 t (ix2 (0 : Fin 1) l) = m ((c : Thread nD τ).loc main_arg1) (ix1 l) :=
  (show _ = V m c main_v3 (((cfg0.win 1).blk t).view.emb (ix2 (0 : Fin 1) l)) from rfl).trans (by rw [emb1, V_v3])
theorem blk2 (c : Dev nD) (t : Fin cfg0.N) (k : Fin 1024) (q : Fin 256) : iblk m c 2 t (ix2 k q) = m ((c : Thread nD τ).loc main_arg2) (ix2 k (pos t q)) :=
  (show _ = V m c main_v0 (((cfg0.win 2).blk t).view.emb (ix2 k q)) from rfl).trans (by rw [emb2, V_v0])
theorem blk3 (c : Dev nD) (t : Fin cfg0.N) (k : Fin 1024) (q : Fin 256) : iblk m c 3 t (ix2 k q) = m ((c : Thread nD τ).loc main_arg3) (ix2 k (pos t q)) :=
  (show _ = V m c main_v1 (((cfg0.win 3).blk t).view.emb (ix2 k q)) from rfl).trans (by rw [emb3, V_v1])
theorem blk4 (c : Dev nD) (t : Fin cfg0.N) (q : Fin 256) (l : Fin 1024) : iblk m c 4 t (ix2 q l) = m ((c : Thread nD τ).loc main_arg4) (ix2 (pos t q) l) :=
  (show _ = V m c main_v2 (((cfg0.win 4).blk t).view.emb (ix2 q l)) from rfl).trans (by rw [emb4, V_v2])

/-! ## The two scratches, point by point -/

/-- The normed row `R` of the argument. -/
def hid (c : Dev nD) (R : Fin 16384) : Fin 1024 → EReal :=
  normed (fun q => m ((c : Thread nD τ).loc main_arg0) (ix2 R q)) (fun q => m ((c : Thread nD τ).loc main_arg1) (ix1 q))

/-- What position `f` of the hidden dimension adds to entry `l` of row `R`. -/
def term (c : Dev nD) (R : Fin 16384) (l : Fin 1024) (f : Fin 2816) : EReal :=
  act (hid m c R) (fun q => m ((c : Thread nD τ).loc main_arg2) (ix2 q f)) (fun q => m ((c : Thread nD τ).loc main_arg3) (ix2 q f))
    * m ((c : Thread nD τ).loc main_arg4) (ix2 f l)

/-- The step of the sum at a point whose hidden scratch holds the normed rows. -/
theorem step_apply (c : Dev nD) (t : Fin cfg0.N) (h : Vec Ideal S1024x1024 .bf16) (a : Vec Ideal S1024x1024 .f32)
    (r l : Fin 1024) (hh : ∀ k, h (ix2 r k) = hid m c (row (t.val / 11) r) k) :
    Cert.FfnIdeal.Gen.k0_pay3 h (iblk m c 2 t) (iblk m c 3 t) a (iblk m c 4 t) (ix2 r l)
      = a (ix2 r l) + chunkOf (term m c (row (t.val / 11) r) l) t.val := by
  rw [pay3_apply]
  simp only [hh, blk2, blk3, blk4]
  rfl

/-- After a point that is not the last of its run, the first scratch holds the normed rows and the second the chunks so far. -/
theorem state (c : Dev nD) (n : ℕ) (hn : n < cfg0.N) (h1 : ¬n % 11 = 10) (r l : Fin 1024) :
    (outsAt0 m c n hn).2.1 (ix2 r l) = hid m c (row (n / 11) r) l
      ∧ (outsAt0 m c n hn).2.2 (ix2 r l) = ∑ k ∈ Finset.range (n % 11 + 1), chunkOf (term m c (row (n / 11) r) l) k := by
  refine chunks_run (fun q r => hid m c (row q r)) (fun q r => term m c (row q r)) (fun n hn r l => (outsAt0 m c n hn).2.1 (ix2 r l))
    (fun n hn r l => (outsAt0 m c n hn).2.2 (ix2 r l)) (fun n hn h0 r l => ?_) (fun n hn h0 h1 r hh l => ?_) n hn h1 r l
  · have hh : ∀ k, Cert.FfnIdeal.Gen.k0_pay1 (iblk m c 0 ⟨n, hn⟩) (iblk m c 1 ⟨n, hn⟩) (ix2 r k) = hid m c (row (n / 11) r) k := fun k => by
      rw [pay1_apply]
      simp only [blk0, blk1]
      rfl
    rw [outsAt0_A m c ⟨n, hn⟩ h0 (show ¬n % 11 = 10 by omega)]
    dsimp only
    rw [h_first, acc_first, step_apply m c ⟨n, hn⟩ _ _ r l hh, pay2_apply, zero_add]
    exact ⟨hh l, rfl⟩
  · have hh' : ∀ k, (outsAt0 m c (n + 1 - 1) (Nat.lt_of_succ_lt hn)).2.1 (ix2 r k) = hid m c (row ((n + 1) / 11) r) k := hh
    rw [outsAt0_B m c ⟨n + 1, hn⟩ h0 h1]
    dsimp only
    rw [acc_next, step_apply m c ⟨n + 1, hn⟩ _ _ r l hh']
    exact ⟨hh l, rfl⟩

/-- The reference's result, of the kernel's own argument arrays. -/
def G (c : Dev nD) : Vec Ideal S16384x1024 .f32 :=
  Cert.FfnInnerRefIdeal.Read.val_main_v18 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- An entry of the argument. -/
def xent (c : Dev nD) (R : Fin 16384) (k : Fin 1024) : EReal := m ((c : Thread nD τ).loc main_arg0) (ix2 R k)

/-- The reference's result of the kernel's arguments, at an index. -/
theorem G_apply (c : Dev nD) (R : Fin 16384) (l : Fin 1024) :
    G m c (ix2 R l) = xent m c R l + ∑ f, term m c R l f := by
  rw [G, ref_apply]
  rfl

/-- What the last point of a run writes back is its block of the reference's result. -/
theorem flushed_eq (c : Dev nD) (t : Fin cfg0.N) (hf : (cfg0.win 6).flush t = true) :
    (dats m 0 c).flushed 6 t = ((cfg0.win 6).blk t).view.read (Elt Ideal) (G m c) := by
  have h1 : t.val % 11 = 10 := (flush0_6 t).mp hf
  have h0 : ¬t.val % 11 = 0 := by omega
  rw [flushed6_C m c t h0 h1, out_last]
  funext j
  obtain ⟨r, l, rfl⟩ : ∃ (r l : Fin 1024), j = ix2 r l := ⟨j 0, j 1, eq_ix2 j⟩
  have p := state m c (t.val - 1) (Nat.lt_of_le_of_lt (Nat.sub_le _ _) t.isLt) (by omega) r
  have e : (t.val - 1) / 11 = t.val / 11 := by omega
  have en : (t.val - 1) % 11 + 1 = 10 := by omega
  rw [e, en] at p
  show _ = G m c (((cfg0.win 6).blk t).view.emb (ix2 r l))
  rw [emb6, G_apply]
  refine (congrArg₂ (fun a b : EReal => a + b) (blk0 m c t r l) (step_apply m c t _ _ r l (fun k => (p k).1))).trans ?_
  rw [(p l).2, sum_chunks, Finset.sum_range_succ _ 10, ← chunkOf_mod _ t.val, h1, xent]

/-- Every index of the result is in the block of the last point of the run its row names. -/
theorem covered (i : S16384x1024.Idx) : ∃ t : Fin cfg0.N, (cfg0.win 6).flush t = true ∧ i ∈ ((cfg0.win 6).blk t).view.set := by
  obtain ⟨R, l, rfl⟩ : ∃ (R : Fin 16384) (l : Fin 1024), i = ix2 R l := ⟨i 0, i 1, eq_ix2 i⟩
  have hR := R.isLt
  have hlt : R.val / 1024 * 11 + 10 < cfg0.N := show R.val / 1024 * 11 + 10 < 176 by omega
  refine ⟨⟨R.val / 1024 * 11 + 10, hlt⟩, (flush0_6 _).mpr (show (R.val / 1024 * 11 + 10) % 11 = 10 by omega), ?_⟩
  have h := ((cfg0.win 6).blk ⟨R.val / 1024 * 11 + 10, hlt⟩).view.emb_mem_set (ix2 (⟨R.val % 1024, by omega⟩ : Fin 1024) l)
  rw [emb6] at h
  have e : row ((R.val / 1024 * 11 + 10) / 11) (⟨R.val % 1024, by omega⟩ : Fin 1024) = R :=
    Fin.ext (by show ((R.val / 1024 * 11 + 10) / 11 * 1024 + R.val % 1024) % 16384 = R.val; omega)
  rwa [e] at h

/-- The result array after the run is the reference's result. -/
theorem final (c : Dev nD) : (dats m 0 c).arrAt 6 cfg0.N = G m c :=
  (dats m 0 c).arrAt_eq_of_cover 6 (G m c) (fun t hf => flushed_eq m c t hf) covered

/-- The run leaves the reference's result in the result array, and the arguments as they were. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.FfnInnerIdeal.RefValue

end
-- ==== Proof.FfnInnerSampleValue.lean ====
/- The feed-forward block of a layer that is not the last, on the sample's 256 rows: one run of eleven points. The stored values are
   those of `Proof/FfnSampleValue.lean`, but for the last, which is the residual and the sum as they are; the scratches are
   followed along the run by `chunks_run`. -/
module

public import proofs.«01_k».proof.Proof.FfnRun
public import proofs.«01_k».proof.Proof.FfnSampleValue
public import proofs.«01_k».proof.Proof.Gen.FfnInnerSampleIdeal.Value
public import proofs.«01_k».proof.Proof.Gen.FfnInnerSampleRefIdeal.Read

@[expose] public section

set_option maxRecDepth 16384

noncomputable section

namespace Cert.FfnInnerSampleIdeal.RefValue

open Cert.Common Cert.FfnInnerSampleIdeal Cert.FfnInnerSampleIdeal.Gen Cert.FfnInnerSampleIdeal.Value Idealize.ShloMosaic Idealize.ShloMosaic.TcCoe Idealize.SL.Sem
open Idealize.ShloMosaic.Pipeline (Dat)
open Cert.FfnSampleIdeal.RefValue (pay1_apply pay2_apply pay3_apply)

section Reference
open Cert.FfnInnerSampleRefIdeal.Read

/-- The reference, at an index. -/
theorem ref_apply (x0 : Vec Ideal S256x1024 .f32) (x1 : Vec Ideal S1024 .f32) (x2 x3 : Vec Ideal S1024x2816 .f32)
    (x4 : Vec Ideal S2816x1024 .f32) (r : Fin 256) (l : Fin 1024) :
    val_main_v18 (F := Ideal) x0 x1 x2 x3 x4 (ix2 r l)
      = x0 (ix2 r l) + ∑ f : Fin 2816, act (normed (fun q => x0 (ix2 r q)) (fun q => x1 (ix1 q)))
          (fun q => x2 (ix2 q f)) (fun q => x3 (ix2 q f)) * x4 (ix2 f l) := by
  unfold normed act sigm
  beta_reduce
  pointwise [val_main_v18, val_main_v17, val_main_v16, val_main_v15, val_main_v14, val_main_call0_v5, val_main_call0_v4, val_main_call0_cst_0, val_main_call0_v3, val_main_call0_v2, val_main_call0_cst, val_main_call0_v1, val_main_call0_v0, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

end Reference

section Body
variable (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .f32) (harg10 : arg10.IsWhole)
    (x0 : Vec Ideal S256x1024 .f32) (x1 : Vec Ideal S1x1024 .f32) (x2 : Vec Ideal S1024x256 .bf16) (x3 : Vec Ideal S1024x256 .bf16) (x4 : Vec Ideal S256x1024 .bf16) (x5 : Vec Ideal S1x1024 .f32) (xs0 : Vec Ideal S256x1024 .bf16) (xs1 : Vec Ideal S256x1024 .f32)

/-- The hidden scratch after the first point of a run. -/
theorem h_first (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 x5
      = Cert.FfnSampleIdeal.Gen.k0_pay1 x0 x1 := by
  unfold sout0_A_0
  rw [View.read_writes_junk_eq_canon]
  unfold kernelRun0_A
  dsimp only
  sl_unfold_words
  rw [View.canon_cons_unit_zero hz]
  simp only [cov_zero, View.readAt_eq_ld, Memref.IsWhole.read_unread, ld_zero]
  rfl

/-- The sum after the first point of a run. -/
theorem acc_first (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 x3 x4 x5
      = Cert.FfnSampleIdeal.Gen.k0_pay3 (Cert.FfnSampleIdeal.Gen.k0_pay1 x0 x1) x2 x3 (Cert.FfnSampleIdeal.Gen.k0_pay2 (F := Ideal)) x4 := by
  unfold sout0_A_1
  rw [View.read_writes_junk_eq_canon]
  unfold kernelRun0_A
  dsimp only
  sl_unfold_words
  rw [View.canon_cons_unit_zero hz]
  simp only [cov_zero, View.readAt_eq_ld, Memref.IsWhole.read_unread, ld_zero]
  rfl

/-- The sum after a later point of a run that is not its last. -/
theorem acc_next (hc0 : ¬cond0_0 i) (hc1 : ¬cond0_1 i) :
    sout0_B_1 c i arg2 harg2 arg3 harg3 arg4 harg4 arg5 harg5 arg6 harg6 arg7 harg7 arg8 harg8 arg9 harg9 arg10 harg10 hc0 hc1 x0 x1 x2 x3 x4 x5 xs0 xs1
      = Cert.FfnSampleIdeal.Gen.k0_pay3 xs0 x2 x3 xs1 x4 := by
  unfold sout0_B_1
  rw [View.read_writes_junk_eq_canon]
  unfold kernelRun0_B
  dsimp only
  sl_unfold_words
  rw [View.canon_cons_unit_zero hz]
  simp only [cov_zero, View.readAt_eq_ld, Memref.IsWhole.read_unread, ld_zero]
  rfl

/-- The result block after the last point of a run: the residual and the sum. -/
theorem out_last (hc0 : ¬cond0_0 i) (hc1 : cond0_1 i) :
    out0_C_6 c i arg2 harg2 arg3 harg3 arg4 harg4 arg5 harg5 arg6 harg6 arg7 harg7 arg8 harg8 arg9 harg9 arg10 harg10 hc0 hc1 x0 x1 x2 x3 x4 x5 xs0 xs1
      = fun y => x0 y + Cert.FfnSampleIdeal.Gen.k0_pay3 xs0 x2 x3 xs1 x4 y := by
  unfold out0_C_6
  rw [View.read_writes_junk_eq_canon]
  unfold kernelRun0_C
  dsimp only
  sl_unfold_words
  rw [View.canon_cons_unit_zero hz]
  simp only [cov_zero, View.readAt_eq_ld, Memref.IsWhole.read_unread, ld_zero]
  rfl
end Body

/-! ## The blocks -/

/-- Which block of each array a point stages or writes. -/
theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 11 := (by decide +kernel : ∀ t : Fin grid0.N, _)
theorem idx3 : ∀ t : Fin cfg0.N, win0_3.index t (0 : Fin 2) = 0 ∧ win0_3.index t (1 : Fin 2) = t.val % 11 := (by decide +kernel : ∀ t : Fin grid0.N, _)
theorem idx4 : ∀ t : Fin cfg0.N, win0_4.index t (0 : Fin 2) = t.val % 11 ∧ win0_4.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)

/-- Position `q` of the chunk at point `t` is this position of the hidden dimension. -/
def pos (t : Fin cfg0.N) (q : Fin 256) : Fin 2816 := ⟨t.val % 11 * 256 + q.val, by omega⟩

/-- Where an index of a block at point `t` lies in its array. -/
theorem emb0 (t : Fin cfg0.N) (j : S256x1024.Idx) : ((cfg0.win 0).blk t).view.emb j = j := by
  obtain ⟨e0, e1⟩ := idx0 t
  funext a; apply Fin.ext
  match a with
  | ⟨0, _⟩ => show win0_0.index t (0 : Fin 2) * 256 + 1 * (j 0).val = (j 0).val; omega
  | ⟨1, _⟩ => show win0_0.index t (1 : Fin 2) * 1024 + 1 * (j 1).val = (j 1).val; omega
theorem emb1 (t : Fin cfg0.N) (j : S1x1024.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega
theorem emb2 (t : Fin cfg0.N) (r : Fin 1024) (q : Fin 256) : ((cfg0.win 2).blk t).view.emb (ix2 r q) = ix2 r (pos t q) := by
  obtain ⟨e0, e1⟩ := idx2 t
  funext a; apply Fin.ext
  match a with
  | ⟨0, _⟩ => show win0_2.index t (0 : Fin 2) * 1024 + 1 * r.val = r.val; omega
  | ⟨1, _⟩ => show win0_2.index t (1 : Fin 2) * 256 + 1 * q.val = t.val % 11 * 256 + q.val; omega
theorem emb3 (t : Fin cfg0.N) (r : Fin 1024) (q : Fin 256) : ((cfg0.win 3).blk t).view.emb (ix2 r q) = ix2 r (pos t q) := by
  obtain ⟨e0, e1⟩ := idx3 t
  funext a; apply Fin.ext
  match a with
  | ⟨0, _⟩ => show win0_3.index t (0 : Fin 2) * 1024 + 1 * r.val = r.val; omega
  | ⟨1, _⟩ => show win0_3.index t (1 : Fin 2) * 256 + 1 * q.val = t.val % 11 * 256 + q.val; omega
theorem emb4 (t : Fin cfg0.N) (q : Fin 256) (l : Fin 1024) : ((cfg0.win 4).blk t).view.emb (ix2 q l) = ix2 (pos t q) l := by
  obtain ⟨e0, e1⟩ := idx4 t
  funext a; apply Fin.ext
  match a with
  | ⟨0, _⟩ => show win0_4.index t (0 : Fin 2) * 256 + 1 * q.val = t.val % 11 * 256 + q.val; omega
  | ⟨1, _⟩ => show win0_4.index t (1 : Fin 2) * 1024 + 1 * l.val = l.val; omega
theorem emb6 (t : Fin cfg0.N) (j : S256x1024.Idx) : ((cfg0.win 6).blk t).view.emb j = j := by
  obtain ⟨e0, e1⟩ := idx6 t
  funext a; apply Fin.ext
  match a with
  | ⟨0, _⟩ => show win0_6.index t (0 : Fin 2) * 256 + 1 * (j 0).val = (j 0).val; omega
  | ⟨1, _⟩ => show win0_6.index t (1 : Fin 2) * 1024 + 1 * (j 1).val = (j 1).val; omega

variable (m : (ℓ : Loc nD τ sig) → Buf (Elt Ideal) ℓ) (ρ : Dev nD → PrngReg)

/-- The host's conversions leave the weights as they were, and its reshape lays the gain out in one row. -/
theorem V_v0 (c : Dev nD) (i : S1024x2816.Idx) : V m c main_v0 i = m ((c : Thread nD τ).loc main_arg2) i := by
  simp only [V, hostOps0, StableHlo.after_cons, StableHlo.after_nil]
  rfl
theorem V_v1 (c : Dev nD) (i : S1024x2816.Idx) : V m c main_v1 i = m ((c : Thread nD τ).loc main_arg3) i := by
  simp only [V, hostOps0, StableHlo.after_cons, StableHlo.after_nil]
  rfl
theorem V_v2 (c : Dev nD) (i : S2816x1024.Idx) : V m c main_v2 i = m ((c : Thread nD τ).loc main_arg4) i := by
  simp only [V, hostOps0, StableHlo.after_cons, StableHlo.after_nil]
  rfl
theorem V_v3 (c : Dev nD) (l : Fin 1024) : V m c main_v3 (ix2 (0 : Fin 1) l) = m ((c : Thread nD τ).loc main_arg1) (ix1 l) := by
  have e : V m c main_v3 = shapeCast S1x1024 (m ((c : Thread nD τ).loc main_arg1) : Vec Ideal S1024 .f32) shapeCasts_S1024_S1x1024 := by
    simp only [V, hostOps0, StableHlo.after_cons, StableHlo.after_nil]
    rfl
  rw [e]
  pointwise

/-- The blocks' entries, of the argument arrays. -/
theorem blk0 (c : Dev nD) (t : Fin cfg0.N) (r : Fin 256) (l : Fin 1024) : iblk m c 0 t (ix2 r l) = m ((c : Thread nD τ).loc main_arg0) (ix2 r l) :=
  (show _ = V m c main_arg0 (((cfg0.win 0).blk t).view.emb (ix2 r l)) from rfl).trans (by rw [emb0, V_main_arg0])
theorem blk1 (c : Dev nD) (t : Fin cfg0.N) (l : Fin 1024) : iblk m c 1 t (ix2 (0 : Fin 1) l) = m ((c : Thread nD τ).loc main_arg1) (ix1 l) :=
  (show _ = V m c main_v3 (((cfg0.win 1).blk t).view.emb (ix2 (0 : Fin 1) l)) from rfl).trans (by rw [emb1, V_v3])
theorem blk2 (c : Dev nD) (t : Fin cfg0.N) (k : Fin 1024) (q : Fin 256) : iblk m c 2 t (ix2 k q) = m ((c : Thread nD τ).loc main_arg2) (ix2 k (pos t q)) :=
  (show _ = V m c main_v0 (((cfg0.win 2).blk t).view.emb (ix2 k q)) from rfl).trans (by rw [emb2, V_v0])
theorem blk3 (c : Dev nD) (t : Fin cfg0.N) (k : Fin 1024) (q : Fin 256) : iblk m c 3 t (ix2 k q) = m ((c : Thread nD τ).loc main_arg3) (ix2 k (pos t q)) :=
  (show _ = V m c main_v1 (((cfg0.win 3).blk t).view.emb (ix2 k q)) from rfl).trans (by rw [emb3, V_v1])
theorem blk4 (c : Dev nD) (t : Fin cfg0.N) (q : Fin 256) (l : Fin 1024) : iblk m c 4 t (ix2 q l) = m ((c : Thread nD τ).loc main_arg4) (ix2 (pos t q) l) :=
  (show _ = V m c main_v2 (((cfg0.win 4).blk t).view.emb (ix2 q l)) from rfl).trans (by rw [emb4, V_v2])

/-! ## The two scratches, point by point -/

/-- The normed row `R` of the argument. -/
def hid (c : Dev nD) (R : Fin 256) : Fin 1024 → EReal :=
  normed (fun q => m ((c : Thread nD τ).loc main_arg0) (ix2 R q)) (fun q => m ((c : Thread nD τ).loc main_arg1) (ix1 q))

/-- What position `f` of the hidden dimension adds to entry `l` of row `R`. -/
def term (c : Dev nD) (R : Fin 256) (l : Fin 1024) (f : Fin 2816) : EReal :=
  act (hid m c R) (fun q => m ((c : Thread nD τ).loc main_arg2) (ix2 q f)) (fun q => m ((c : Thread nD τ).loc main_arg3) (ix2 q f))
    * m ((c : Thread nD τ).loc main_arg4) (ix2 f l)

/-- The step of the sum at a point whose hidden scratch holds the normed rows. -/
theorem step_apply (c : Dev nD) (t : Fin cfg0.N) (h : Vec Ideal S256x1024 .bf16) (a : Vec Ideal S256x1024 .f32)
    (r : Fin 256) (l : Fin 1024) (hh : ∀ k, h (ix2 r k) = hid m c r k) :
    Cert.FfnSampleIdeal.Gen.k0_pay3 h (iblk m c 2 t) (iblk m c 3 t) a (iblk m c 4 t) (ix2 r l)
      = a (ix2 r l) + chunkOf (term m c r l) t.val := by
  rw [pay3_apply]
  simp only [hh, blk2, blk3, blk4]
  rfl

/-- After a point that is not the last of its run, the first scratch holds the normed rows and the second the chunks so far. -/
theorem state (c : Dev nD) (n : ℕ) (hn : n < cfg0.N) (h1 : ¬n % 11 = 10) (r : Fin 256) (l : Fin 1024) :
    (outsAt0 m c n hn).2.1 (ix2 r l) = hid m c r l
      ∧ (outsAt0 m c n hn).2.2 (ix2 r l) = ∑ k ∈ Finset.range (n % 11 + 1), chunkOf (term m c r l) k := by
  refine chunks_run (fun _ r => hid m c r) (fun _ r => term m c r) (fun n hn r l => (outsAt0 m c n hn).2.1 (ix2 r l))
    (fun n hn r l => (outsAt0 m c n hn).2.2 (ix2 r l)) (fun n hn h0 r l => ?_) (fun n hn h0 h1 r hh l => ?_) n hn h1 r l
  · have hh : ∀ k, Cert.FfnSampleIdeal.Gen.k0_pay1 (iblk m c 0 ⟨n, hn⟩) (iblk m c 1 ⟨n, hn⟩) (ix2 r k) = hid m c r k := fun k => by
      rw [pay1_apply]
      simp only [blk0, blk1]
      rfl
    rw [outsAt0_A m c ⟨n, hn⟩ h0 (show ¬n % 11 = 10 by omega)]
    dsimp only
    rw [h_first, acc_first, step_apply m c ⟨n, hn⟩ _ _ r l hh, pay2_apply, zero_add]
    exact ⟨hh l, rfl⟩
  · have hh' : ∀ k, (outsAt0 m c (n + 1 - 1) (Nat.lt_of_succ_lt hn)).2.1 (ix2 r k) = hid m c r k := hh
    rw [outsAt0_B m c ⟨n + 1, hn⟩ h0 h1]
    dsimp only
    rw [acc_next, step_apply m c ⟨n + 1, hn⟩ _ _ r l hh']
    exact ⟨hh l, rfl⟩

/-- The reference's result, of the kernel's own argument arrays. -/
def G (c : Dev nD) : Vec Ideal S256x1024 .f32 :=
  Cert.FfnInnerSampleRefIdeal.Read.val_main_v18 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- An entry of the argument. -/
def xent (c : Dev nD) (R : Fin 256) (k : Fin 1024) : EReal := m ((c : Thread nD τ).loc main_arg0) (ix2 R k)

/-- The reference's result of the kernel's arguments, at an index. -/
theorem G_apply (c : Dev nD) (R : Fin 256) (l : Fin 1024) :
    G m c (ix2 R l) = xent m c R l + ∑ f, term m c R l f := by
  rw [G, ref_apply]
  rfl

/-- What the last point of a run writes back is its block of the reference's result. -/
theorem flushed_eq (c : Dev nD) (t : Fin cfg0.N) (hf : (cfg0.win 6).flush t = true) :
    (dats m 0 c).flushed 6 t = ((cfg0.win 6).blk t).view.read (Elt Ideal) (G m c) := by
  have h1 : t.val % 11 = 10 := (flush0_6 t).mp hf
  have h0 : ¬t.val % 11 = 0 := by omega
  rw [flushed6_C m c t h0 h1, out_last]
  funext j
  obtain ⟨r, l, rfl⟩ : ∃ (r : Fin 256) (l : Fin 1024), j = ix2 r l := ⟨j 0, j 1, eq_ix2 j⟩
  have p := state m c (t.val - 1) (Nat.lt_of_le_of_lt (Nat.sub_le _ _) t.isLt) (by omega) r
  have en : (t.val - 1) % 11 + 1 = 10 := by omega
  rw [en] at p
  show _ = G m c (((cfg0.win 6).blk t).view.emb (ix2 r l))
  rw [emb6, G_apply]
  refine (congrArg₂ (fun a b : EReal => a + b) (blk0 m c t r l) (step_apply m c t _ _ r l (fun k => (p k).1))).trans ?_
  rw [(p l).2, sum_chunks, Finset.sum_range_succ _ 10, ← chunkOf_mod _ t.val, h1, xent]

/-- Every index of the result is in the block of the last point. -/
theorem covered (i : S256x1024.Idx) : ∃ t : Fin cfg0.N, (cfg0.win 6).flush t = true ∧ i ∈ ((cfg0.win 6).blk t).view.set := by
  have hlt : 10 < cfg0.N := show 10 < 11 by omega
  have h := ((cfg0.win 6).blk ⟨10, hlt⟩).view.emb_mem_set i
  rw [emb6] at h
  exact ⟨⟨10, hlt⟩, (flush0_6 _).mpr rfl, h⟩

/-- The result array after the run is the reference's result. -/
theorem final (c : Dev nD) : (dats m 0 c).arrAt 6 cfg0.N = G m c :=
  (dats m 0 c).arrAt_eq_of_cover 6 (G m c) (fun t hf => flushed_eq m c t hf) covered

/-- The run leaves the reference's result in the result array, and the arguments as they were. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.FfnInnerSampleIdeal.RefValue

end
-- ==== Proof.lean ====
/- The proof of the certificate's claim, for ten calls of the layer, five of the prompt and five of the sample: the norm with the
   combined projection, the rotary embedding, the gated merge, and the feed-forward block without and with the final norm. Each
   kernel terminates with its arguments unchanged and every counter at zero, read bit for bit and read ideally; each ideal reading
   is the kernel's own text; and over the extended reals each kernel leaves the results its reference leaves (the modules
   Proof/…Value.lean, one for each call). -/
module

public import proofs.«01_k».proof.Defs
public import proofs.«01_k».proof.Proof.Gen.Ffn
public import proofs.«01_k».proof.Proof.Gen.Ffn.Frame
public import proofs.«01_k».proof.Proof.Gen.FfnIdeal.Frame
public import proofs.«01_k».proof.Proof.Gen.FfnRefIdeal.Run
public import proofs.«01_k».proof.Proof.FfnValue
public import proofs.«01_k».proof.Proof.Gen.NormProj
public import proofs.«01_k».proof.Proof.Gen.NormProj.Frame
public import proofs.«01_k».proof.Proof.Gen.NormProjIdeal.Frame
public import proofs.«01_k».proof.Proof.Gen.NormProjRefIdeal.Run
public import proofs.«01_k».proof.Proof.NormProjValue
public import proofs.«01_k».proof.Proof.Gen.Merge
public import proofs.«01_k».proof.Proof.Gen.Merge.Frame
public import proofs.«01_k».proof.Proof.Gen.MergeIdeal.Frame
public import proofs.«01_k».proof.Proof.Gen.MergeRefIdeal.Run
public import proofs.«01_k».proof.Proof.MergeValue
public import proofs.«01_k».proof.Proof.Gen.Rope
public import proofs.«01_k».proof.Proof.Gen.Rope.Frame
public import proofs.«01_k».proof.Proof.Gen.RopeIdeal.Frame
public import proofs.«01_k».proof.Proof.Gen.RopeIdeal.Value
public import proofs.«01_k».proof.Proof.Gen.RopeRefIdeal.Run
public import proofs.«01_k».proof.Proof.Gen.RopeRefIdeal.Read
public import proofs.«01_k».proof.Proof.RopeValue
public import proofs.«01_k».proof.Proof.Gen.FfnSample
public import proofs.«01_k».proof.Proof.Gen.FfnSample.Frame
public import proofs.«01_k».proof.Proof.Gen.FfnSampleIdeal.Frame
public import proofs.«01_k».proof.Proof.Gen.FfnSampleIdeal.Value
public import proofs.«01_k».proof.Proof.Gen.FfnSampleRefIdeal.Run
public import proofs.«01_k».proof.Proof.Gen.FfnSampleRefIdeal.Read
public import proofs.«01_k».proof.Proof.FfnSampleValue
public import proofs.«01_k».proof.Proof.Gen.RopeSample
public import proofs.«01_k».proof.Proof.Gen.RopeSample.Frame
public import proofs.«01_k».proof.Proof.Gen.RopeSampleIdeal.Frame
public import proofs.«01_k».proof.Proof.Gen.RopeSampleIdeal.Value
public import proofs.«01_k».proof.Proof.Gen.RopeSampleRefIdeal.Run
public import proofs.«01_k».proof.Proof.Gen.RopeSampleRefIdeal.Read
public import proofs.«01_k».proof.Proof.RopeSampleValue
public import proofs.«01_k».proof.Proof.Gen.NormProjSample
public import proofs.«01_k».proof.Proof.Gen.NormProjSample.Frame
public import proofs.«01_k».proof.Proof.Gen.NormProjSampleIdeal.Frame
public import proofs.«01_k».proof.Proof.Gen.NormProjSampleIdeal.Value
public import proofs.«01_k».proof.Proof.Gen.NormProjSampleRefIdeal.Run
public import proofs.«01_k».proof.Proof.Gen.NormProjSampleRefIdeal.Read
public import proofs.«01_k».proof.Proof.NormProjSampleValue
public import proofs.«01_k».proof.Proof.Gen.MergeSample
public import proofs.«01_k».proof.Proof.Gen.MergeSample.Frame
public import proofs.«01_k».proof.Proof.Gen.MergeSampleIdeal.Frame
public import proofs.«01_k».proof.Proof.Gen.MergeSampleIdeal.Value
public import proofs.«01_k».proof.Proof.Gen.MergeSampleRefIdeal.Run
public import proofs.«01_k».proof.Proof.Gen.MergeSampleRefIdeal.Read
public import proofs.«01_k».proof.Proof.MergeSampleValue
public import proofs.«01_k».proof.Proof.Gen.FfnInner
public import proofs.«01_k».proof.Proof.Gen.FfnInner.Frame
public import proofs.«01_k».proof.Proof.Gen.FfnInnerIdeal.Frame
public import proofs.«01_k».proof.Proof.Gen.FfnInnerIdeal.Value
public import proofs.«01_k».proof.Proof.Gen.FfnInnerRefIdeal.Run
public import proofs.«01_k».proof.Proof.Gen.FfnInnerRefIdeal.Read
public import proofs.«01_k».proof.Proof.FfnInnerValue
public import proofs.«01_k».proof.Proof.Gen.FfnInnerSample
public import proofs.«01_k».proof.Proof.Gen.FfnInnerSample.Frame
public import proofs.«01_k».proof.Proof.Gen.FfnInnerSampleIdeal.Frame
public import proofs.«01_k».proof.Proof.Gen.FfnInnerSampleIdeal.Value
public import proofs.«01_k».proof.Proof.Gen.FfnInnerSampleRefIdeal.Run
public import proofs.«01_k».proof.Proof.Gen.FfnInnerSampleRefIdeal.Read
public import proofs.«01_k».proof.Proof.FfnInnerSampleValue

@[expose] public section

noncomputable section

namespace Cert.Proof

open Idealize.ShloMosaic Idealize.SL.Sem

/-- The reference of the feed-forward block terminates with its arguments unchanged; it has no counters. -/
theorem frame_FfnRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- From equal arguments the feed-forward block and its reference leave equal results. -/
theorem algebraic_Ffn : Cert.algebraic_FfnIdeal_FfnRefIdeal := fun m ρ m' ρ' _ hag =>
  ⟨fun c => Cert.FfnIdeal.RefValue.G m c, Cert.FfnIdeal.RefValue.run m ρ,
    (θ_run Cert.FfnRefIdeal.defs _ _).mono
      (fun _ h c => ⟨(h c).1.trans ((Cert.FfnRefIdeal.Read.val_main_v31_eq (m := m') (c := c)).trans (by
        rw [(hag c).1, (hag c).2.1, (hag c).2.2.1, (hag c).2.2.2.1, (hag c).2.2.2.2.1, (hag c).2.2.2.2.2]
        rfl)), (h c).2⟩)
      (Cert.FfnRefIdeal.Value.run (F := Ideal) m' ρ')⟩

/-- The reference of the norm and projection terminates with its arguments unchanged; it has no counters. -/
theorem frame_NormProjRef : Cert.quiescent_NormProjRefIdeal := fun m ρ _ =>
  (θ_run Cert.NormProjRefIdeal.defs _ _).mono (fun r h => ⟨fun c => (h c).2, sem_eq_zero_of_no_sems (by decide) r.2⟩)
    (Cert.NormProjRefIdeal.Value.run (F := Ideal) m ρ)

/-- From equal arguments the norm and projection and its reference leave equal results. -/
theorem algebraic_NormProj : Cert.algebraic_NormProjIdeal_NormProjRefIdeal := fun m ρ m' ρ' _ hag =>
  ⟨fun c => Cert.NormProjIdeal.RefValue.G m c, Cert.NormProjIdeal.RefValue.run m ρ,
    (θ_run Cert.NormProjRefIdeal.defs _ _).mono
      (fun _ h c => ⟨(h c).1.trans ((Cert.NormProjRefIdeal.Read.val_main_v24_eq (m := m') (c := c)).trans (by
        rw [(hag c).1, (hag c).2.1, (hag c).2.2]
        rfl)), (h c).2⟩)
      (Cert.NormProjRefIdeal.Value.run (F := Ideal) m' ρ')⟩

/-- The reference of the gated merge terminates with its arguments unchanged; it has no counters. -/
theorem frame_MergeRef : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- From equal arguments the gated merge and its reference leave equal results. -/
theorem algebraic_Merge : Cert.algebraic_MergeIdeal_MergeRefIdeal := fun m ρ m' ρ' _ hag =>
  ⟨fun c => Cert.MergeIdeal.RefValue.G m c, Cert.MergeIdeal.RefValue.run m ρ,
    (θ_run Cert.MergeRefIdeal.defs _ _).mono
      (fun _ h c => ⟨(h c).1.trans ((Cert.MergeRefIdeal.Read.val_main_v22_eq ..).trans (by
        rw [(hag c).1, (hag c).2.1, (hag c).2.2.1, (hag c).2.2.2.1, (hag c).2.2.2.2.1, (hag c).2.2.2.2.2.1, (hag c).2.2.2.2.2.2]
        rfl)), (h c).2⟩)
      (Cert.MergeRefIdeal.Value.run (F := Ideal) m' ρ')⟩

/-- The reference of the rotary embedding terminates with its argument unchanged; it has no counters. -/
theorem frame_RopeRef : Cert.quiescent_RopeRefIdeal := fun m ρ _ =>
  (θ_run Cert.RopeRefIdeal.defs _ _).mono (fun r h => ⟨fun c => (h c).2.2.2.2, sem_eq_zero_of_no_sems (by decide) r.2⟩)
    (Cert.RopeRefIdeal.Value.run (F := Ideal) m ρ)

/-- From equal arguments the rotary embedding and its reference leave equal queries, keys, values and indexer keys. -/
theorem algebraic_Rope : Cert.algebraic_RopeIdeal_RopeRefIdeal := fun m ρ m' ρ' _ hag =>
  ⟨fun c => Cert.RopeIdeal.RefValue.G7 m c, fun c => Cert.RopeIdeal.RefValue.G8 m c, fun c => Cert.RopeIdeal.RefValue.G10 m c,
    fun c => Cert.RopeIdeal.RefValue.G11 m c, Cert.RopeIdeal.RefValue.run m ρ,
    (θ_run Cert.RopeRefIdeal.defs _ _).mono
      (fun _ h c => ⟨(h c).1.trans ((Cert.RopeRefIdeal.Read.val_main_v110_eq ..).trans (by rw [hag c]; rfl)),
        (h c).2.1.trans ((Cert.RopeRefIdeal.Read.val_main_v111_eq ..).trans (by rw [hag c]; rfl)),
        (h c).2.2.1.trans (by rw [hag c]; rfl),
        (h c).2.2.2.1.trans ((Cert.RopeRefIdeal.Read.val_main_v112_eq ..).trans (by rw [hag c]; rfl)), (h c).2.2.2.2⟩)
      (Cert.RopeRefIdeal.Value.run (F := Ideal) m' ρ')⟩

/-- The reference of the sample's feed-forward block terminates with its arguments unchanged; it has no counters. -/
theorem frame_FfnSampleRef : Cert.quiescent_FfnSampleRefIdeal := fun m ρ _ =>
  (θ_run Cert.FfnSampleRefIdeal.defs _ _).mono (fun r h => ⟨fun c => (h c).2, sem_eq_zero_of_no_sems (by decide) r.2⟩)
    (Cert.FfnSampleRefIdeal.Value.run (F := Ideal) m ρ)

/-- From equal arguments the sample's feed-forward block and its reference leave equal results. -/
theorem algebraic_FfnSample : Cert.algebraic_FfnSampleIdeal_FfnSampleRefIdeal := fun m ρ m' ρ' _ hag =>
  ⟨fun c => Cert.FfnSampleIdeal.RefValue.G m c, Cert.FfnSampleIdeal.RefValue.run m ρ,
    (θ_run Cert.FfnSampleRefIdeal.defs _ _).mono
      (fun _ h c => ⟨(h c).1.trans ((Cert.FfnSampleRefIdeal.Read.val_main_v31_eq (m := m') (c := c)).trans (by
        rw [(hag c).1, (hag c).2.1, (hag c).2.2.1, (hag c).2.2.2.1, (hag c).2.2.2.2.1, (hag c).2.2.2.2.2]
        rfl)), (h c).2⟩)
      (Cert.FfnSampleRefIdeal.Value.run (F := Ideal) m' ρ')⟩

/-- The reference of the sample's rotary embedding terminates with its argument unchanged; it has no counters. -/
theorem frame_RopeSampleRef : Cert.quiescent_RopeSampleRefIdeal := fun m ρ _ =>
  (θ_run Cert.RopeSampleRefIdeal.defs _ _).mono (fun r h => ⟨fun c => (h c).2.2.2.2, sem_eq_zero_of_no_sems (by decide) r.2⟩)
    (Cert.RopeSampleRefIdeal.Value.run (F := Ideal) m ρ)

/-- From equal arguments the sample's rotary embedding and its reference leave equal queries, keys, values and indexer keys. -/
theorem algebraic_RopeSample : Cert.algebraic_RopeSampleIdeal_RopeSampleRefIdeal := fun m ρ m' ρ' _ hag =>
  ⟨fun c => Cert.RopeSampleIdeal.RefValue.G7 m c, fun c => Cert.RopeSampleIdeal.RefValue.G8 m c, fun c => Cert.RopeSampleIdeal.RefValue.G10 m c,
    fun c => Cert.RopeSampleIdeal.RefValue.G11 m c, Cert.RopeSampleIdeal.RefValue.run m ρ,
    (θ_run Cert.RopeSampleRefIdeal.defs _ _).mono
      (fun _ h c => ⟨(h c).1.trans ((Cert.RopeSampleRefIdeal.Read.val_main_v112_eq ..).trans (by rw [hag c]; rfl)),
        (h c).2.1.trans ((Cert.RopeSampleRefIdeal.Read.val_main_v113_eq ..).trans (by rw [hag c]; rfl)),
        (h c).2.2.1.trans (by rw [hag c]; rfl),
        (h c).2.2.2.1.trans ((Cert.RopeSampleRefIdeal.Read.val_main_v114_eq ..).trans (by rw [hag c]; rfl)), (h c).2.2.2.2⟩)
      (Cert.RopeSampleRefIdeal.Value.run (F := Ideal) m' ρ')⟩

/-- The reference of the sample's norm and projection terminates with its arguments unchanged; it has no counters. -/
theorem frame_NormProjSampleRef : Cert.quiescent_NormProjSampleRefIdeal := fun m ρ _ =>
  (θ_run Cert.NormProjSampleRefIdeal.defs _ _).mono (fun r h => ⟨fun c => (h c).2, sem_eq_zero_of_no_sems (by decide) r.2⟩)
    (Cert.NormProjSampleRefIdeal.Value.run (F := Ideal) m ρ)

/-- From equal arguments the sample's norm and projection and its reference leave equal results. -/
theorem algebraic_NormProjSample : Cert.algebraic_NormProjSampleIdeal_NormProjSampleRefIdeal := fun m ρ m' ρ' _ hag =>
  ⟨fun c => Cert.NormProjSampleIdeal.RefValue.G m c, Cert.NormProjSampleIdeal.RefValue.run m ρ,
    (θ_run Cert.NormProjSampleRefIdeal.defs _ _).mono
      (fun _ h c => ⟨(h c).1.trans ((Cert.NormProjSampleRefIdeal.Read.val_main_v24_eq (m := m') (c := c)).trans (by
        rw [(hag c).1, (hag c).2.1, (hag c).2.2]
        rfl)), (h c).2⟩)
      (Cert.NormProjSampleRefIdeal.Value.run (F := Ideal) m' ρ')⟩

/-- The reference of the sample's gated merge terminates with its arguments unchanged; it has no counters. -/
theorem frame_MergeSampleRef : Cert.quiescent_MergeSampleRefIdeal := fun m ρ _ =>
  (θ_run Cert.MergeSampleRefIdeal.defs _ _).mono (fun r h => ⟨fun c => (h c).2, sem_eq_zero_of_no_sems (by decide) r.2⟩)
    (Cert.MergeSampleRefIdeal.Value.run (F := Ideal) m ρ)

/-- From equal arguments the sample's gated merge and its reference leave equal results. -/
theorem algebraic_MergeSample : Cert.algebraic_MergeSampleIdeal_MergeSampleRefIdeal := fun m ρ m' ρ' _ hag =>
  ⟨fun c => Cert.MergeSampleIdeal.RefValue.G m c, Cert.MergeSampleIdeal.RefValue.run m ρ,
    (θ_run Cert.MergeSampleRefIdeal.defs _ _).mono
      (fun _ h c => ⟨(h c).1.trans ((Cert.MergeSampleRefIdeal.Read.val_main_v22_eq ..).trans (by
        rw [(hag c).1, (hag c).2.1, (hag c).2.2.1, (hag c).2.2.2.1, (hag c).2.2.2.2.1, (hag c).2.2.2.2.2.1, (hag c).2.2.2.2.2.2]
        rfl)), (h c).2⟩)
      (Cert.MergeSampleRefIdeal.Value.run (F := Ideal) m' ρ')⟩

/-- The reference of the feed-forward block without the final norm terminates with its arguments unchanged; it has no counters. -/
theorem frame_FfnInnerRef : Cert.quiescent_FfnInnerRefIdeal := fun m ρ _ =>
  (θ_run Cert.FfnInnerRefIdeal.defs _ _).mono (fun r h => ⟨fun c => (h c).2, sem_eq_zero_of_no_sems (by decide) r.2⟩)
    (Cert.FfnInnerRefIdeal.Value.run (F := Ideal) m ρ)

/-- From equal arguments the feed-forward block without the final norm and its reference leave equal results. -/
theorem algebraic_FfnInner : Cert.algebraic_FfnInnerIdeal_FfnInnerRefIdeal := fun m ρ m' ρ' _ hag =>
  ⟨fun c => Cert.FfnInnerIdeal.RefValue.G m c, Cert.FfnInnerIdeal.RefValue.run m ρ,
    (θ_run Cert.FfnInnerRefIdeal.defs _ _).mono
      (fun _ h c => ⟨(h c).1.trans ((Cert.FfnInnerRefIdeal.Read.val_main_v18_eq ..).trans (by
        rw [(hag c).1, (hag c).2.1, (hag c).2.2.1, (hag c).2.2.2.1, (hag c).2.2.2.2.1]
        rfl)), (h c).2⟩)
      (Cert.FfnInnerRefIdeal.Value.run (F := Ideal) m' ρ')⟩

/-- The reference of the sample's feed-forward block without the final norm terminates with its arguments unchanged; it has no
counters. -/
theorem frame_FfnInnerSampleRef : Cert.quiescent_FfnInnerSampleRefIdeal := fun m ρ _ =>
  (θ_run Cert.FfnInnerSampleRefIdeal.defs _ _).mono (fun r h => ⟨fun c => (h c).2, sem_eq_zero_of_no_sems (by decide) r.2⟩)
    (Cert.FfnInnerSampleRefIdeal.Value.run (F := Ideal) m ρ)

/-- From equal arguments the sample's feed-forward block without the final norm and its reference leave equal results. -/
theorem algebraic_FfnInnerSample : Cert.algebraic_FfnInnerSampleIdeal_FfnInnerSampleRefIdeal := fun m ρ m' ρ' _ hag =>
  ⟨fun c => Cert.FfnInnerSampleIdeal.RefValue.G m c, Cert.FfnInnerSampleIdeal.RefValue.run m ρ,
    (θ_run Cert.FfnInnerSampleRefIdeal.defs _ _).mono
      (fun _ h c => ⟨(h c).1.trans ((Cert.FfnInnerSampleRefIdeal.Read.val_main_v18_eq ..).trans (by
        rw [(hag c).1, (hag c).2.1, (hag c).2.2.1, (hag c).2.2.2.1, (hag c).2.2.2.2.1]
        rfl)), (h c).2⟩)
      (Cert.FfnInnerSampleRefIdeal.Value.run (F := Ideal) m' ρ')⟩

/-- Every claim. -/
theorem claim : Cert.Claim :=
  ⟨Cert.Ffn.Gen.facts, Cert.FfnIdeal.Gen.facts, Cert.FfnRefIdeal.Gen.facts, Cert.NormProj.Gen.facts, Cert.NormProjIdeal.Gen.facts, Cert.NormProjRefIdeal.Gen.facts, Cert.Merge.Gen.facts, Cert.MergeIdeal.Gen.facts, Cert.MergeRefIdeal.Gen.facts, Cert.Rope.Gen.facts, Cert.RopeIdeal.Gen.facts, Cert.RopeRefIdeal.Gen.facts,
    Cert.FfnSample.Gen.facts, Cert.FfnSampleIdeal.Gen.facts, Cert.FfnSampleRefIdeal.Gen.facts, Cert.RopeSample.Gen.facts, Cert.RopeSampleIdeal.Gen.facts, Cert.RopeSampleRefIdeal.Gen.facts,
    Cert.NormProjSample.Gen.facts, Cert.NormProjSampleIdeal.Gen.facts, Cert.NormProjSampleRefIdeal.Gen.facts,
    Cert.MergeSample.Gen.facts, Cert.MergeSampleIdeal.Gen.facts, Cert.MergeSampleRefIdeal.Gen.facts,
    Cert.FfnInner.Gen.facts, Cert.FfnInnerIdeal.Gen.facts, Cert.FfnInnerRefIdeal.Gen.facts,
    Cert.FfnInnerSample.Gen.facts, Cert.FfnInnerSampleIdeal.Gen.facts, Cert.FfnInnerSampleRefIdeal.Gen.facts,
    fun m ρ _ => Cert.Ffn.Gen.frame m ρ, fun m ρ _ => Cert.FfnIdeal.Gen.frame m ρ, frame_FfnRef,
    fun m ρ _ => Cert.NormProj.Gen.frame m ρ, fun m ρ _ => Cert.NormProjIdeal.Gen.frame m ρ, frame_NormProjRef,
    fun m ρ _ => Cert.Merge.Gen.frame m ρ, fun m ρ _ => Cert.MergeIdeal.Gen.frame m ρ, frame_MergeRef,
    fun m ρ _ => Cert.Rope.Gen.frame m ρ, fun m ρ _ => Cert.RopeIdeal.Gen.frame m ρ, frame_RopeRef,
    fun m ρ _ => Cert.FfnSample.Gen.frame m ρ, fun m ρ _ => Cert.FfnSampleIdeal.Gen.frame m ρ, frame_FfnSampleRef,
    fun m ρ _ => Cert.RopeSample.Gen.frame m ρ, fun m ρ _ => Cert.RopeSampleIdeal.Gen.frame m ρ, frame_RopeSampleRef,
    fun m ρ _ => Cert.NormProjSample.Gen.frame m ρ, fun m ρ _ => Cert.NormProjSampleIdeal.Gen.frame m ρ, frame_NormProjSampleRef,
    fun m ρ _ => Cert.MergeSample.Gen.frame m ρ, fun m ρ _ => Cert.MergeSampleIdeal.Gen.frame m ρ, frame_MergeSampleRef,
    fun m ρ _ => Cert.FfnInner.Gen.frame m ρ, fun m ρ _ => Cert.FfnInnerIdeal.Gen.frame m ρ, frame_FfnInnerRef,
    fun m ρ _ => Cert.FfnInnerSample.Gen.frame m ρ, fun m ρ _ => Cert.FfnInnerSampleIdeal.Gen.frame m ρ, frame_FfnInnerSampleRef,
    trivial, algebraic_Ffn, trivial, algebraic_NormProj, trivial, algebraic_Merge, trivial, algebraic_Rope,
    trivial, algebraic_FfnSample, trivial, algebraic_RopeSample,
    trivial, algebraic_NormProjSample, trivial, algebraic_MergeSample, trivial, algebraic_FfnInner, trivial, algebraic_FfnInnerSample⟩

end Cert.Proof

end
